-- ==== Defs.lean ====
def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_scores_bias_above_mask [hPre_finite_scores_bias_above_mask : Cert.Pre_finite_scores_bias_above_mask.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_scores_bias_above_mask.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5)) (m ((c.tc : Thread Cert.MemAttnIdeal.nD Cert.MemAttnIdeal.τ).loc Cert.MemAttnIdeal.main_arg6)) (m ((c.tc : Thread Cert.MemAttnIdeal.nD Cert.MemAttnIdeal.τ).loc Cert.MemAttnIdeal.main_arg7))).1 = (fun _ => 1#1)
    ∧ (Cert.Pre_finite_scores_bias_above_mask.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5)) (m ((c.tc : Thread Cert.MemAttnIdeal.nD Cert.MemAttnIdeal.τ).loc Cert.MemAttnIdeal.main_arg6)) (m ((c.tc : Thread Cert.MemAttnIdeal.nD Cert.MemAttnIdeal.τ).loc Cert.MemAttnIdeal.main_arg7))).2.1 = (fun _ => 1#1)
    ∧ (Cert.Pre_finite_scores_bias_above_mask.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5)) (m ((c.tc : Thread Cert.MemAttnIdeal.nD Cert.MemAttnIdeal.τ).loc Cert.MemAttnIdeal.main_arg6)) (m ((c.tc : Thread Cert.MemAttnIdeal.nD Cert.MemAttnIdeal.τ).loc Cert.MemAttnIdeal.main_arg7))).2.2.1 = (fun _ => 1#1)
    ∧ (Cert.Pre_finite_scores_bias_above_mask.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5)) (m ((c.tc : Thread Cert.MemAttnIdeal.nD Cert.MemAttnIdeal.τ).loc Cert.MemAttnIdeal.main_arg6)) (m ((c.tc : Thread Cert.MemAttnIdeal.nD Cert.MemAttnIdeal.τ).loc Cert.MemAttnIdeal.main_arg7))).2.2.2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_scores_bias_above_mask [hPre_finite_scores_bias_above_mask : Cert.Pre_finite_scores_bias_above_mask.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_scores_bias_above_mask.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3)) (m ((c.tc : Thread Cert.MemAttnRefIdeal.nD Cert.MemAttnRefIdeal.τ).loc Cert.MemAttnRefIdeal.main_arg4)) (m ((c.tc : Thread Cert.MemAttnRefIdeal.nD Cert.MemAttnRefIdeal.τ).loc Cert.MemAttnRefIdeal.main_arg5)) (m ((c.tc : Thread Cert.MemAttnRefIdeal.nD Cert.MemAttnRefIdeal.τ).loc Cert.MemAttnRefIdeal.main_arg6)) (m ((c.tc : Thread Cert.MemAttnRefIdeal.nD Cert.MemAttnRefIdeal.τ).loc Cert.MemAttnRefIdeal.main_arg7))).1 = (fun _ => 1#1)
    ∧ (Cert.Pre_finite_scores_bias_above_mask.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3)) (m ((c.tc : Thread Cert.MemAttnRefIdeal.nD Cert.MemAttnRefIdeal.τ).loc Cert.MemAttnRefIdeal.main_arg4)) (m ((c.tc : Thread Cert.MemAttnRefIdeal.nD Cert.MemAttnRefIdeal.τ).loc Cert.MemAttnRefIdeal.main_arg5)) (m ((c.tc : Thread Cert.MemAttnRefIdeal.nD Cert.MemAttnRefIdeal.τ).loc Cert.MemAttnRefIdeal.main_arg6)) (m ((c.tc : Thread Cert.MemAttnRefIdeal.nD Cert.MemAttnRefIdeal.τ).loc Cert.MemAttnRefIdeal.main_arg7))).2.1 = (fun _ => 1#1)
    ∧ (Cert.Pre_finite_scores_bias_above_mask.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3)) (m ((c.tc : Thread Cert.MemAttnRefIdeal.nD Cert.MemAttnRefIdeal.τ).loc Cert.MemAttnRefIdeal.main_arg4)) (m ((c.tc : Thread Cert.MemAttnRefIdeal.nD Cert.MemAttnRefIdeal.τ).loc Cert.MemAttnRefIdeal.main_arg5)) (m ((c.tc : Thread Cert.MemAttnRefIdeal.nD Cert.MemAttnRefIdeal.τ).loc Cert.MemAttnRefIdeal.main_arg6)) (m ((c.tc : Thread Cert.MemAttnRefIdeal.nD Cert.MemAttnRefIdeal.τ).loc Cert.MemAttnRefIdeal.main_arg7))).2.2.1 = (fun _ => 1#1)
    ∧ (Cert.Pre_finite_scores_bias_above_mask.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3)) (m ((c.tc : Thread Cert.MemAttnRefIdeal.nD Cert.MemAttnRefIdeal.τ).loc Cert.MemAttnRefIdeal.main_arg4)) (m ((c.tc : Thread Cert.MemAttnRefIdeal.nD Cert.MemAttnRefIdeal.τ).loc Cert.MemAttnRefIdeal.main_arg5)) (m ((c.tc : Thread Cert.MemAttnRefIdeal.nD Cert.MemAttnRefIdeal.τ).loc Cert.MemAttnRefIdeal.main_arg6)) (m ((c.tc : Thread Cert.MemAttnRefIdeal.nD Cert.MemAttnRefIdeal.τ).loc Cert.MemAttnRefIdeal.main_arg7))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_counts_fill_rows [hPre_counts_fill_rows : Cert.Pre_counts_fill_rows.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_counts_fill_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).1 = (fun _ => 1#1)
    ∧ (Cert.Pre_counts_fill_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.1 = (fun _ => 1#1)
    ∧ (Cert.Pre_counts_fill_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_counts_fill_rows [hPre_counts_fill_rows : Cert.Pre_counts_fill_rows.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_counts_fill_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))).1 = (fun _ => 1#1)
    ∧ (Cert.Pre_counts_fill_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))).2.1 = (fun _ => 1#1)
    ∧ (Cert.Pre_counts_fill_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))).2.2 = (fun _ => 1#1)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5)
      ∧ r.2.mem ((c.tc : Thread Cert.MemAttn.nD Cert.MemAttn.τ).loc Cert.MemAttn.main_arg6) = m ((c.tc : Thread Cert.MemAttn.nD Cert.MemAttn.τ).loc Cert.MemAttn.main_arg6)
      ∧ r.2.mem ((c.tc : Thread Cert.MemAttn.nD Cert.MemAttn.τ).loc Cert.MemAttn.main_arg7) = m ((c.tc : Thread Cert.MemAttn.nD Cert.MemAttn.τ).loc Cert.MemAttn.main_arg7))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6)
      ∧ r.2.mem ((c.tc : Thread Cert.MemAttnIdeal.nD Cert.MemAttnIdeal.τ).loc Cert.MemAttnIdeal.main_arg7) = m ((c.tc : Thread Cert.MemAttnIdeal.nD Cert.MemAttnIdeal.τ).loc Cert.MemAttnIdeal.main_arg7))
      ∧ r.2.sem = fun _ => 0)

def quiescent_MemAttnIdeal_pre_finite_scores_bias_above_mask [hMemAttnIdeal : Cert.MemAttnIdeal.Facts] [hPre_finite_scores_bias_above_mask : Cert.Pre_finite_scores_bias_above_mask.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_scores_bias_above_mask m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6)
      ∧ r.2.mem ((c.tc : Thread Cert.MemAttnIdeal.nD Cert.MemAttnIdeal.τ).loc Cert.MemAttnIdeal.main_arg7) = m ((c.tc : Thread Cert.MemAttnIdeal.nD Cert.MemAttnIdeal.τ).loc Cert.MemAttnIdeal.main_arg7))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6)
      ∧ r.2.mem ((c.tc : Thread Cert.MemAttnRefIdeal.nD Cert.MemAttnRefIdeal.τ).loc Cert.MemAttnRefIdeal.main_arg7) = m ((c.tc : Thread Cert.MemAttnRefIdeal.nD Cert.MemAttnRefIdeal.τ).loc Cert.MemAttnRefIdeal.main_arg7))
      ∧ r.2.sem = fun _ => 0)

def quiescent_MemAttnRefIdeal_pre_finite_scores_bias_above_mask [hMemAttnRefIdeal : Cert.MemAttnRefIdeal.Facts] [hPre_finite_scores_bias_above_mask : Cert.Pre_finite_scores_bias_above_mask.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_scores_bias_above_mask m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6)
      ∧ r.2.mem ((c.tc : Thread Cert.MemAttnRefIdeal.nD Cert.MemAttnRefIdeal.τ).loc Cert.MemAttnRefIdeal.main_arg7) = m ((c.tc : Thread Cert.MemAttnRefIdeal.nD Cert.MemAttnRefIdeal.τ).loc Cert.MemAttnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsIdeal_pre_counts_fill_rows [hExpertsIdeal : Cert.ExpertsIdeal.Facts] [hPre_counts_fill_rows : Cert.Pre_counts_fill_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_counts_fill_rows m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_counts_fill_rows [hExpertsRefIdeal : Cert.ExpertsRefIdeal.Facts] [hPre_counts_fill_rows : Cert.Pre_counts_fill_rows.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_counts_fill_rows m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def preserves_MemAttn_MemAttnIdeal : Prop :=
  True

def algebraic_MemAttnIdeal_MemAttnRefIdeal_pre_finite_scores_bias_above_mask [hMemAttnIdeal : Cert.MemAttnIdeal.Facts] [hMemAttnRefIdeal : Cert.MemAttnRefIdeal.Facts] [hPre_finite_scores_bias_above_mask : Cert.Pre_finite_scores_bias_above_mask.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_scores_bias_above_mask m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)
      ∧ m' ((c.tc : Thread Cert.MemAttnRefIdeal.nD Cert.MemAttnRefIdeal.τ).loc Cert.MemAttnRefIdeal.main_arg5) = m ((c.tc : Thread Cert.MemAttnIdeal.nD Cert.MemAttnIdeal.τ).loc Cert.MemAttnIdeal.main_arg5)
      ∧ m' ((c.tc : Thread Cert.MemAttnRefIdeal.nD Cert.MemAttnRefIdeal.τ).loc Cert.MemAttnRefIdeal.main_arg6) = m ((c.tc : Thread Cert.MemAttnIdeal.nD Cert.MemAttnIdeal.τ).loc Cert.MemAttnIdeal.main_arg6)
      ∧ m' ((c.tc : Thread Cert.MemAttnRefIdeal.nD Cert.MemAttnRefIdeal.τ).loc Cert.MemAttnRefIdeal.main_arg7) = m ((c.tc : Thread Cert.MemAttnIdeal.nD Cert.MemAttnIdeal.τ).loc Cert.MemAttnIdeal.main_arg7)) →
    ∃ (v0 : (c : Dev Cert.MemAttnIdeal.nD) → Buf (Elt Ideal) ((c.tc : Thread Cert.MemAttnIdeal.nD Cert.MemAttnIdeal.τ).loc Cert.MemAttnIdeal.main_v9_0)) (v1 : (c : Dev Cert.MemAttnIdeal.nD) → Buf (Elt Ideal) ((c.tc : Thread Cert.MemAttnIdeal.nD Cert.MemAttnIdeal.τ).loc Cert.MemAttnIdeal.main_v9_1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v9_0) = v0 c
          ∧ r.2.mem ((c.tc : Thread Cert.MemAttnIdeal.nD Cert.MemAttnIdeal.τ).loc Cert.MemAttnIdeal.main_v9_1) = v1 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
          ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6)
          ∧ r.2.mem ((c.tc : Thread Cert.MemAttnIdeal.nD Cert.MemAttnIdeal.τ).loc Cert.MemAttnIdeal.main_arg7) = m ((c.tc : Thread Cert.MemAttnIdeal.nD Cert.MemAttnIdeal.τ).loc Cert.MemAttnIdeal.main_arg7))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v52) = v0 c
          ∧ r.2.mem ((c.tc : Thread Cert.MemAttnRefIdeal.nD Cert.MemAttnRefIdeal.τ).loc Cert.MemAttnRefIdeal.main_v84) = v1 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4)
          ∧ r.2.mem ((c.tc : Thread Cert.MemAttnRefIdeal.nD Cert.MemAttnRefIdeal.τ).loc Cert.MemAttnRefIdeal.main_arg5) = m' ((c.tc : Thread Cert.MemAttnRefIdeal.nD Cert.MemAttnRefIdeal.τ).loc Cert.MemAttnRefIdeal.main_arg5)
          ∧ r.2.mem ((c.tc : Thread Cert.MemAttnRefIdeal.nD Cert.MemAttnRefIdeal.τ).loc Cert.MemAttnRefIdeal.main_arg6) = m' ((c.tc : Thread Cert.MemAttnRefIdeal.nD Cert.MemAttnRefIdeal.τ).loc Cert.MemAttnRefIdeal.main_arg6)
          ∧ r.2.mem ((c.tc : Thread Cert.MemAttnRefIdeal.nD Cert.MemAttnRefIdeal.τ).loc Cert.MemAttnRefIdeal.main_arg7) = m' ((c.tc : Thread Cert.MemAttnRefIdeal.nD Cert.MemAttnRefIdeal.τ).loc Cert.MemAttnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_v4_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_v8) = v1 c
          ∧ r.2.mem ((c.tc : Thread Cert.InProjRefIdeal.nD Cert.InProjRefIdeal.τ).loc Cert.InProjRefIdeal.main_v9) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v8)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v29) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v2)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v2) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v2) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_Experts_ExpertsIdeal : Prop :=
  True

def algebraic_ExpertsIdeal_ExpertsRefIdeal_pre_counts_fill_rows [hExpertsIdeal : Cert.ExpertsIdeal.Facts] [hExpertsRefIdeal : Cert.ExpertsRefIdeal.Facts] [hPre_counts_fill_rows : Cert.Pre_counts_fill_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_counts_fill_rows m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v65)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v65) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v24) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def Claim : Prop :=
  ∃ (hMemAttn : Cert.MemAttn.Facts) (hMemAttnIdeal : Cert.MemAttnIdeal.Facts) (hMemAttnRefIdeal : Cert.MemAttnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hKvProj : Cert.KvProj.Facts) (hKvProjIdeal : Cert.KvProjIdeal.Facts) (hKvProjRefIdeal : Cert.KvProjRefIdeal.Facts) (hExperts : Cert.Experts.Facts) (hExpertsIdeal : Cert.ExpertsIdeal.Facts) (hExpertsRefIdeal : Cert.ExpertsRefIdeal.Facts) (hPre_finite_scores_bias_above_mask : Cert.Pre_finite_scores_bias_above_mask.Facts) (hPre_counts_fill_rows : Cert.Pre_counts_fill_rows.Facts),
    quiescent_MemAttn (hMemAttn := hMemAttn)
    ∧ quiescent_MemAttnIdeal (hMemAttnIdeal := hMemAttnIdeal)
    ∧ quiescent_MemAttnIdeal_pre_finite_scores_bias_above_mask (hMemAttnIdeal := hMemAttnIdeal) (hPre_finite_scores_bias_above_mask := hPre_finite_scores_bias_above_mask)
    ∧ quiescent_MemAttnRefIdeal (hMemAttnRefIdeal := hMemAttnRefIdeal)
    ∧ quiescent_MemAttnRefIdeal_pre_finite_scores_bias_above_mask (hMemAttnRefIdeal := hMemAttnRefIdeal) (hPre_finite_scores_bias_above_mask := hPre_finite_scores_bias_above_mask)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_Experts (hExperts := hExperts)
    ∧ quiescent_ExpertsIdeal (hExpertsIdeal := hExpertsIdeal)
    ∧ quiescent_ExpertsIdeal_pre_counts_fill_rows (hExpertsIdeal := hExpertsIdeal) (hPre_counts_fill_rows := hPre_counts_fill_rows)
    ∧ quiescent_ExpertsRefIdeal (hExpertsRefIdeal := hExpertsRefIdeal)
    ∧ quiescent_ExpertsRefIdeal_pre_counts_fill_rows (hExpertsRefIdeal := hExpertsRefIdeal) (hPre_counts_fill_rows := hPre_counts_fill_rows)
    ∧ preserves_MemAttn_MemAttnIdeal
    ∧ algebraic_MemAttnIdeal_MemAttnRefIdeal_pre_finite_scores_bias_above_mask (hMemAttnIdeal := hMemAttnIdeal) (hMemAttnRefIdeal := hMemAttnRefIdeal) (hPre_finite_scores_bias_above_mask := hPre_finite_scores_bias_above_mask)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_KvProj_KvProjIdeal
    ∧ algebraic_KvProjIdeal_KvProjRefIdeal (hKvProjIdeal := hKvProjIdeal) (hKvProjRefIdeal := hKvProjRefIdeal)
    ∧ preserves_Experts_ExpertsIdeal
    ∧ algebraic_ExpertsIdeal_ExpertsRefIdeal_pre_counts_fill_rows (hExpertsIdeal := hExpertsIdeal) (hExpertsRefIdeal := hExpertsRefIdeal) (hPre_counts_fill_rows := hPre_counts_fill_rows)
-- ==== Pre_counts_fill_rows.lean ====
abbrev S32768x1024 : Shape := ⟨2, ![32768, 1024]⟩
abbrev S32 : Shape := ⟨1, ![32]⟩
abbrev S32x1024x512 : Shape := ⟨3, ![32, 1024, 512]⟩
abbrev S32x512x1024 : Shape := ⟨3, ![32, 512, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S32768x1024 .f32) (main_arg1 : IVec S32 32) (main_arg2 : FVec F S32x1024x512 .f32) (main_arg3 : FVec F S32x1024x512 .f32) (main_arg4 : FVec F S32x512x1024 .f32) : IVec S32 1 × IVec S32 1 × IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 32768#32
  let main_v2 : IVec S32 32 := broadcastInDim S32 ![] bcast_S_S32 main_c_0
  let main_v3 : IVec S32 1 := cmpi .sle main_arg1 main_v2
  let main_c_1 : IVec S_ 32 := constantI S_ 32 0#32
  let main_v4 : IVec S_ 32 := (fun x v => Host.reduce IntOp.addi x v reducesTo_S32_S_d0 h_S_) main_arg1 main_c_1
  let main_c_2 : IVec S_ 32 := constantI S_ 32 32768#32
  let main_v5 : IVec S_ 1 := cmpi .eq main_v4 main_c_2
  (main_v1, main_v3, main_v5)
-- ==== Pre_finite_scores_bias_above_mask.lean ====
abbrev S8x2048x1024 : Shape := ⟨3, ![8, 2048, 1024]⟩
abbrev S8x256x2048 : Shape := ⟨3, ![8, 256, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S8x256x1024 : Shape := ⟨3, ![8, 256, 1024]⟩
abbrev S_ : Shape := ⟨0, ![]⟩

class Facts : Prop where
  slices_S8x256x2048_S8x256x1024_0_0_0 : S8x256x2048.Slices ![0, 0, 0] S8x256x1024
  bitsLt_bf16_f32 : FTy.bits .bf16 < FTy.bits .f32
  bcast_S_S8x2048x1024 : S_.BroadcastsInDim S8x2048x1024 (![] : Fin 0 → Fin S8x2048x1024.rank)
  bcast_S_S1024x1024 : S_.BroadcastsInDim S1024x1024 (![] : Fin 0 → Fin S1024x1024.rank)
  bcast_S_S8x256x1024 : S_.BroadcastsInDim S8x256x1024 (![] : Fin 0 → Fin S8x256x1024.rank)
  bcast_S_S32 : S_.BroadcastsInDim S32 (![] : Fin 0 → Fin S32.rank)

variable [Facts]

def fn {F : FTy → Type} [FloatOps F] (main_arg0 : FVec F S8x2048x1024 .f32) (main_arg1 : FVec F S8x256x2048 .bf16) (main_arg2 : FVec F S1024x1024 .f32) (main_arg3 : FVec F S1024x1024 .f32) (main_arg4 : FVec F S1024 .f32) (main_arg5 : FVec F S1024 .f32) (main_arg6 : FVec F S1024x32 .f32) (main_arg7 : FVec F S32 .f32) : IVec S8x2048x1024 1 × IVec S1024x1024 1 × IVec S8x256x1024 1 × IVec S32 1 :=
  let main_v0 : FVec F S8x256x1024 .bf16 := (extractStridedSlice S8x256x1024 ![0, 0, 0] · slices_S8x256x2048_S8x256x1024_0_0_0) main_arg1
  let main_v1 : FVec F S8x256x1024 .f32 := (extf .f32 · bitsLt_bf16_f32) main_v0
  let main_v2 : FVec F S8x2048x1024 .f32 := Host.absf main_arg0
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_v5 : FVec F S1024x1024 .f32 := Host.absf main_arg2
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S8x256x1024 .f32 := Host.absf main_v1
  let main_cst_1 : FVec F S_ .f32 := constant S_ .f32 0x7F800000#32
  let main_v9 : FVec F S8x256x1024 .f32 := broadcastInDim S8x256x1024 ![] bcast_S_S8x256x1024 main_cst_1
  let main_v10 : IVec S8x256x1024 1 := cmpf .olt main_v8 main_v9
  let main_cst_2 : FVec F S_ .f32 := constant S_ .f32 0xF149F2CA#32
  let main_v11 : FVec F S32 .f32 := broadcastInDim S32 ![] bcast_S_S32 main_cst_2
  let main_v12 : IVec S32 1 := cmpf .ogt main_arg7 main_v11
  (main_v4, main_v7, main_v10, main_v12)
-- ==== MemAttn.lean ====
abbrev S8x2048x1024 : Shape := ⟨3, ![8, 2048, 1024]⟩
abbrev S8x256x2048 : Shape := ⟨3, ![8, 256, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1x32 : Shape := ⟨2, ![1, 32]⟩
abbrev S8x128 : Shape := ⟨2, ![8, 128]⟩
abbrev S1x1024 : Shape := ⟨2, ![1, 1024]⟩
abbrev S6x1024 : Shape := ⟨2, ![6, 1024]⟩
abbrev S8x1024 : Shape := ⟨2, ![8, 1024]⟩
abbrev S8x2048x128 : Shape := ⟨3, ![8, 2048, 128]⟩
abbrev S1x512x1024 : Shape := ⟨3, ![1, 512, 1024]⟩
abbrev S1x256x2048 : Shape := ⟨3, ![1, 256, 2048]⟩
abbrev S1x512x128 : Shape := ⟨3, ![1, 512, 128]⟩
abbrev S512x1024 : Shape := ⟨2, ![512, 1024]⟩
abbrev S1x256x256 : Shape := ⟨3, ![1, 256, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 24
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x256x2048, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1x32, .f32⟩
  | .hbm, ⟨12, _⟩ => ⟨S_, .i32⟩
  | .hbm, ⟨13, _⟩ => ⟨S_, .f32⟩
  | .hbm, ⟨14, _⟩ => ⟨S8x128, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S6x1024, .f32⟩
  | .hbm, ⟨19, _⟩ => ⟨S8x1024, .f32⟩
  | .hbm, ⟨20, _⟩ => ⟨S1024x1024, .bf16⟩
  | .hbm, ⟨21, _⟩ => ⟨S1024x1024, .bf16⟩
  | .hbm, ⟨22, _⟩ => ⟨S8x2048x1024, .f32⟩
  | .hbm, ⟨23, _⟩ => ⟨S8x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x256x2048, .bf16⟩
  | .local _ .vmem, ⟨3, _⟩ => ⟨S1x256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x1024, .f32⟩
  | .local _ .vmem, ⟨7, _⟩ => ⟨S1024x128, .f32⟩
  | .local _ .vmem, ⟨8, _⟩ => ⟨S8x128, .f32⟩
  | .local _ .vmem, ⟨9, _⟩ => ⟨S1x512x1024, .f32⟩
  | .local _ .vmem, ⟨10, _⟩ => ⟨S1x512x1024, .f32⟩
  | .local _ .vmem, ⟨11, _⟩ => ⟨S1x512x128, .f32⟩
  | .local _ .vmem, ⟨12, _⟩ => ⟨S1x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MemAttnRefIdeal.lean ====
abbrev S8x2048x1024 : Shape := ⟨3, ![8, 2048, 1024]⟩
abbrev S8x256x2048 : Shape := ⟨3, ![8, 256, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S8x2048x4x256 : Shape := ⟨4, ![8, 2048, 4, 256]⟩
abbrev S8x256x2x4x256 : Shape := ⟨5, ![8, 256, 2, 4, 256]⟩
abbrev S8x256x1x4x256 : Shape := ⟨5, ![8, 256, 1, 4, 256]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩
abbrev S16384x32 : Shape := ⟨2, ![16384, 32]⟩
abbrev S1x32 : Shape := ⟨2, ![1, 32]⟩
abbrev S16384x8x4 : Shape := ⟨3, ![16384, 8, 4]⟩
abbrev S16384x8x2 : Shape := ⟨3, ![16384, 8, 2]⟩
abbrev S16384x8 : Shape := ⟨2, ![16384, 8]⟩
abbrev S16384x1 : Shape := ⟨2, ![16384, 1]⟩
abbrev S16384 : Shape := ⟨1, ![16384]⟩
abbrev S8 : Shape := ⟨1, ![8]⟩
abbrev S8x1 : Shape := ⟨2, ![8, 1]⟩
abbrev S8x4 : Shape := ⟨2, ![8, 4]⟩
abbrev S16384x2 : Shape := ⟨2, ![16384, 2]⟩
abbrev S16384x2x1 : Shape := ⟨3, ![16384, 2, 1]⟩
abbrev S16384x124 : Shape := ⟨2, ![16384, 124]⟩
abbrev S16384x128 : Shape := ⟨2, ![16384, 128]⟩
abbrev S8x2048x128 : Shape := ⟨3, ![8, 2048, 128]⟩

abbrev nBuf : Space → Nat
  | .hbm => 125
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x2048, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S8x2048x1024, .f32⟩
  | .hbm, ⟨9, _⟩ => ⟨S8x2048x4x256, .f32⟩
  | .hbm, ⟨10, _⟩ => ⟨S8x256x2048, .f32⟩
  | .hbm, ⟨11, _⟩ => ⟨S8x256x2x4x256, .f32⟩
  | .hbm, ⟨12, _⟩ => ⟨S8x256x1x4x256, .f32⟩
  | .hbm, ⟨13, _⟩ => ⟨S8x256x4x256, .f32⟩
  | .hbm, ⟨14, _⟩ => ⟨S8x4x2048x256, .f32⟩
  | .hbm, ⟨15, _⟩ => ⟨S_, .f32⟩
  | .hbm, ⟨16, _⟩ => ⟨S8x4x2048x256, .f32⟩
  | .hbm, ⟨17, _⟩ => ⟨S8x4x2048x256, .f32⟩
  | .hbm, ⟨18, _⟩ => ⟨S_, .f32⟩
  | .hbm, ⟨19, _⟩ => ⟨S8x4x2048, .f32⟩
  | .hbm, ⟨20, _⟩ => ⟨S_, .f32⟩
  | .hbm, ⟨21, _⟩ => ⟨S8x4x2048, .f32⟩
  | .hbm, ⟨22, _⟩ => ⟨S8x4x2048, .f32⟩
  | .hbm, ⟨23, _⟩ => ⟨S8x4x2048x1, .f32⟩
  | .hbm, ⟨24, _⟩ => ⟨S8x4x2048x256, .f32⟩
  | .hbm, ⟨25, _⟩ => ⟨S8x4x2048x256, .f32⟩
  | .hbm, ⟨26, _⟩ => ⟨S8x4x2048x256, .f32⟩
  | .hbm, ⟨27, _⟩ => ⟨S_, .f32⟩
  | .hbm, ⟨28, _⟩ => ⟨S8x4x2048, .f32⟩
  | .hbm, ⟨29, _⟩ => ⟨S8x4x2048x1, .f32⟩
  | .hbm, ⟨30, _⟩ => ⟨S8x4x2048x256, .f32⟩
  | .hbm, ⟨31, _⟩ => ⟨S8x4x2048x256, .f32⟩
  | .hbm, ⟨32, _⟩ => ⟨S8x256x1x4x256, .f32⟩
  | .hbm, ⟨33, _⟩ => ⟨S8x256x4x256, .f32⟩
  | .hbm, ⟨34, _⟩ => ⟨S8x4x256x2048, .f32⟩
  | .hbm, ⟨35, _⟩ => ⟨S8x2048x4x256, .f32⟩
  | .hbm, ⟨36, _⟩ => ⟨S8x2048x1024, .f32⟩
  | .hbm, ⟨37, _⟩ => ⟨S_, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S1x1x1024, .f32⟩
  | .hbm, ⟨69, _⟩ => ⟨S8x2048x1024, .f32⟩
  | .hbm, ⟨70, _⟩ => ⟨S8x2048x1024, .f32⟩
  | .hbm, ⟨71, _⟩ => ⟨S16384x1024, .f32⟩
  | .hbm, ⟨72, _⟩ => ⟨S16384x32, .f32⟩
  | .hbm, ⟨73, _⟩ => ⟨S16384x32, .f32⟩
  | .hbm, ⟨74, _⟩ => ⟨S16384x32, .f32⟩
  | .hbm, ⟨75, _⟩ => ⟨S_, .f32⟩
  | .hbm, ⟨76, _⟩ => ⟨S16384x32, .f32⟩
  | .hbm, ⟨77, _⟩ => ⟨S16384x32, .f32⟩
  | .hbm, ⟨78, _⟩ => ⟨S_, .f32⟩
  | .hbm, ⟨79, _⟩ => ⟨S16384x32, .f32⟩
  | .hbm, ⟨80, _⟩ => ⟨S16384x32, .f32⟩
  | .hbm, ⟨81, _⟩ => ⟨S1x32, .f32⟩
  | .hbm, ⟨82, _⟩ => ⟨S16384x32, .f32⟩
  | .hbm, ⟨83, _⟩ => ⟨S16384x32, .f32⟩
  | .hbm, ⟨84, _⟩ => ⟨S16384x8x4, .f32⟩
  | .hbm, ⟨85, _⟩ => ⟨S16384x8x2, .f32⟩
  | .hbm, ⟨86, _⟩ => ⟨S16384x8x2, .i32⟩
  | .hbm, ⟨87, _⟩ => ⟨S_, .f32⟩
  | .hbm, ⟨88, _⟩ => ⟨S16384x8, .f32⟩
  | .hbm, ⟨89, _⟩ => ⟨S16384x1, .f32⟩
  | .hbm, ⟨90, _⟩ => ⟨S16384x1, .i32⟩
  | .hbm, ⟨91, _⟩ => ⟨S16384, .i32⟩
  | .hbm, ⟨92, _⟩ => ⟨S8, .i32⟩
  | .hbm, ⟨93, _⟩ => ⟨S8x1, .i32⟩
  | .hbm, ⟨94, _⟩ => ⟨S8x4, .i32⟩
  | .hbm, ⟨95, _⟩ => ⟨S1x32, .i32⟩
  | .hbm, ⟨96, _⟩ => ⟨S16384x1, .i32⟩
  | .hbm, ⟨97, _⟩ => ⟨S16384x32, .i32⟩
  | .hbm, ⟨98, _⟩ => ⟨S16384x32, .i32⟩
  | .hbm, ⟨99, _⟩ => ⟨S16384x32, .i1⟩
  | .hbm, ⟨100, _⟩ => ⟨S_, .f32⟩
  | .hbm, ⟨101, _⟩ => ⟨S_, .f32⟩
  | .hbm, ⟨102, _⟩ => ⟨S16384x32, .f32⟩
  | .hbm, ⟨103, _⟩ => ⟨S16384x32, .f32⟩
  | .hbm, ⟨104, _⟩ => ⟨S16384x2, .f32⟩
  | .hbm, ⟨105, _⟩ => ⟨S16384x2, .i32⟩
  | .hbm, ⟨106, _⟩ => ⟨S_, .i32⟩
  | .hbm, ⟨107, _⟩ => ⟨S16384x2, .i32⟩
  | .hbm, ⟨108, _⟩ => ⟨S16384x2, .i1⟩
  | .hbm, ⟨109, _⟩ => ⟨S_, .i32⟩
  | .hbm, ⟨110, _⟩ => ⟨S16384x2, .i32⟩
  | .hbm, ⟨111, _⟩ => ⟨S16384x2, .i32⟩
  | .hbm, ⟨112, _⟩ => ⟨S16384x2, .i32⟩
  | .hbm, ⟨113, _⟩ => ⟨S16384x2x1, .i32⟩
  | .hbm, ⟨114, _⟩ => ⟨S16384x2, .f32⟩
  | .hbm, ⟨115, _⟩ => ⟨S_, .f32⟩
  | .hbm, ⟨116, _⟩ => ⟨S16384, .f32⟩
  | .hbm, ⟨117, _⟩ => ⟨S16384x1, .f32⟩
  | .hbm, ⟨118, _⟩ => ⟨S16384x2, .f32⟩
  | .hbm, ⟨119, _⟩ => ⟨S16384x2, .f32⟩
  | .hbm, ⟨120, _⟩ => ⟨S16384x2, .f32⟩
  | .hbm, ⟨121, _⟩ => ⟨S_, .f32⟩
  | .hbm, ⟨122, _⟩ => ⟨S16384x124, .f32⟩
  | .hbm, ⟨123, _⟩ => ⟨S16384x128, .f32⟩
  | .hbm, ⟨124, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_values : Ref sig .tc := ⟨.hbm, 85, rfl⟩
abbrev main_indices : Ref sig .tc := ⟨.hbm, 86, rfl⟩
abbrev main_cst_11 : Ref sig .tc := ⟨.hbm, 87, rfl⟩
abbrev main_v65 : Ref sig .tc := ⟨.hbm, 88, rfl⟩
abbrev main_values_12 : Ref sig .tc := ⟨.hbm, 89, rfl⟩
abbrev main_indices_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_call0_v0 : Ref sig .tc := ⟨.hbm, 101, rfl⟩
abbrev main_call0_v1 : Ref sig .tc := ⟨.hbm, 102, rfl⟩
abbrev main_v75 : Ref sig .tc := ⟨.hbm, 103, rfl⟩
abbrev main_values_15 : Ref sig .tc := ⟨.hbm, 104, rfl⟩
abbrev main_indices_16 : Ref sig .tc := ⟨.hbm, 105, rfl⟩
abbrev main_call1_c : Ref sig .tc := ⟨.hbm, 106, rfl⟩
abbrev main_call1_v0 : Ref sig .tc := ⟨.hbm, 107, rfl⟩
abbrev main_call1_v1 : Ref sig .tc := ⟨.hbm, 108, rfl⟩
abbrev main_call1_c_0 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_v76 : Ref sig .tc := ⟨.hbm, 114, rfl⟩
abbrev main_cst_17 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩

abbrev nD : Nat := 1
abbrev τ : Topo := Topo.v7x

variable {F : FTy → Type} [FloatOps F]
-- ==== InProj.lean ====
abbrev S8x2048x1024 : Shape := ⟨3, ![8, 2048, 1024]⟩
abbrev S1024x3328 : Shape := ⟨2, ![1024, 3328]⟩
abbrev S1024x32 : Shape := ⟨2, ![1024, 32]⟩
abbrev S_ : Shape := ⟨0, ![]⟩
abbrev S1024x96 : Shape := ⟨2, ![1024, 96]⟩
abbrev S1024x3456 : Shape := ⟨2, ![1024, 3456]⟩
abbrev S16384x1024 : Shape := ⟨2, ![16384, 1024]⟩
abbrev S16384x1536 : Shape := ⟨2, ![16384, 1536]⟩
abbrev S16384x384 : Shape := ⟨2, ![16384, 384]⟩
abbrev S256x1024 : Shape := ⟨2, ![256, 1024]⟩
abbrev S256x1536 : Shape := ⟨2, ![256, 1536]⟩
abbrev S256x384 : Shape := ⟨2, ![256, 384]⟩
abbrev S1024x1536 : Shape := ⟨2, ![1024, 1536]⟩
abbrev S1024x384 : Shape := ⟨2, ![1024, 384]⟩

abbrev nBuf : Space → Nat
  | .hbm => 11
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024x3328, .f32⟩
  | .hbm, ⟨2, _⟩ => ⟨S1024x32, .f32⟩
  | .hbm, ⟨3, _⟩ => ⟨S_, .f32⟩
  | .hbm, ⟨4, _⟩ => ⟨S1024x96, .f32⟩
  | .hbm, ⟨5, _⟩ => ⟨S1024x3456, .f32⟩
  | .hbm, ⟨6, _⟩ => ⟨S1024x3456, .bf16⟩
  | .hbm, ⟨7, _⟩ => ⟨S16384x1024, .f32⟩
  | .hbm, ⟨8, _⟩ => ⟨S16384x1536, .f32⟩
  | .hbm, ⟨9, _⟩ => ⟨S16384x1536, .f32⟩
  | .hbm, ⟨10, _⟩ => ⟨S16384x384, .f32⟩
  | .local _ .vmem, ⟨0, _⟩ => ⟨S256x1024, .f32⟩
  | .local _ .vmem, ⟨1, _⟩ => ⟨S256x1024, .f32⟩
  | .local _ .vmem, ⟨2, _⟩ => ⟨S1024x3456, .bf16⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x384, .f32⟩
  | .local _ .vmem, ⟨8, _⟩ => ⟨S256x384, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S8x2048x1024 : Shape := ⟨3, ![8, 2048, 1024]⟩
abbrev S1024x3328 : Shape := ⟨2, ![1024, 3328]⟩
abbrev S1024x32 : Shape := ⟨2, ![1024, 32]⟩
abbrev S1024x3360 : Shape := ⟨2, ![1024, 3360]⟩
abbrev S8x2048x3360 : Shape := ⟨3, ![8, 2048, 3360]⟩
abbrev S8x2048x1536 : Shape := ⟨3, ![8, 2048, 1536]⟩
abbrev S8x2048x288 : Shape := ⟨3, ![8, 2048, 288]⟩
abbrev S_ : Shape := ⟨0, ![]⟩
abbrev S8x2048x96 : Shape := ⟨3, ![8, 2048, 96]⟩
abbrev S8x2048x384 : Shape := ⟨3, ![8, 2048, 384]⟩
abbrev S16384x1536 : Shape := ⟨2, ![16384, 1536]⟩
abbrev S16384x384 : Shape := ⟨2, ![16384, 384]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x3328, .f32⟩
  | .hbm, ⟨2, _⟩ => ⟨S1024x32, .f32⟩
  | .hbm, ⟨3, _⟩ => ⟨S1024x3360, .f32⟩
  | .hbm, ⟨4, _⟩ => ⟨S8x2048x3360, .f32⟩
  | .hbm, ⟨5, _⟩ => ⟨S8x2048x1536, .f32⟩
  | .hbm, ⟨6, _⟩ => ⟨S8x2048x1536, .f32⟩
  | .hbm, ⟨7, _⟩ => ⟨S8x2048x288, .f32⟩
  | .hbm, ⟨8, _⟩ => ⟨S_, .f32⟩
  | .hbm, ⟨9, _⟩ => ⟨S8x2048x96, .f32⟩
  | .hbm, ⟨10, _⟩ => ⟨S8x2048x384, .f32⟩
  | .hbm, ⟨11, _⟩ => ⟨S16384x1536, .f32⟩
  | .hbm, ⟨12, _⟩ => ⟨S16384x1536, .f32⟩
  | .hbm, ⟨13, _⟩ => ⟨S16384x384, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== OutProj.lean ====
abbrev S8x2048x1024 : Shape := ⟨3, ![8, 2048, 1024]⟩
abbrev S8x2048x512 : Shape := ⟨3, ![8, 2048, 512]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S6x1024 : Shape := ⟨2, ![6, 1024]⟩
abbrev S8x1024 : Shape := ⟨2, ![8, 1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S6x1024, .f32⟩
  | .hbm, ⟨10, _⟩ => ⟨S8x1024, .f32⟩
  | .hbm, ⟨11, _⟩ => ⟨S16384x1024, .f32⟩
  | .hbm, ⟨12, _⟩ => ⟨S16384x512, .f32⟩
  | .hbm, ⟨13, _⟩ => ⟨S16384x512, .f32⟩
  | .hbm, ⟨14, _⟩ => ⟨S1024x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8x2048x1024 : Shape := ⟨3, ![8, 2048, 1024]⟩
abbrev S8x2048x512 : Shape := ⟨3, ![8, 2048, 512]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== KvProj.lean ====
abbrev S8x256x1024 : Shape := ⟨3, ![8, 256, 1024]⟩
abbrev S1024x2048 : Shape := ⟨2, ![1024, 2048]⟩
abbrev S2048x1024 : Shape := ⟨2, ![2048, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8x256x1024, .f32⟩
  | .hbm, ⟨1, _⟩ => ⟨S1024x2048, .f32⟩
  | .hbm, ⟨2, _⟩ => ⟨S2048x1024, .f32⟩
  | .hbm, ⟨3, _⟩ => ⟨S1024x2048, .bf16⟩
  | .hbm, ⟨4, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S256x2048, .bf16⟩
  | .local _ .vmem, ⟨4, _⟩ => ⟨S256x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvProjRefIdeal.lean ====
abbrev S8x256x1024 : Shape := ⟨3, ![8, 256, 1024]⟩
abbrev S1024x2048 : Shape := ⟨2, ![1024, 2048]⟩
abbrev S8x256x2048 : Shape := ⟨3, ![8, 256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x2048, .f32⟩
  | .hbm, ⟨2, _⟩ => ⟨S8x256x2048, .f32⟩
  | .hbm, ⟨3, _⟩ => ⟨S8x256x2048, .bf16⟩
  | .hbm, ⟨4, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Experts.lean ====
abbrev S32768x1024 : Shape := ⟨2, ![32768, 1024]⟩
abbrev S32 : Shape := ⟨1, ![32]⟩
abbrev S32x1024x512 : Shape := ⟨3, ![32, 1024, 512]⟩
abbrev S32x512x1024 : Shape := ⟨3, ![32, 512, 1024]⟩
abbrev S_ : Shape := ⟨0, ![]⟩
abbrev S160 : Shape := ⟨1, ![160]⟩
abbrev S1x32 : Shape := ⟨2, ![1, 32]⟩
abbrev S160x1 : Shape := ⟨2, ![160, 1]⟩
abbrev S160x32 : Shape := ⟨2, ![160, 32]⟩
abbrev S1 : Shape := ⟨1, ![1]⟩
abbrev S1x32x1024x512 : Shape := ⟨4, ![1, 32, 1024, 512]⟩
abbrev S1x32x512x1024 : Shape := ⟨4, ![1, 32, 512, 1024]⟩
abbrev S256x1024 : Shape := ⟨2, ![256, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S256x512 : Shape := ⟨2, ![256, 512]⟩
abbrev S256x1 : Shape := ⟨2, ![256, 1]⟩

abbrev nBuf : Space → Nat
  | .hbm => 128
  | .vmem => 13
  | .smem => 5
  | _ => 0

abbrev bufTy : (tb : Table) → Fin (tcTables nBuf tb) → BufTy
  | .hbm, ⟨0, _⟩ => ⟨S32768x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S_, .i32⟩
  | .hbm, ⟨5, _⟩ => ⟨S_, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S32, .i32⟩
  | .hbm, ⟨41, _⟩ => ⟨S32, .i1⟩
  | .hbm, ⟨42, _⟩ => ⟨S32, .i1⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S32, .i32⟩
  | .hbm, ⟨47, _⟩ => ⟨S_, .i32⟩
  | .hbm, ⟨48, _⟩ => ⟨S32, .i32⟩
  | .hbm, ⟨49, _⟩ => ⟨S32, .i1⟩
  | .hbm, ⟨50, _⟩ => ⟨S32, .i32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S_, .i32⟩
  | .hbm, ⟨56, _⟩ => ⟨S32, .i32⟩
  | .hbm, ⟨57, _⟩ => ⟨S32, .i32⟩
  | .hbm, ⟨58, _⟩ => ⟨S_, .i32⟩
  | .hbm, ⟨59, _⟩ => ⟨S_, .i32⟩
  | .hbm, ⟨60, _⟩ => ⟨S32, .i32⟩
  | .hbm, ⟨61, _⟩ => ⟨S32, .i32⟩
  | .hbm, ⟨62, _⟩ => ⟨S160, .i32⟩
  | .hbm, ⟨63, _⟩ => ⟨S1x32, .i32⟩
  | .hbm, ⟨64, _⟩ => ⟨S160x1, .i32⟩
  | .hbm, ⟨65, _⟩ => ⟨S160x32, .i32⟩
  | .hbm, ⟨66, _⟩ => ⟨S160x32, .i32⟩
  | .hbm, ⟨67, _⟩ => ⟨S160x32, .i1⟩
  | .hbm, ⟨68, _⟩ => ⟨S160x32, .i32⟩
  | .hbm, ⟨69, _⟩ => ⟨S_, .i32⟩
  | .hbm, ⟨70, _⟩ => ⟨S160, .i32⟩
  | .hbm, ⟨71, _⟩ => ⟨S_, .i32⟩
  | .hbm, ⟨72, _⟩ => ⟨S160, .i32⟩
  | .hbm, ⟨73, _⟩ => ⟨S160, .i32⟩
  | .hbm, ⟨74, _⟩ => ⟨S_, .i32⟩
  | .hbm, ⟨75, _⟩ => ⟨S160, .i32⟩
  | .hbm, ⟨76, _⟩ => ⟨S160, .i1⟩
  | .hbm, ⟨77, _⟩ => ⟨S_, .i32⟩
  | .hbm, ⟨78, _⟩ => ⟨S160, .i32⟩
  | .hbm, ⟨79, _⟩ => ⟨S160, .i32⟩
  | .hbm, ⟨80, _⟩ => ⟨S160, .i32⟩
  | .hbm, ⟨81, _⟩ => ⟨S160x1, .i32⟩
  | .hbm, ⟨82, _⟩ => ⟨S160, .i32⟩
  | .hbm, ⟨83, _⟩ => ⟨S_, .i32⟩
  | .hbm, ⟨84, _⟩ => ⟨S160, .i32⟩
  | .hbm, ⟨85, _⟩ => ⟨S160, .i1⟩
  | .hbm, ⟨86, _⟩ => ⟨S_, .i32⟩
  | .hbm, ⟨87, _⟩ => ⟨S160, .i32⟩
  | .hbm, ⟨88, _⟩ => ⟨S160, .i32⟩
  | .hbm, ⟨89, _⟩ => ⟨S160, .i32⟩
  | .hbm, ⟨90, _⟩ => ⟨S160x1, .i32⟩
  | .hbm, ⟨91, _⟩ => ⟨S160, .i32⟩
  | .hbm, ⟨92, _⟩ => ⟨S160, .i32⟩
  | .hbm, ⟨93, _⟩ => ⟨S160, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S160, .i32⟩
  | .hbm, ⟨98, _⟩ => ⟨S160, .i32⟩
  | .hbm, ⟨99, _⟩ => ⟨S_, .i32⟩
  | .hbm, ⟨100, _⟩ => ⟨S160, .i32⟩
  | .hbm, ⟨101, _⟩ => ⟨S160, .i32⟩
  | .hbm, ⟨102, _⟩ => ⟨S1x32x1024x512, .f32⟩
  | .hbm, ⟨103, _⟩ => ⟨S1x32x1024x512, .f32⟩
  | .hbm, ⟨104, _⟩ => ⟨S1x32x512x1024, .f32⟩
  | .hbm, ⟨105, _⟩ => ⟨S160, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S160, .i32⟩
  | .hbm, ⟨110, _⟩ => ⟨S160, .i32⟩
  | .hbm, ⟨111, _⟩ => ⟨S_, .i32⟩
  | .hbm, ⟨112, _⟩ => ⟨S160, .i32⟩
  | .hbm, ⟨113, _⟩ => ⟨S160, .i1⟩
  | .hbm, ⟨114, _⟩ => ⟨S_, .i32⟩
  | .hbm, ⟨115, _⟩ => ⟨S160, .i32⟩
  | .hbm, ⟨116, _⟩ => ⟨S160, .i32⟩
  | .hbm, ⟨117, _⟩ => ⟨S160, .i32⟩
  | .hbm, ⟨118, _⟩ => ⟨S160x1, .i32⟩
  | .hbm, ⟨119, _⟩ => ⟨S_, .i32⟩
  | .hbm, ⟨120, _⟩ => ⟨S160, .i32⟩
  | .hbm, ⟨121, _⟩ => ⟨S160, .i1⟩
  | .hbm, ⟨122, _⟩ => ⟨S_, .i32⟩
  | .hbm, ⟨123, _⟩ => ⟨S160, .i32⟩
  | .hbm, ⟨124, _⟩ => ⟨S160, .i32⟩
  | .hbm, ⟨125, _⟩ => ⟨S160, .i32⟩
  | .hbm, ⟨126, _⟩ => ⟨S160x1, .i32⟩
  | .hbm, ⟨127, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S160, .i32⟩
  | .local _ .smem, ⟨1, _⟩ => ⟨S160, .i32⟩
  | .local _ .smem, ⟨2, _⟩ => ⟨S1, .i32⟩
  | .local _ .smem, ⟨3, _⟩ => ⟨S32, .i32⟩
  | .local _ .smem, ⟨4, _⟩ => ⟨S32, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_0 : Ref sig .tc := ⟨.hbm, 43, rfl⟩
abbrev main_call2_v12 : Ref sig .tc := ⟨.hbm, 44, rfl⟩
abbrev main_call2_v13 : Ref sig .tc := ⟨.hbm, 45, rfl⟩
abbrev main_v6 : Ref sig .tc := ⟨.hbm, 46, rfl⟩
abbrev main_c_2 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_c_3 : Ref sig .tc := ⟨.hbm, 51, rfl⟩
abbrev main_v10 : Ref sig .tc := ⟨.hbm, 52, rfl⟩
abbrev main_v11 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v12 : Ref sig .tc := ⟨.hbm, 57, rfl⟩
abbrev main_call4_call0_c : Ref sig .tc := ⟨.hbm, 58, rfl⟩
abbrev main_call4_call0_v0 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_c_5 : Ref sig .tc := ⟨.hbm, 69, rfl⟩
abbrev main_v22 : Ref sig .tc := ⟨.hbm, 70, rfl⟩
abbrev main_c_6 : Ref sig .tc := ⟨.hbm, 71, rfl⟩
abbrev main_v23 : Ref sig .tc := ⟨.hbm, 72, rfl⟩
abbrev main_v24 : Ref sig .tc := ⟨.hbm, 73, rfl⟩
abbrev main_c_7 : Ref sig .tc := ⟨.hbm, 74, rfl⟩
abbrev main_v25 : Ref sig .tc := ⟨.hbm, 75, rfl⟩
abbrev main_v26 : Ref sig .tc := ⟨.hbm, 76, rfl⟩
abbrev main_c_8 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_c_9 : Ref sig .tc := ⟨.hbm, 83, rfl⟩
abbrev main_v32 : Ref sig .tc := ⟨.hbm, 84, rfl⟩
abbrev main_v33 : Ref sig .tc := ⟨.hbm, 85, rfl⟩
abbrev main_c_10 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_c_11 : Ref sig .tc := ⟨.hbm, 94, rfl⟩
abbrev main_c_12 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v41 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_c_13 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_c_14 : Ref sig .tc := ⟨.hbm, 111, rfl⟩
abbrev main_v51 : Ref sig .tc := ⟨.hbm, 112, rfl⟩
abbrev main_v52 : Ref sig .tc := ⟨.hbm, 113, rfl⟩
abbrev main_c_15 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_c_16 : Ref sig .tc := ⟨.hbm, 119, rfl⟩
abbrev main_v58 : Ref sig .tc := ⟨.hbm, 120, rfl⟩
abbrev main_v59 : Ref sig .tc := ⟨.hbm, 121, rfl⟩
abbrev main_c_17 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v65 : Ref sig .tc := ⟨.hbm, 127, rfl⟩
abbrev main_v57 : Ref sig .tc := ⟨.smem, 0, rfl⟩
abbrev main_v64 : Ref sig .tc := ⟨.smem, 1, rfl⟩
abbrev main_v42 : Ref sig .tc := ⟨.smem, 2, rfl⟩
abbrev main_v1 : Ref sig .tc := ⟨.smem, 3, rfl⟩
abbrev main_arg1 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨5, ![main_v57.idx, main_v64.idx, main_v42.idx, main_v1.idx, main_arg1.idx], fun | 0 => main_v57.names | 1 => main_v64.names | 2 => main_v42.names | 3 => main_v1.names | 4 => main_arg1.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_0 : BitVec 32 := 0#32
  let v9 : BitVec 32 := Scalar.maxsi v8 c0_i32_0
  let v11 : Index := Scalar.indexCast v9
  ![v11.toNat]
def k0_off4 (v5 : BitVec 32) : Fin 1 → Nat :=
  let v39 : Index := Scalar.indexCast v5
  ![v39.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v5 : BitVec 32) : Prop :=
  (∀ (k0_h1 : k0_cond1 i v0 = 1#1), ∀ a, (k0_off4 v5) a + S1.size a ≤ S32.size a)
theorem k0_off4_inb : ∀ (i : grid0.Coords) (v0 : BitVec 32) (v5 : BitVec 32) (k0_hw1 : k0_chk1 i v0 v5), ∀ (k0_h1 : k0_cond1 i v0 = 1#1), ∀ a, (k0_off4 v5) a + S1.size a ≤ S32.size a := fun i v0 v5 k0_hw1 k0_h1 => k0_hw1 k0_h1

def k0_off5 (i : grid0.Coords) : Fin 1 → Nat :=
  let arg0 : BitVec 32 := BitVec.ofNat 32 (i 0).val
  let c1_i32 : BitVec 32 := 1#32
  let v8 : BitVec 32 := Scalar.subi arg0 c1_i32
  let c0_i32_0 : BitVec 32 := 0#32
  let v9 : BitVec 32 := Scalar.maxsi v8 c0_i32_0
  let v52 : Index := Scalar.indexCast v9
  ![v52.toNat]
def k0_cond3 (i : grid0.Coords) (v7 : BitVec 32) (v53 : BitVec 32) : BitVec 1 :=
  let arg0 : BitVec 32 := BitVec.ofNat 32 (i 0).val
  let c0_i32_16 : BitVec 32 := 0#32
  let v51 : BitVec 1 := Scalar.cmpi .eq arg0 c0_i32_16
  let v54 : BitVec 1 := Scalar.cmpi .ne v53 v7
  let v55 : BitVec 1 := Scalar.ori v51 v54
  let v56 : BitVec 32 := Scalar.extui v55
  let c0_i32_17 : BitVec 32 := 0#32
  let v57 : BitVec 1 := Scalar.cmpi .ne v56 c0_i32_17
  v57

def k0_cond4 (i : grid0.Coords) (v7 : BitVec 32) (v53 : BitVec 32) : BitVec 1 :=
  let arg0 : BitVec 32 := BitVec.ofNat 32 (i 0).val
  let c0_i32_16 : BitVec 32 := 0#32
  let v51 : BitVec 1 := Scalar.cmpi .eq arg0 c0_i32_16
  let v54 : BitVec 1 := Scalar.cmpi .ne v53 v7
  let v55 : BitVec 1 := Scalar.ori v51 v54
  let v_true : BitVec 1 := 1#1
  let v58 : BitVec 1 := Scalar.xori v55 v_true
  let v59 : BitVec 32 := Scalar.extui v58
  let c0_i32_18 : BitVec 32 := 0#32
  let v60 : BitVec 1 := Scalar.cmpi .ne v59 c0_i32_18
  v60

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S32768x1024 : Shape := ⟨2, ![32768, 1024]⟩
abbrev S32 : Shape := ⟨1, ![32]⟩
abbrev S32x1024x512 : Shape := ⟨3, ![32, 1024, 512]⟩
abbrev S32x512x1024 : Shape := ⟨3, ![32, 512, 1024]⟩
abbrev S_ : Shape := ⟨0, ![]⟩
abbrev S1x32 : Shape := ⟨2, ![1, 32]⟩
abbrev S32768 : Shape := ⟨1, ![32768]⟩
abbrev S32768x1 : Shape := ⟨2, ![32768, 1]⟩
abbrev S32768x32 : Shape := ⟨2, ![32768, 32]⟩
abbrev S32x512x32768 : Shape := ⟨3, ![32, 512, 32768]⟩
abbrev S32x32768x512 : Shape := ⟨3, ![32, 32768, 512]⟩
abbrev S32x32768x1024 : Shape := ⟨3, ![32, 32768, 1024]⟩
abbrev S32x1 : Shape := ⟨2, ![32, 1]⟩
abbrev S1x32768 : Shape := ⟨2, ![1, 32768]⟩
abbrev S32x32768 : Shape := ⟨2, ![32, 32768]⟩
abbrev S32x32768x1 : Shape := ⟨3, ![32, 32768, 1]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32, .i32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S1x32, .i32⟩
  | .hbm, ⟨9, _⟩ => ⟨S32768, .i32⟩
  | .hbm, ⟨10, _⟩ => ⟨S32768x1, .i32⟩
  | .hbm, ⟨11, _⟩ => ⟨S32768x32, .i32⟩
  | .hbm, ⟨12, _⟩ => ⟨S32768x32, .i32⟩
  | .hbm, ⟨13, _⟩ => ⟨S32768x32, .i1⟩
  | .hbm, ⟨14, _⟩ => ⟨S32768x32, .i32⟩
  | .hbm, ⟨15, _⟩ => ⟨S_, .i32⟩
  | .hbm, ⟨16, _⟩ => ⟨S32768, .i32⟩
  | .hbm, ⟨17, _⟩ => ⟨S32x512x32768, .f32⟩
  | .hbm, ⟨18, _⟩ => ⟨S32x32768x512, .f32⟩
  | .hbm, ⟨19, _⟩ => ⟨S32x32768x512, .f32⟩
  | .hbm, ⟨20, _⟩ => ⟨S32x32768x512, .f32⟩
  | .hbm, ⟨21, _⟩ => ⟨S_, .f32⟩
  | .hbm, ⟨22, _⟩ => ⟨S32x32768x512, .f32⟩
  | .hbm, ⟨23, _⟩ => ⟨S32x32768x512, .f32⟩
  | .hbm, ⟨24, _⟩ => ⟨S_, .f32⟩
  | .hbm, ⟨25, _⟩ => ⟨S32x32768x512, .f32⟩
  | .hbm, ⟨26, _⟩ => ⟨S32x32768x512, .f32⟩
  | .hbm, ⟨27, _⟩ => ⟨S32x32768x512, .f32⟩
  | .hbm, ⟨28, _⟩ => ⟨S32x512x32768, .f32⟩
  | .hbm, ⟨29, _⟩ => ⟨S32x32768x512, .f32⟩
  | .hbm, ⟨30, _⟩ => ⟨S32x32768x512, .f32⟩
  | .hbm, ⟨31, _⟩ => ⟨S32x32768x1024, .f32⟩
  | .hbm, ⟨32, _⟩ => ⟨S32, .i32⟩
  | .hbm, ⟨33, _⟩ => ⟨S32x1, .i32⟩
  | .hbm, ⟨34, _⟩ => ⟨S1x32768, .i32⟩
  | .hbm, ⟨35, _⟩ => ⟨S32x32768, .i32⟩
  | .hbm, ⟨36, _⟩ => ⟨S32x32768, .i32⟩
  | .hbm, ⟨37, _⟩ => ⟨S32x32768, .i1⟩
  | .hbm, ⟨38, _⟩ => ⟨S32x32768x1, .i1⟩
  | .hbm, ⟨39, _⟩ => ⟨S_, .f32⟩
  | .hbm, ⟨40, _⟩ => ⟨S_, .f32⟩
  | .hbm, ⟨41, _⟩ => ⟨S32x32768x1024, .i1⟩
  | .hbm, ⟨42, _⟩ => ⟨S32x32768x1024, .f32⟩
  | .hbm, ⟨43, _⟩ => ⟨S32x32768x1024, .f32⟩
  | .hbm, ⟨44, _⟩ => ⟨S_, .f32⟩
  | .hbm, ⟨45, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== Proof.Algebra.lean ====
/-
  Facts about extended reals that the value proof uses: a nonnegative real factor moves through a sum; a softmax whose
  division comes after the weighted sum equals one whose division comes before it, when the scores are real; the first two
  positions of a stable descending sort; and the choice of two experts as the kernel's lanes compute it.
-/
module

public import Idealize.ShloMosaic.PureOps
public import Idealize.ShloMosaic.PureOps.Ideal.Laws
public import Idealize.ShloMosaic.Lib.SortFacts

@[expose] public section

noncomputable section

namespace MemAttnProof

open Idealize.ShloMosaic

/-- The value is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, by rw [EReal.coe_mul]⟩

theorem IsR.add {x y : EReal} (hx : IsR x) (hy : IsR y) : IsR (x + y) := by
  obtain ⟨a, rfl⟩ := hx; obtain ⟨b, rfl⟩ := hy; exact ⟨a + b, by rw [EReal.coe_add]⟩

theorem IsR.sum {ι : Type} (s : Finset ι) {f : ι → EReal} (h : ∀ i, IsR (f i)) : IsR (∑ i ∈ s, f i) := by
  classical
  induction s using Finset.induction_on with
  | empty => exact ⟨0, by simp⟩
  | insert a s ha ih => rw [Finset.sum_insert ha]; exact (h a).add ih

/-- A value whose magnitude is below infinity is real. -/
theorem isR_of_abs_lt {x : EReal} (h : max x (-x) < ⊤) : IsR x := by
  induction x with
  | bot => simp at h
  | top => simp at h
  | coe r => exact ⟨r, rfl⟩

/-- A nonnegative real factor moves out of a sum. -/
theorem sum_mul_coe {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih, mul_comm (f a + _) _, mul_comm (f a) _, mul_comm (∑ i ∈ s, f i) _]
    exact (EReal.left_distrib_of_nonneg_of_ne_top (by exact_mod_cast hc) (EReal.coe_ne_top c) _ _).symm

theorem sum_scaled {ι : Type} (s : Finset ι) (q k : ι → EReal) (c : ℝ) (hc : 0 ≤ c) :
    ∑ i ∈ s, (q i * (c : EReal)) * k i = (∑ i ∈ s, q i * k i) * (c : EReal) := by
  rw [← sum_mul_coe s _ c hc]
  exact Finset.sum_congr rfl fun i _ => by rw [mul_right_comm]

/-- The largest of finitely many values, when it is known to be `v`. -/
theorem sup_eq_of {n : Nat} (f : Fin n → EReal) (v : EReal) (h1 : ∃ j, f j = v) (h2 : ∀ j, f j ≤ v) :
    Finset.univ.sup f = v := by
  obtain ⟨j, hj⟩ := h1
  exact le_antisymm (Finset.sup_le fun j _ => h2 j) (hj ▸ Finset.le_sup (Finset.mem_univ j))

theorem inf_eq_of {n : Nat} (f : Fin n → EReal) (v : EReal) (h1 : ∃ j, f j = v) (h2 : ∀ j, v ≤ f j) :
    Finset.univ.inf f = v := by
  obtain ⟨j, hj⟩ := h1
  exact le_antisymm (hj ▸ Finset.inf_le (Finset.mem_univ j)) (Finset.le_inf fun j _ => h2 j)

/-- One attention head at one row and one output coordinate: the weighted sum of the values over the sum of the weights. -/
def headRow {n : Nat} (s v : Fin n → EReal) : EReal :=
  Ideal.div (∑ m, Ideal.exp (s m - Finset.univ.sup s) * v m) (∑ m, Ideal.exp (s m - Finset.univ.sup s))

/-- With real scores the division may be made on the weights first. -/
theorem headRow_eq {n : Nat} (hn : 0 < n) (s v : Fin n → EReal) (hs : ∀ m, IsR (s m)) :
    ∑ m, v m * Ideal.div (Ideal.exp (s m - max ⊥ (Finset.univ.sup s))) (0 + ∑ m, Ideal.exp (s m - max ⊥ (Finset.univ.sup s)))
      = headRow s v := by
  choose r hr using hs
  obtain ⟨m0, -, hm0⟩ := Finset.exists_mem_eq_sup (Finset.univ : Finset (Fin n)) ⟨⟨0, hn⟩, Finset.mem_univ _⟩ s
  unfold headRow
  have hM : Finset.univ.sup s = ((r m0 : ℝ) : EReal) := hm0.trans (hr m0)
  rw [max_eq_right bot_le, zero_add, hM]
  have he : ∀ m, Ideal.exp (s m - ((r m0 : ℝ) : EReal)) = ((Real.exp (r m - r m0) : ℝ) : EReal) := fun m => by
    rw [hr m, ← EReal.coe_sub, Ideal.exp_coe]
  simp only [he]
  have hL : ∑ m, ((Real.exp (r m - r m0) : ℝ) : EReal) = ((∑ m, Real.exp (r m - r m0) : ℝ) : EReal) := by
    induction (Finset.univ : Finset (Fin n)) using Finset.induction_on with
    | empty => simp
    | insert a s ha ih => rw [Finset.sum_insert ha, Finset.sum_insert ha, ih, EReal.coe_add]
  have hpos : 0 < ∑ m, Real.exp (r m - r m0) := Finset.sum_pos (fun m _ => Real.exp_pos _) ⟨⟨0, hn⟩, Finset.mem_univ _⟩
  rw [hL, Ideal.div_coe hpos.ne', ← sum_mul_coe _ _ _ (by positivity)]
  refine Finset.sum_congr rfl fun m _ => ?_
  rw [Ideal.div_coe hpos.ne', ← mul_assoc, mul_comm (v m)]

/-! ## The first two of a stable descending sort -/

/-- `a` comes before `b`: a greater key, or an equal key at a lower position. -/
def Bef {n : Nat} (G : Fin n → EReal) (a b : Fin n) : Prop := G b < G a ∨ (G a = G b ∧ a < b)

theorem pairwise_insert {n : Nat} (G : Fin n → EReal) (R : Fin n → Fin n → Bool) (hR : ∀ a b, R a b = true ↔ G b < G a)
    (a : Fin n) (l : List (Fin n)) (hl : l.Pairwise (Bef G)) (ha : ∀ b ∈ l, a < b) :
    (insertBefore R a l).Pairwise (Bef G) := by
  induction l with
  | nil => exact List.pairwise_singleton _ _
  | cons b l ih =>
    rw [List.pairwise_cons] at hl
    unfold insertBefore
    split
    · rename_i h
      rw [List.pairwise_cons]
      refine ⟨fun x hx => ?_, ih hl.2 fun c hc => ha c (List.mem_cons_of_mem b hc)⟩
      rcases List.mem_cons.mp ((perm_insertBefore R a l).mem_iff.mp hx) with rfl | hx
      · exact Or.inl ((hR _ _).mp h)
      · exact hl.1 x hx
    · rename_i h
      have hab : G b ≤ G a := not_lt.mp fun hh => h ((hR _ _).mpr hh)
      have key : ∀ c, G c ≤ G b → a < c → Bef G a c := fun c hc hac => by
        rcases lt_or_eq_of_le (hc.trans hab) with h1 | h1
        · exact Or.inl h1
        · exact Or.inr ⟨h1.symm, hac⟩
      rw [List.pairwise_cons, List.pairwise_cons]
      refine ⟨fun x hx => ?_, hl.1, hl.2⟩
      rcases List.mem_cons.mp hx with rfl | hx'
      · exact key _ le_rfl (ha _ List.mem_cons_self)
      · refine key x ?_ (ha x hx)
        rcases hl.1 x hx' with h1 | h1
        · exact h1.le
        · exact h1.1.ge

theorem pairwise_sort {n : Nat} (G : Fin n → EReal) (R : Fin n → Fin n → Bool) (hR : ∀ a b, R a b = true ↔ G b < G a)
    (l : List (Fin n)) (hl : l.Pairwise (· < ·)) : (stableSort R l).Pairwise (Bef G) := by
  induction l with
  | nil => exact List.Pairwise.nil
  | cons a l ih =>
    rw [List.pairwise_cons] at hl
    unfold stableSort
    exact pairwise_insert G R hR a _ (ih hl.2) fun b hb => hl.1 b ((perm_stableSort R l).mem_iff.mp hb)

theorem sortedFrom_bef {n : Nat} (G : Fin n → EReal) (R : Fin n → Fin n → Bool) (hR : ∀ a b, R a b = true ↔ G b < G a)
    (i j : Fin n) (hij : i < j) : Bef G (sortedFrom R i) (sortedFrom R j) := by
  have h := List.pairwise_iff_get.mp (pairwise_sort G R hR (List.finRange n) (List.pairwise_lt_finRange n))
  unfold sortedFrom
  exact h (i.cast (length_sortPositions n R).symm) (j.cast (length_sortPositions n R).symm) hij

/-- `e` is the first position of the greatest key among the positions of `S`. -/
def FirstMax {n : Nat} (S : Fin n → Prop) (f : Fin n → EReal) (e : Fin n) : Prop :=
  S e ∧ ∀ j, S j → f j ≤ f e ∧ (f j = f e → e ≤ j)

theorem sortedFrom_first {n : Nat} (G : Fin n → EReal) (R : Fin n → Fin n → Bool) (hR : ∀ a b, R a b = true ↔ G b < G a)
    (i : Fin n) (hi : i.val = 0) : FirstMax (fun _ => True) G (sortedFrom R i) := by
  refine ⟨trivial, fun j _ => ?_⟩
  obtain ⟨k, rfl⟩ := sortedFrom_surjective R j
  by_cases hk : k = i
  · subst hk; exact ⟨le_rfl, fun _ => le_rfl⟩
  · have hlt : i < k := by
      rcases lt_or_gt_of_ne hk with h | h
      · exact absurd h (by simp [Fin.lt_def, hi])
      · exact h
    rcases sortedFrom_bef G R hR i k hlt with h | h
    · exact ⟨h.le, fun e => absurd e h.ne⟩
    · exact ⟨h.1.ge, fun _ => h.2.le⟩

theorem sortedFrom_second {n : Nat} (G : Fin n → EReal) (R : Fin n → Fin n → Bool) (hR : ∀ a b, R a b = true ↔ G b < G a)
    (i i' : Fin n) (hi : i.val = 0) (hi' : i'.val = 1) :
    FirstMax (fun j => j ≠ sortedFrom R i) G (sortedFrom R i') := by
  refine ⟨fun h => ?_, fun j hj => ?_⟩
  · have := sortedFrom_injective R h
    rw [this] at hi'; omega
  obtain ⟨k, rfl⟩ := sortedFrom_surjective R j
  by_cases hk : k = i'
  · subst hk; exact ⟨le_rfl, fun _ => le_rfl⟩
  · have hki : k ≠ i := fun h => hj (by rw [h])
    have hlt : i' < k := by
      have h1 : k.val ≠ i'.val := fun h => hk (Fin.ext h)
      have h2 : k.val ≠ i.val := fun h => hki (Fin.ext h)
      rw [Fin.lt_def]; omega
    rcases sortedFrom_bef G R hR i' k hlt with h | h
    · exact ⟨h.le, fun e => absurd e h.ne⟩
    · exact ⟨h.1.ge, fun _ => h.2.le⟩

/-! ## The two greatest of four -/

/-- The sum of the two greatest of four values, by a tournament of pairs. -/
def pairSum (a b c d : EReal) : EReal :=
  max (max a b) (max c d) + max (min (max a b) (max c d)) (max (min a b) (min c d))

theorem pairSum_swap1 (a b c d : EReal) : pairSum b a d c = pairSum a b c d := by
  simp only [pairSum, max_comm, min_comm]

theorem pairSum_swap2 (a b c d : EReal) : pairSum c d a b = pairSum a b c d := by
  unfold pairSum
  rw [max_comm (max c d), min_comm (max c d), max_comm (min c d)]

theorem pairSum_eq (f : Fin 4 → EReal) (p q : Fin 4) (hp : ∀ j, f j ≤ f p) (hqp : q ≠ p) (hq : ∀ j, j ≠ p → f j ≤ f q) :
    pairSum (f 0) (f 1) (f 2) (f 3) = f p + f q := by
  unfold pairSum
  have e1 : max (max (f 0) (f 1)) (max (f 2) (f 3)) = f p := by
    refine le_antisymm (by simp [hp]) ?_
    fin_cases p <;> simp
  rw [e1]
  congr 1
  have h0 := hq 0; have h1 := hq 1; have h2 := hq 2; have h3 := hq 3
  have g0 := hp 0; have g1 := hp 1; have g2 := hp 2; have g3 := hp 3
  clear e1 hp hq
  apply le_antisymm
  · fin_cases p <;> fin_cases q <;> simp_all
  · fin_cases p <;> fin_cases q <;> simp_all

end MemAttnProof

end
-- ==== Proof.Ops.lean ====
/-
  The operations of a block of rows, read at one row and one lane: broadcasts of a column or a row, unit axes added and dropped,
  slices of lanes, sums, maxima and minima along a row, and the two kinds of matrix product, over the extended reals.
-/
module

public import Idealize.ShloMosaic.PureOps
public import Idealize.ShloMosaic.PureOps.Ideal.Laws
public import Idealize.ShloMosaic.Lib.ValueIdx
public import Idealize.ShloMosaic.Lib.KernelVsHost
public import Idealize.ShloMosaic.Lib.Pipeline.Value

@[expose] public section

noncomputable section

namespace MemAttnProof

open Idealize.ShloMosaic Idealize.ShloMosaic.ValueIdx

abbrev Sh1 (a : Nat) : Shape := ⟨1, ![a]⟩
abbrev Sh2 (a b : Nat) : Shape := ⟨2, ![a, b]⟩
abbrev Sh3 (a b c : Nat) : Shape := ⟨3, ![a, b, c]⟩

theorem expA {s : Shape} (x : FVec Ideal s .f32) (i : s.Idx) : exp x i = Ideal.exp (x i) := rfl

section Layout
variable {α : Type} {R n : Nat}

/-- A column broadcast along the lanes. -/
theorem bcol (v : (Sh2 R 1).Idx → α) (h : (Sh2 R 1).Broadcasts (Sh2 R n)) (r : Fin R) (j : Fin n) :
    broadcastTo (Sh2 R n) v h (ix2 r j) = v (ix2 r 0) :=
  broadcastTo_apply v h _ _ fun a => by
    match a with
    | ⟨0, _⟩ =>
      show r.val = if R = 1 then 0 else r.val
      split
      · have := r.isLt; omega
      · rfl
    | ⟨1, _⟩ => rfl

/-- A row broadcast down the rows. -/
theorem brow (v : (Sh2 1 n).Idx → α) (h : (Sh2 1 n).Broadcasts (Sh2 R n)) (r : Fin R) (j : Fin n) :
    broadcastTo (Sh2 R n) v h (ix2 r j) = v (ix2 0 j) :=
  broadcastTo_apply v h _ _ fun a => by
    match a with
    | ⟨0, _⟩ => rfl
    | ⟨1, _⟩ =>
      show j.val = if n = 1 then 0 else j.val
      split
      · have := j.isLt; omega
      · rfl

/-- A vector as a column. -/
theorem addCol (v : (Sh1 R).Idx → α) (h : (Sh1 R).ShapeCasts (Sh2 R 1)) (r : Fin R) (z : Fin 1) :
    shapeCast (Sh2 R 1) v h (ix2 r z) = v (ix1 r) :=
  shapeCast_apply v h _ _ (by
    rw [Shape.rowMajor_val_one, Shape.rowMajor_val_two]
    show r.val = r.val * 1 + z.val
    omega)

theorem dropUnit (v : (Sh3 1 R n).Idx → α) (h : (Sh3 1 R n).ShapeCasts (Sh2 R n)) (r : Fin R) (j : Fin n) :
    shapeCast (Sh2 R n) v h (ix2 r j) = v (ix3 0 r j) :=
  shapeCast_apply v h _ _ (by
    rw [Shape.rowMajor_val_three, Shape.rowMajor_val_two]
    show (0 * R + r.val) * n + j.val = r.val * n + j.val
    rw [Nat.zero_mul, Nat.zero_add])

theorem addUnit (v : (Sh2 R n).Idx → α) (h : (Sh2 R n).ShapeCasts (Sh3 1 R n)) (z : Fin 1) (r : Fin R) (j : Fin n) :
    shapeCast (Sh3 1 R n) v h (ix3 z r j) = v (ix2 r j) :=
  shapeCast_apply v h _ _ (by
    rw [Shape.rowMajor_val_three, Shape.rowMajor_val_two]
    show r.val * n + j.val = (z.val * R + r.val) * n + j.val
    have : z.val = 0 := by omega
    rw [this, Nat.zero_mul, Nat.zero_add])

/-- A slice of lanes. -/
theorem laneSlice {w off : Nat} (v : (Sh2 R n).Idx → α) (h : (Sh2 R n).Slices ![0, off] (Sh2 R w)) (r : Fin R) (j : Fin w)
    (hj : off + j.val < n) : extractStridedSlice (Sh2 R w) ![0, off] v h (ix2 r j) = v (ix2 r ⟨off + j.val, hj⟩) :=
  extractStridedSlice_apply _ v h _ _ fun a => by
    match a with
    | ⟨0, _⟩ => show r.val = 0 + r.val; omega
    | ⟨1, _⟩ => rfl

/-- Lanes rotated by `s`. -/
theorem rot (sb : BitVec 32) (v : (Sh2 R n).Idx → α) (h : (Sh2 R n).Rotates 1 none) (r : Fin R) (j k : Fin n)
    (hk : k.val = (j.val + n - sb.toNat % n) % n) : dynamicRotate 1 sb none v h (ix2 r j) = v (ix2 r k) :=
  dynamicRotate_apply 1 sb v h _ _ fun b => by
    match b with
    | ⟨0, _⟩ => rfl
    | ⟨1, _⟩ => exact hk

end Layout

section Reduce
variable {R n : Nat}

theorem sumRow_of (v : FVec Ideal (Sh2 R n) .f32) (h : (Sh2 R n).Reduces [1] (Sh1 R)) (hφ : FKind.Formats .f32)
    (hacc : 0x00000000#32 = FKind.add.neutral .f32 hφ) (r : Fin R) :
    multiReduction .add [1] (Sh1 R) v 0x00000000#32 h hφ hacc (ix1 r) = ∑ k : Fin n, v (ix2 r k) := by
  rw [Ideal.multiReduction_add_single]
  refine Finset.sum_congr rfl fun k _ => congrArg v (funext fun a => Fin.ext ?_)
  match a with
  | ⟨0, _⟩ => rfl
  | ⟨1, _⟩ => rfl

theorem sumRow (v : FVec Ideal (Sh2 R n) .f32) (h : (Sh2 R n).Reduces [1] (Sh1 R)) (r : Fin R) :
    multiReduction .add [1] (Sh1 R) v 0x00000000#32 h (.inl rfl) rfl (ix1 r) = ∑ k : Fin n, v (ix2 r k) :=
  sumRow_of v h (.inl rfl) rfl r

theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]

theorem maxRow_of (v : FVec Ideal (Sh2 R n) .f32) (h : (Sh2 R n).Reduces [1] (Sh1 R)) (hφ : FKind.Formats .f32)
    (hacc : 0xFF800000#32 = FKind.maximumf.neutral .f32 hφ) (r : Fin R) :
    multiReduction .maximumf [1] (Sh1 R) v 0xFF800000#32 h hφ hacc (ix1 r) = Finset.univ.sup fun k : Fin n => v (ix2 r k) := by
  rw [Ideal.multiReduction_maximumf_single]
  show Finset.fold max (Ideal.ofBits .f32 0xFF800000#32) _ _ = Finset.fold max ⊥ _ _
  rw [ofBits_ninf]
  refine Finset.fold_congr fun k _ => congrArg v (funext fun a => Fin.ext ?_)
  match a with
  | ⟨0, _⟩ => rfl
  | ⟨1, _⟩ => rfl

theorem maxRow (v : FVec Ideal (Sh2 R n) .f32) (h : (Sh2 R n).Reduces [1] (Sh1 R)) (r : Fin R) :
    multiReduction .maximumf [1] (Sh1 R) v 0xFF800000#32 h (.inl rfl) rfl (ix1 r) = Finset.univ.sup fun k : Fin n => v (ix2 r k) :=
  maxRow_of v h (.inl rfl) rfl r

theorem minRow_of (v : FVec Ideal (Sh2 R n) .f32) (h : (Sh2 R n).Reduces [1] (Sh1 R)) (hφ : FKind.Formats .f32)
    (hacc : 0x7F800000#32 = FKind.minimumf.neutral .f32 hφ) (r : Fin R) :
    multiReduction .minimumf [1] (Sh1 R) v 0x7F800000#32 h hφ hacc (ix1 r) = Finset.univ.inf fun k : Fin n => v (ix2 r k) := by
  rw [multiReduction_minimumf_eq_fold, h.fold_filter_drop_single]
  show Finset.fold min (Ideal.ofBits .f32 0x7F800000#32) _ _ = Finset.fold min ⊤ _ _
  rw [ofBits_pinf]
  refine Finset.fold_congr fun k _ => congrArg v (funext fun a => Fin.ext ?_)
  match a with
  | ⟨0, _⟩ => rfl
  | ⟨1, _⟩ => rfl

theorem minRow (v : FVec Ideal (Sh2 R n) .f32) (h : (Sh2 R n).Reduces [1] (Sh1 R)) (r : Fin R) :
    multiReduction .minimumf [1] (Sh1 R) v 0x7F800000#32 h (.inl rfl) rfl (ix1 r) = Finset.univ.inf fun k : Fin n => v (ix2 r k) :=
  minRow_of v h (.inl rfl) rfl r

end Reduce

section Matmul
variable {M K N : Nat}

theorem mm {φ₁ φ₂ : FTy} (D : DotDims (Sh2 M K) (Sh2 K N) (Sh2 M N)) (hD : D = DotDims.plain M K N)
    (p : Option ContractPrecision) (a : FVec Ideal (Sh2 M K) φ₁) (b : FVec Ideal (Sh2 K N) φ₂) (r : Fin M) (j : Fin N) :
    matmul D p a b (constant (Sh2 M N) .f32 0x00000000#32) (ix2 r j) = ∑ k : Fin K, a (ix2 r k) * b (ix2 k j) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  congr 2
  · funext x; apply Fin.ext
    match x with
    | ⟨0, _⟩ => rfl
    | ⟨1, _⟩ => exact hk
  · funext x; apply Fin.ext
    match x with
    | ⟨0, _⟩ => exact hk
    | ⟨1, _⟩ => rfl

theorem mmT {φ₁ φ₂ : FTy} (D : DotDims (Sh2 M K) (Sh2 N K) (Sh2 M N)) (hD : D = DotDims.transposedRhs M K N)
    (p : Option ContractPrecision) (a : FVec Ideal (Sh2 M K) φ₁) (b : FVec Ideal (Sh2 N K) φ₂) (r : Fin M) (j : Fin N) :
    matmul D p a b (constant (Sh2 M N) .f32 0x00000000#32) (ix2 r j) = ∑ k : Fin K, a (ix2 r k) * b (ix2 j k) := by
  subst hD
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  congr 2
  · funext x; apply Fin.ext
    match x with
    | ⟨0, _⟩ => rfl
    | ⟨1, _⟩ => exact hk
  · funext x; apply Fin.ext
    match x with
    | ⟨0, _⟩ => rfl
    | ⟨1, _⟩ => exact hk

end Matmul

end MemAttnProof

end
-- ==== Proof.Kernel.lean ====
/-
  What the memory-attention kernel computes for one block of 512 rows, read at one row and one lane: the scaled queries, the
  attention heads, the residual and layer norm, and the router's scores.
-/
module

public import proofs.«01_k».proof.Proof.Gen.MemAttnIdeal.Value
public import proofs.«01_k».proof.Proof.Algebra
public import proofs.«01_k».proof.Proof.Ops

@[expose] public section

noncomputable section

namespace MemAttnProof

open Idealize.ShloMosaic Idealize.ShloMosaic.ValueIdx Cert.MemAttnIdeal Cert.MemAttnIdeal.Gen

abbrev c16 : EReal := Ideal.ofBits .f32 0x3D800000#32
abbrev cAlpha : EReal := Ideal.ofBits .f32 0x3FB504F3#32
abbrev cN : EReal := Ideal.ofBits .f32 0x44800000#32
abbrev cEps : EReal := Ideal.ofBits .f32 0x3727C5AC#32
abbrev cNeg : EReal := Ideal.ofBits .f32 0xF149F2CA#32
abbrev cBig : EReal := Ideal.ofBits .f32 0x4E6E6B28#32

/-- The mean of a row, its variance, and the row normalised, scaled and shifted. -/
def mean (y : Fin 1024 → EReal) : EReal := Ideal.div (∑ k, y k) cN
def lnRow (y g b : Fin 1024 → EReal) (j : Fin 1024) : EReal :=
  (y j - mean y) * Ideal.rsqrt (mean (fun k => (y k - mean y) * (y k - mean y)) + cEps) * g j + b j

/-- The router's score of one logit. -/
def sig (z : EReal) : EReal := Ideal.div 1 (1 + Ideal.exp (0 - z))

theorem ofBits_one : Ideal.ofBits .f32 0x3F800000#32 = 1 := by
  simp [Ideal.ofBits, Ideal.ieee, -EReal.coe_mul]
  try norm_num

theorem pay3_apply (v0 : Vec Ideal S1x512x1024 .f32) (v3 : Vec Ideal S1024x1024 .bf16) (r : Fin 512) (j : Fin 1024) :
    k0_pay3 v0 v3 (ix2 r j) = (∑ k : Fin 1024, v0 (ix3 0 r k) * v3 (ix2 k j)) * c16 := by
  unfold k0_pay3 k0_pay2
  dsimp only
  rw [mulf_apply, mm dot_S512x1024_S1024x1024_S512x1024_1_0_0_1_n_n rfl]
  rw [broadcast_apply]
  simp only [truncf_apply, dropUnit, shapeCast_self]
  rfl

theorem pay7_apply (v : FVec Ideal S256x256 .bf16) (s : FVec Ideal S512x256 .f32) (r : Fin 512) (d : Fin 256) :
    k0_pay7 v s (ix2 r d) = headRow (fun m : Fin 256 => s (ix2 r m)) (fun m : Fin 256 => v (ix2 m d)) := by
  unfold k0_pay7 headRow
  dsimp only
  rw [divf_apply, mm dot_S512x256_S256x256_S512x256_1_0_0_1_n_n rfl, bcol, addCol, sumRow]
  simp only [truncf_apply, expA, subf_apply, bcol, addCol]
  rw [maxRow]

/-- The scores of one head: a slice of the queries against its keys. -/
theorem scores_apply (off : Nat) (v7 : FVec Ideal S512x1024 .f32) (k : Vec Ideal S1x256x256 .bf16)
    (h1 : S512x1024.Slices ![0, off] S512x256) (r : Fin 512) (m : Fin 256) (ho : off + 256 ≤ 1024) :
    (matmul dot_S512x256_S256x256_S512x256_1_1_0_0_n_n none
      (truncf .bf16 (extractStridedSlice S512x256 ![0, off] v7 h1) bitsLt_bf16_f32 : FVec Ideal S512x256 .bf16)
      (shapeCast S256x256 k shapeCasts_S1x256x256_S256x256 : FVec Ideal S256x256 .bf16)
      (constant S512x256 .f32 0x00000000#32 : FVec Ideal S512x256 .f32)) (ix2 r m)
      = ∑ d : Fin 256, v7 (ix2 r ⟨off + d.val, by omega⟩) * k (ix3 0 m d) := by
  rw [mmT dot_S512x256_S256x256_S512x256_1_1_0_0_n_n rfl]
  refine Finset.sum_congr rfl fun d _ => ?_
  rw [truncf_apply, laneSlice v7 h1 r d (by omega), dropUnit]

theorem pay4_apply (v0 : Vec Ideal S1x512x1024 .f32) (v3 : Vec Ideal S1024x1024 .bf16) (k v : Vec Ideal S1x256x256 .bf16)
    (r : Fin 512) (d : Fin 256) :
    k0_pay4 v0 v3 k v (ix2 r d)
      = headRow (fun m : Fin 256 => ∑ e : Fin 256, k0_pay3 v0 v3 (ix2 r ⟨0 + e.val, by omega⟩) * k (ix3 0 m e))
          (fun m => v (ix3 0 m d)) := by
  rw [show k0_pay4 v0 v3 k v = k0_pay7 (k0_pay5 v) (matmul dot_S512x256_S256x256_S512x256_1_1_0_0_n_n none
      (truncf .bf16 (extractStridedSlice S512x256 ![0, 0] (k0_pay3 v0 v3) slices_S512x1024_o0_0_S512x256) bitsLt_bf16_f32)
      (shapeCast S256x256 k shapeCasts_S1x256x256_S256x256) (constant S512x256 .f32 0x00000000#32)) from rfl, pay7_apply]
  simp only [scores_apply 0 _ _ _ _ _ (by omega), k0_pay5, dropUnit]

theorem pay6_apply (v0 : Vec Ideal S1x512x1024 .f32) (v3 : Vec Ideal S1024x1024 .bf16) (k : Vec Ideal S1x256x256 .bf16)
    (r : Fin 512) (m : Fin 256) :
    k0_pay6 v0 v3 k (ix2 r m) = ∑ e : Fin 256, k0_pay3 v0 v3 (ix2 r ⟨256 + e.val, by omega⟩) * k (ix3 0 m e) := by
  unfold k0_pay6
  rw [scores_apply 256 _ _ _ _ _ (by omega)]

theorem pay8_apply (v7 : FVec Ideal S512x1024 .f32) (k v : Vec Ideal S1x256x256 .bf16) (r : Fin 512) (d : Fin 256) :
    k0_pay8 v7 k v (ix2 r d)
      = headRow (fun m : Fin 256 => ∑ e : Fin 256, v7 (ix2 r ⟨512 + e.val, by omega⟩) * k (ix3 0 m e))
          (fun m => v (ix3 0 m d)) := by
  rw [show k0_pay8 v7 k v = k0_pay7 (k0_pay5 v) (matmul dot_S512x256_S256x256_S512x256_1_1_0_0_n_n none
      (truncf .bf16 (extractStridedSlice S512x256 ![0, 512] v7 slices_S512x1024_o0_512_S512x256) bitsLt_bf16_f32)
      (shapeCast S256x256 k shapeCasts_S1x256x256_S256x256) (constant S512x256 .f32 0x00000000#32)) from rfl, pay7_apply]
  simp only [scores_apply 512 _ _ _ _ _ (by omega), k0_pay5, dropUnit]

theorem pay10_apply (v7 : FVec Ideal S512x1024 .f32) (k : Vec Ideal S1x256x256 .bf16) (r : Fin 512) (m : Fin 256) :
    k0_pay10 v7 k (ix2 r m)
      = (∑ e : Fin 256, v7 (ix2 r ⟨768 + e.val, by omega⟩) * k (ix3 0 m e))
        - Finset.univ.sup (fun m : Fin 256 => ∑ e : Fin 256, v7 (ix2 r ⟨768 + e.val, by omega⟩) * k (ix3 0 m e)) := by
  unfold k0_pay10
  dsimp only
  rw [subf_apply, bcol, addCol, maxRow]
  simp only [scores_apply 768 _ _ _ _ _ (by omega)]

/-- Four heads side by side. -/
theorem cat4 (a0 a1 a2 a3 : FVec Ideal S512x256 .f32) (H : Fin 4 → Fin 256 → EReal) (r : Fin 512)
    (h0 : ∀ d, a0 (ix2 r d) = H 0 d) (h1 : ∀ d, a1 (ix2 r d) = H 1 d) (h2 : ∀ d, a2 (ix2 r d) = H 2 d)
    (h3 : ∀ d, a3 (ix2 r d) = H 3 d) (k : Fin 1024) :
    concatenate S512x1024 1 [⟨S512x256, a0⟩, ⟨S512x256, a1⟩, ⟨S512x256, a2⟩, ⟨S512x256, a3⟩]
        concatenates_S512x256_S512x256_S512x256_S512x256_S512x1024_d1 (ix2 r k)
      = H ⟨k.val / 256, by omega⟩ ⟨k.val % 256, by omega⟩ := by
  have hk : k.val / 256 = 0 ∨ k.val / 256 = 1 ∨ k.val / 256 = 2 ∨ k.val / 256 = 3 := by omega
  have hi : ∀ b : Fin 2, b ≠ 1 → ((ix2 r ⟨k.val % 256, by omega⟩ : (Sh2 512 256).Idx) b).val = ((ix2 r k : (Sh2 512 1024).Idx) b).val := by
    intro b hb
    match b with
    | ⟨0, _⟩ => rfl
    | ⟨1, _⟩ => exact absurd rfl hb
  rcases hk with hk | hk | hk | hk
  · refine (concatenate_apply_piece (t := S512x1024) 1 _ _ (ix2 r k) 0 (by simp) S512x256 a0 rfl rfl 0 rfl
      (ix2 r ⟨k.val % 256, by omega⟩) hi (by show 0 + k.val % 256 = k.val; omega)).trans ((h0 _).trans ?_)
    rw [show (⟨k.val / 256, by omega⟩ : Fin 4) = 0 from Fin.ext hk]
  · refine (concatenate_apply_piece (t := S512x1024) 1 _ _ (ix2 r k) 1 (by simp) S512x256 a1 rfl rfl 256 rfl
      (ix2 r ⟨k.val % 256, by omega⟩) hi (by show 256 + k.val % 256 = k.val; omega)).trans ((h1 _).trans ?_)
    rw [show (⟨k.val / 256, by omega⟩ : Fin 4) = 1 from Fin.ext hk]
  · refine (concatenate_apply_piece (t := S512x1024) 1 _ _ (ix2 r k) 2 (by simp) S512x256 a2 rfl rfl 512 rfl
      (ix2 r ⟨k.val % 256, by omega⟩) hi (by show 512 + k.val % 256 = k.val; omega)).trans ((h2 _).trans ?_)
    rw [show (⟨k.val / 256, by omega⟩ : Fin 4) = 2 from Fin.ext hk]
  · refine (concatenate_apply_piece (t := S512x1024) 1 _ _ (ix2 r k) 3 (by simp) S512x256 a3 rfl rfl 768 rfl
      (ix2 r ⟨k.val % 256, by omega⟩) hi (by show 768 + k.val % 256 = k.val; omega)).trans ((h3 _).trans ?_)
    rw [show (⟨k.val / 256, by omega⟩ : Fin 4) = 3 from Fin.ext hk]

/-- The column of row means of a block, the block less its means, and the block normalised, scaled and shifted. -/
def meanCol (w : FVec Ideal S512x1024 .f32) : FVec Ideal S512x1 .f32 :=
  divf (shapeCast S512x1 (multiReduction .add [1] S512 w 0x00000000#32 reduces_S512x1024_S512 (.inl rfl) rfl) shapeCasts_S512_S512x1)
    (broadcast S512x1 (Scalar.ofBits .f32 0x44800000#32 : Ideal .f32))
def centred (w : FVec Ideal S512x1024 .f32) : FVec Ideal S512x1024 .f32 :=
  subf w (broadcastTo S512x1024 (meanCol w) broadcasts_S512x1_S512x1024)
def invDev (w : FVec Ideal S512x1024 .f32) : FVec Ideal S512x1 .f32 :=
  rsqrt (addf (meanCol (mulf (centred w) (centred w))) (broadcast S512x1 (Scalar.ofBits .f32 0x3727C5AC#32 : Ideal .f32)))
def lnBlk (w : FVec Ideal S512x1024 .f32) (g b : FVec Ideal S1x1024 .f32) : FVec Ideal S512x1024 .f32 :=
  addf (mulf (mulf (centred w) (broadcastTo S512x1024 (invDev w) broadcasts_S512x1_S512x1024))
    (broadcastTo S512x1024 g broadcasts_S1x1024_S512x1024)) (broadcastTo S512x1024 b broadcasts_S1x1024_S512x1024)

theorem meanCol_apply (w : FVec Ideal S512x1024 .f32) (r : Fin 512) : meanCol w (ix2 r 0) = mean fun k => w (ix2 r k) := by
  show Ideal.div (shapeCast S512x1 _ _ (ix2 r 0)) cN = _
  rw [addCol, sumRow]
  rfl

theorem centred_apply (w : FVec Ideal S512x1024 .f32) (r : Fin 512) (j : Fin 1024) :
    centred w (ix2 r j) = w (ix2 r j) - mean fun k => w (ix2 r k) := by
  rw [← meanCol_apply]
  show w (ix2 r j) - broadcastTo S512x1024 (meanCol w) _ (ix2 r j) = _
  rw [bcol]

theorem invDev_apply (w : FVec Ideal S512x1024 .f32) (r : Fin 512) :
    invDev w (ix2 r 0) = Ideal.rsqrt (mean (fun k => (w (ix2 r k) - mean fun k => w (ix2 r k)) * (w (ix2 r k) - mean fun k => w (ix2 r k)))
      + cEps) := by
  show Ideal.rsqrt (meanCol (mulf (centred w) (centred w)) (ix2 r 0) + cEps) = _
  rw [meanCol_apply]
  simp only [mulf_apply, centred_apply]

theorem lnBlk_apply (w : FVec Ideal S512x1024 .f32) (g b : FVec Ideal S1x1024 .f32) (r : Fin 512) (j : Fin 1024) :
    lnBlk w g b (ix2 r j) = lnRow (fun k => w (ix2 r k)) (fun k => g (ix2 0 k)) (fun k => b (ix2 0 k)) j := by
  show centred w (ix2 r j) * broadcastTo S512x1024 (invDev w) _ (ix2 r j) * broadcastTo S512x1024 g _ (ix2 r j)
    + broadcastTo S512x1024 b _ (ix2 r j) = _
  rw [bcol, brow, brow, centred_apply, invDev_apply]
  rfl

/-- The residual and projection of one row whose heads are known. -/
theorem proj_apply (v1 : FVec Ideal S512x1024 .f32) (a : FVec Ideal S512x1024 .f32) (wo : FVec Ideal S1024x1024 .bf16)
    (A : Fin 1024 → EReal) (r : Fin 512) (ha : ∀ k, a (ix2 r k) = A k) (j : Fin 1024) :
    addf (mulf (broadcast S512x1024 (Scalar.ofBits .f32 0x3FB504F3#32 : Ideal .f32)) v1)
        (matmul dot_S512x1024_S1024x1024_S512x1024_1_0_0_1_n_n none (truncf .bf16 a bitsLt_bf16_f32)
          wo (constant S512x1024 .f32 0x00000000#32)) (ix2 r j)
      = cAlpha * v1 (ix2 r j) + ∑ k : Fin 1024, A k * wo (ix2 k j) := by
  rw [addf_apply, mm dot_S512x1024_S1024x1024_S512x1024_1_0_0_1_n_n rfl]
  simp only [truncf_apply, ha]
  rfl

/-- The last head, from its shifted scores. -/
theorem tail_apply (v : FVec Ideal S256x256 .bf16) (e : FVec Ideal S512x256 .f32) (r : Fin 512) (d : Fin 256) :
    divf (matmul dot_S512x256_S256x256_S512x256_1_0_0_1_n_n none (truncf .bf16 (exp e) bitsLt_bf16_f32) v
        (constant S512x256 .f32 0x00000000#32))
      (broadcastTo S512x256 (shapeCast S512x1 (multiReduction .add [1] S512 (exp e) 0x00000000#32 reduces_S512x256_S512 (.inl rfl) rfl)
        shapeCasts_S512_S512x1) broadcasts_S512x1_S512x256 : FVec Ideal S512x256 .f32) (ix2 r d)
      = Ideal.div (∑ m : Fin 256, Ideal.exp (e (ix2 r m)) * v (ix2 m d)) (∑ m : Fin 256, Ideal.exp (e (ix2 r m))) := by
  rw [divf_apply, mm dot_S512x256_S256x256_S512x256_1_0_0_1_n_n rfl, bcol, addCol, sumRow]
  rfl

theorem pay11_apply (v1 : FVec Ideal S512x1024 .f32) (a0 a1 a2 : FVec Ideal S512x256 .f32) (v : FVec Ideal S256x256 .bf16)
    (e : FVec Ideal S512x256 .f32) (wo : Vec Ideal S1024x1024 .bf16) (g b : Vec Ideal S1x1024 .f32) (H : Fin 4 → Fin 256 → EReal)
    (r : Fin 512) (h0 : ∀ d, a0 (ix2 r d) = H 0 d) (h1 : ∀ d, a1 (ix2 r d) = H 1 d) (h2 : ∀ d, a2 (ix2 r d) = H 2 d)
    (h3 : ∀ d, Ideal.div (∑ m : Fin 256, Ideal.exp (e (ix2 r m)) * v (ix2 m d)) (∑ m : Fin 256, Ideal.exp (e (ix2 r m))) = H 3 d)
    (j : Fin 1024) :
    k0_pay11 v1 a0 a1 a2 v e wo g b (ix2 r j)
      = lnRow (fun j => cAlpha * v1 (ix2 r j) + ∑ k : Fin 1024, H ⟨k.val / 256, by omega⟩ ⟨k.val % 256, by omega⟩ * wo (ix2 k j))
          (fun j => g (ix2 0 j)) (fun j => b (ix2 0 j)) j := by
  rw [show k0_pay11 v1 a0 a1 a2 v e wo g b = lnBlk (addf (mulf (broadcast S512x1024 (Scalar.ofBits .f32 0x3FB504F3#32 : Ideal .f32)) v1)
      (matmul dot_S512x1024_S1024x1024_S512x1024_1_0_0_1_n_n none (truncf .bf16 (concatenate S512x1024 1
        [⟨S512x256, a0⟩, ⟨S512x256, a1⟩, ⟨S512x256, a2⟩, ⟨S512x256, _⟩]
        concatenates_S512x256_S512x256_S512x256_S512x256_S512x1024_d1) bitsLt_bf16_f32)
        (shapeCast S1024x1024 wo shapeCasts_S1024x1024_S1024x1024 : FVec Ideal S1024x1024 .bf16) (constant S512x1024 .f32 0x00000000#32)))
      (shapeCast S1x1024 g shapeCasts_S1x1024_S1x1024) (shapeCast S1x1024 b shapeCasts_S1x1024_S1x1024) from rfl, lnBlk_apply]
  simp only [shapeCast_self]
  congr 1
  funext j
  exact proj_apply v1 _ wo _ r (cat4 _ _ _ _ H r h0 h1 h2 fun d => (tail_apply v e r d).trans (h3 d)) j

theorem pay15_apply (v111 : FVec Ideal S512x1024 .f32) (wr : Vec Ideal S1024x128 .f32) (r : Fin 512) (l : Fin 128) :
    k0_pay15 v111 wr (ix2 r l) = sig (∑ k : Fin 1024, v111 (ix2 r k) * wr (ix2 k l)) := by
  show Ideal.div (Ideal.ofBits .f32 0x3F800000#32)
    (Ideal.ofBits .f32 0x3F800000#32 + Ideal.exp (Ideal.ofBits .f32 0x00000000#32
      - matmul dot_S512x1024_S1024x128_S512x128_1_0_0_1_n_n none (truncf .bf16 v111 bitsLt_bf16_f32 : FVec Ideal S512x1024 .bf16)
        (truncf .bf16 (shapeCast S1024x128 wr shapeCasts_S1024x128_S1024x128 : FVec Ideal S1024x128 .f32) bitsLt_bf16_f32 : FVec Ideal S1024x128 .bf16)
        (constant S512x128 .f32 0x00000000#32) (ix2 r l))) = _
  rw [ofBits_one, show Ideal.ofBits .f32 0x00000000#32 = 0 by simp [Ideal.ofBits, Ideal.ieee],
    mm dot_S512x1024_S1024x128_S512x128_1_0_0_1_n_n rfl]
  simp only [truncf_apply, shapeCast_self]
  rfl

end MemAttnProof

end
-- ==== Proof.Route.lean ====
/-
  The choice of two experts as the kernel's 128 lanes compute it, row by row, over the extended reals, and its value when the
  best group, the first expert and the second expert are known.
-/
module

public import proofs.«01_k».proof.Proof.Algebra

@[expose] public section

noncomputable section

namespace MemAttnProof

open Idealize.ShloMosaic

/-- A lane number as a value. -/
abbrev lane (l : Fin 128) : EReal := ((l.val : ℝ) : EReal)

/-- The neighbouring lane in a pair, and the matching lane of the other pair of a group of four. -/
def pt1 (l : Fin 128) : Fin 128 := ⟨if l.val % 2 = 0 then (l.val + 1) % 128 else (l.val + 127) % 128, by split <;> omega⟩
def pt2 (l : Fin 128) : Fin 128 := ⟨if l.val / 2 % 2 = 0 then (l.val + 2) % 128 else (l.val + 126) % 128, by split <;> omega⟩

/-- The group number of a lane as a value. -/
abbrev grpLane (l : Fin 128) : EReal := (((l.val / 4 : ℕ) : ℝ) : EReal)

section Kernel
variable (NEG BIG : EReal) (sg b : Fin 128 → EReal)

def selL (l : Fin 128) : EReal := if l.val < 32 then sg l + b l else NEG
def hiL (l : Fin 128) : EReal := max (selL NEG sg b l) (selL NEG sg b (pt1 l))
def loL (l : Fin 128) : EReal := min (selL NEG sg b l) (selL NEG sg b (pt1 l))
def gsL (l : Fin 128) : EReal :=
  max (hiL NEG sg b l) (hiL NEG sg b (pt2 l))
    + max (min (hiL NEG sg b l) (hiL NEG sg b (pt2 l))) (max (loL NEG sg b l) (loL NEG sg b (pt2 l)))
open Classical in
def bestL : EReal :=
  Finset.univ.inf fun l : Fin 128 => if gsL NEG sg b l = Finset.univ.sup (gsL NEG sg b) ∧ l.val < 32 then grpLane l else BIG
def inL (l : Fin 128) : Prop := grpLane l = bestL NEG BIG sg b ∧ l.val < 32
open Classical in
def mskL (l : Fin 128) : EReal := if inL NEG BIG sg b l then selL NEG sg b l else NEG
open Classical in
def e1L : EReal :=
  Finset.univ.inf fun l : Fin 128 =>
    if inL NEG BIG sg b l ∧ mskL NEG BIG sg b l = Finset.univ.sup (mskL NEG BIG sg b) then lane l else BIG
def in2L (l : Fin 128) : Prop := inL NEG BIG sg b l ∧ lane l ≠ e1L NEG BIG sg b
open Classical in
def msk2L (l : Fin 128) : EReal := if in2L NEG BIG sg b l then selL NEG sg b l else NEG
open Classical in
def e2L : EReal :=
  Finset.univ.inf fun l : Fin 128 =>
    if in2L NEG BIG sg b l ∧ msk2L NEG BIG sg b l = Finset.univ.sup (msk2L NEG BIG sg b) then lane l else BIG
open Classical in
/-- The score on the lane whose number is `e`. -/
def pickL (e : EReal) : EReal := ∑ l : Fin 128, if lane l = e then sg l else 0

end Kernel

theorem lane_inj {l l' : Fin 128} (h : lane l = lane l') : l = l' := by
  have h1 : ((l.val : ℝ)) = (l'.val : ℝ) := by exact_mod_cast h
  exact Fin.ext (by exact_mod_cast h1)

theorem lane_le {l l' : Fin 128} : lane l ≤ lane l' ↔ l ≤ l' := by
  rw [Fin.le_def, EReal.coe_le_coe_iff, Nat.cast_le]

theorem pickL_lane (sg : Fin 128 → EReal) (e : Fin 128) : pickL sg (lane e) = sg e := by
  unfold pickL
  rw [Finset.sum_eq_single e]
  · rw [if_pos rfl]
  · intro l _ hl; rw [if_neg fun h => hl (lane_inj h)]
  · intro h; exact absurd (Finset.mem_univ _) h

/-- An expert as a lane. -/
def xl (e : Fin 32) : Fin 128 := ⟨e.val, by omega⟩
/-- Member `p` of group `g`. -/
def mem (g : Fin 8) (p : Fin 4) : Fin 32 := ⟨4 * g.val + p.val, by omega⟩

theorem gsL_eq (NEG : EReal) (sg b : Fin 128 → EReal) (l : Fin 128) :
    gsL NEG sg b l = pairSum (selL NEG sg b l) (selL NEG sg b (pt1 l)) (selL NEG sg b (pt2 l)) (selL NEG sg b (pt1 (pt2 l))) := rfl

/-- A group's sum is the same on each of its lanes. -/
theorem gsL_group (NEG : EReal) (sg b : Fin 128 → EReal) (g : Fin 8) (l : Fin 128) (hl : l.val / 4 = g.val) (p q : Fin 4)
    (hp : ∀ j, selL NEG sg b (xl (mem g j)) ≤ selL NEG sg b (xl (mem g p))) (hqp : q ≠ p)
    (hq : ∀ j, j ≠ p → selL NEG sg b (xl (mem g j)) ≤ selL NEG sg b (xl (mem g q))) :
    gsL NEG sg b l = selL NEG sg b (xl (mem g p)) + selL NEG sg b (xl (mem g q)) := by
  have h := pairSum_eq (fun j => selL NEG sg b (xl (mem g j))) p q hp hqp hq
  rw [← h, gsL_eq]
  have hg := g.isLt
  have hcase : l.val % 4 = 0 ∨ l.val % 4 = 1 ∨ l.val % 4 = 2 ∨ l.val % 4 = 3 := by omega
  have m0 : (xl (mem g 0)).val = 4 * g.val + 0 := rfl
  have m1 : (xl (mem g 1)).val = 4 * g.val + 1 := rfl
  have m2 : (xl (mem g 2)).val = 4 * g.val + 2 := rfl
  have m3 : (xl (mem g 3)).val = 4 * g.val + 3 := rfl
  have v1 : ∀ k : Fin 128, (pt1 k).val = if k.val % 2 = 0 then (k.val + 1) % 128 else (k.val + 127) % 128 := fun k => rfl
  have v2 : ∀ k : Fin 128, (pt2 k).val = if k.val / 2 % 2 = 0 then (k.val + 2) % 128 else (k.val + 126) % 128 := fun k => rfl
  rcases hcase with h0 | h0 | h0 | h0
  · rw [show l = xl (mem g 0) from Fin.ext (by omega), show pt1 (xl (mem g 0)) = xl (mem g 1) from Fin.ext (by rw [v1]; split <;> omega),
      show pt2 (xl (mem g 0)) = xl (mem g 2) from Fin.ext (by rw [v2]; split <;> omega),
      show pt1 (xl (mem g 2)) = xl (mem g 3) from Fin.ext (by rw [v1]; split <;> omega)]
  · rw [show l = xl (mem g 1) from Fin.ext (by omega), show pt1 (xl (mem g 1)) = xl (mem g 0) from Fin.ext (by rw [v1]; split <;> omega),
      show pt2 (xl (mem g 1)) = xl (mem g 3) from Fin.ext (by rw [v2]; split <;> omega),
      show pt1 (xl (mem g 3)) = xl (mem g 2) from Fin.ext (by rw [v1]; split <;> omega)]
    exact pairSum_swap1 _ _ _ _
  · rw [show l = xl (mem g 2) from Fin.ext (by omega), show pt1 (xl (mem g 2)) = xl (mem g 3) from Fin.ext (by rw [v1]; split <;> omega),
      show pt2 (xl (mem g 2)) = xl (mem g 0) from Fin.ext (by rw [v2]; split <;> omega),
      show pt1 (xl (mem g 0)) = xl (mem g 1) from Fin.ext (by rw [v1]; split <;> omega)]
    exact pairSum_swap2 _ _ _ _
  · rw [show l = xl (mem g 3) from Fin.ext (by omega), show pt1 (xl (mem g 3)) = xl (mem g 2) from Fin.ext (by rw [v1]; split <;> omega),
      show pt2 (xl (mem g 3)) = xl (mem g 1) from Fin.ext (by rw [v2]; split <;> omega),
      show pt1 (xl (mem g 1)) = xl (mem g 0) from Fin.ext (by rw [v1]; split <;> omega)]
    exact (pairSum_swap2 _ _ _ _).trans (pairSum_swap1 _ _ _ _)

/-- What the reference's sorts say of one row with biased scores `f` (one per expert): `T` is each group's sum of its two
    greatest, `g` the first best group, and `e1`, `e2` the first and second choice among the experts masked to that group. -/
structure Choice (NEG : EReal) (f : Fin 32 → EReal) (T : Fin 8 → EReal) (g : Fin 8) (e1 e2 : Fin 32) : Prop where
  sums : ∀ g', ∃ p q : Fin 4, (∀ j, f (mem g' j) ≤ f (mem g' p)) ∧ q ≠ p ∧ (∀ j, j ≠ p → f (mem g' j) ≤ f (mem g' q))
    ∧ T g' = f (mem g' p) + f (mem g' q)
  best : FirstMax (fun _ => True) T g
  first : FirstMax (fun _ => True) (fun e => if e.val / 4 = g.val then f e else NEG) e1
  second : FirstMax (fun e => e ≠ e1) (fun e => if e.val / 4 = g.val then f e else NEG) e2

section Main
variable {NEG BIG : EReal} {sg b : Fin 128 → EReal} {f : Fin 32 → EReal} {T : Fin 8 → EReal} {g : Fin 8} {e1 e2 : Fin 32}

theorem Choice.e1_in (h : Choice NEG f T g e1 e2) (hf : ∀ e, NEG < f e) : e1.val / 4 = g.val := by
  by_contra hne
  have h1 := (h.first.2 (mem g 0) trivial).1
  have hm : (mem g 0).val / 4 = g.val := by show (4 * g.val + 0) / 4 = g.val; omega
  simp only [hm, if_true, if_neg hne] at h1
  exact absurd h1 (not_le.mpr (hf _))

theorem Choice.e2_in (h : Choice NEG f T g e1 e2) (hf : ∀ e, NEG < f e) : e2.val / 4 = g.val := by
  by_contra hne
  obtain ⟨p, hp⟩ : ∃ p : Fin 4, mem g p ≠ e1 := by
    by_cases h0 : mem g 0 = e1
    · refine ⟨1, fun h1 => ?_⟩
      have := congrArg Fin.val (h0.trans h1.symm)
      simp [mem] at this
    · exact ⟨0, h0⟩
  have h1 := (h.second.2 (mem g p) hp).1
  have hm : (mem g p).val / 4 = g.val := by show (4 * g.val + p.val) / 4 = g.val; omega
  simp only [hm, if_true, if_neg hne] at h1
  exact absurd h1 (not_le.mpr (hf _))

variable (hsel : ∀ e : Fin 32, sg (xl e) + b (xl e) = f e) (hf : ∀ e, NEG < f e) (hB : ∀ l : Fin 128, lane l ≤ BIG)
  (h : Choice NEG f T g e1 e2)

include hsel in
theorem selL_xl (e : Fin 32) : selL NEG sg b (xl e) = f e := by
  unfold selL; rw [if_pos (show (xl e).val < 32 from e.isLt), hsel]

theorem selL_out (l : Fin 128) (hl : ¬ l.val < 32) : selL NEG sg b l = NEG := if_neg hl

include hsel h in
theorem gsL_in (l : Fin 128) (g' : Fin 8) (hl : l.val / 4 = g'.val) : gsL NEG sg b l = T g' := by
  obtain ⟨p, q, h1, h2, h3, h4⟩ := h.sums g'
  rw [gsL_group NEG sg b g' l hl p q (fun j => by rw [selL_xl hsel, selL_xl hsel]; exact h1 j) h2
    (fun j hj => by rw [selL_xl hsel, selL_xl hsel]; exact h3 j hj), selL_xl hsel, selL_xl hsel, h4]

theorem gsL_out (l : Fin 128) (hl : ¬ l.val < 32) : gsL NEG sg b l = NEG + NEG := by
  have v1 : ∀ k : Fin 128, (pt1 k).val = if k.val % 2 = 0 then (k.val + 1) % 128 else (k.val + 127) % 128 := fun k => rfl
  have v2 : ∀ k : Fin 128, (pt2 k).val = if k.val / 2 % 2 = 0 then (k.val + 2) % 128 else (k.val + 126) % 128 := fun k => rfl
  have a2 : ¬ (pt2 l).val < 32 := by rw [v2]; split <;> omega
  have a1 : ¬ (pt1 l).val < 32 := by rw [v1]; split <;> omega
  have a3 : ¬ (pt1 (pt2 l)).val < 32 := by rw [v1]; split <;> omega
  rw [gsL_eq, selL_out l hl, selL_out _ a1, selL_out _ a2, selL_out _ a3]
  simp [pairSum]

include hsel hf h in
theorem gs_sup : Finset.univ.sup (gsL NEG sg b) = T g := by
  refine sup_eq_of _ _ ⟨xl (mem g 0), gsL_in hsel h _ g (by show (4 * g.val + 0) / 4 = g.val; omega)⟩ fun l => ?_
  by_cases hl : l.val < 32
  · rw [gsL_in hsel h l ⟨l.val / 4, by omega⟩ rfl]; exact (h.best.2 _ trivial).1
  · rw [gsL_out l hl]
    obtain ⟨p, q, h1, h2, h3, h4⟩ := h.sums g
    rw [h4]; exact (EReal.add_lt_add (hf _) (hf _)).le

theorem grpLane_le {l l' : Fin 128} : grpLane l ≤ grpLane l' ↔ l.val / 4 ≤ l'.val / 4 := by
  rw [EReal.coe_le_coe_iff, Nat.cast_le]

include hB in
theorem grpLane_le_big (l : Fin 128) : grpLane l ≤ BIG := by
  have h1 := hB ⟨l.val / 4, by omega⟩
  exact h1

include hsel hf hB h in
theorem best_eq : bestL NEG BIG sg b = (((g.val : ℕ) : ℝ) : EReal) := by
  classical
  unfold bestL
  rw [gs_sup hsel hf h]
  have hg := g.isLt
  refine inf_eq_of _ _ ⟨xl (mem g 0), ?_⟩ fun l => ?_
  · rw [if_pos ⟨gsL_in hsel h _ g (by show (4 * g.val + 0) / 4 = g.val; omega), (mem g 0).isLt⟩]
    have : (xl (mem g 0)).val / 4 = g.val := by show (4 * g.val + 0) / 4 = g.val; omega
    unfold grpLane; rw [this]
  · split
    · rename_i hc
      rw [gsL_in hsel h l ⟨l.val / 4, by omega⟩ rfl] at hc
      have := (h.best.2 ⟨l.val / 4, by omega⟩ trivial).2 hc.1
      rw [Fin.le_def] at this
      unfold grpLane
      rw [EReal.coe_le_coe_iff, Nat.cast_le]; exact this
    · exact grpLane_le_big hB ⟨4 * g.val, by omega⟩ |>.trans' (by
        unfold grpLane; rw [EReal.coe_le_coe_iff, Nat.cast_le]; show g.val ≤ 4 * g.val / 4; omega)

include hsel hf hB h in
theorem inL_iff (l : Fin 128) : inL NEG BIG sg b l ↔ l.val < 32 ∧ l.val / 4 = g.val := by
  unfold inL
  rw [best_eq hsel hf hB h]
  unfold grpLane
  rw [EReal.coe_eq_coe_iff, Nat.cast_inj]
  exact and_comm

include hsel hf hB h in
theorem mskL_sup : Finset.univ.sup (mskL NEG BIG sg b) = f e1 := by
  have he := h.e1_in hf
  refine sup_eq_of _ _ ⟨xl e1, ?_⟩ fun l => ?_
  · unfold mskL
    rw [if_pos ((inL_iff hsel hf hB h _).mpr ⟨e1.isLt, he⟩), selL_xl hsel]
  · unfold mskL
    split
    · rename_i hi
      have hi := (inL_iff hsel hf hB h _).mp hi
      have h1 := (h.first.2 ⟨l.val, hi.1⟩ trivial).1
      simp only [hi.2, he, if_true] at h1
      rw [show l = xl ⟨l.val, hi.1⟩ from rfl, selL_xl hsel]; exact h1
    · exact (hf e1).le

include hsel hf hB h in
theorem e1_eq : e1L NEG BIG sg b = lane (xl e1) := by
  have he := h.e1_in hf
  unfold e1L
  rw [mskL_sup hsel hf hB h]
  refine inf_eq_of _ _ ⟨xl e1, ?_⟩ fun l => ?_
  · have hi := (inL_iff hsel hf hB h (xl e1)).mpr ⟨e1.isLt, he⟩
    rw [if_pos ⟨hi, by unfold mskL; rw [if_pos hi, selL_xl hsel]⟩]
  · split
    · rename_i hc
      have hi := (inL_iff hsel hf hB h _).mp hc.1
      have h2 := hc.2
      unfold mskL at h2
      rw [if_pos hc.1, show l = xl ⟨l.val, hi.1⟩ from rfl, selL_xl hsel] at h2
      have h1 := (h.first.2 ⟨l.val, hi.1⟩ trivial).2 (by simp only [hi.2, he, if_true]; exact h2)
      exact lane_le.mpr h1
    · exact hB _

include hsel hf hB h in
theorem in2L_iff (l : Fin 128) : in2L NEG BIG sg b l ↔ (l.val < 32 ∧ l.val / 4 = g.val) ∧ l ≠ xl e1 := by
  unfold in2L
  rw [inL_iff hsel hf hB h, e1_eq hsel hf hB h]
  exact and_congr_right fun _ => not_congr ⟨lane_inj, fun e => e ▸ rfl⟩

include hsel hf hB h in
theorem msk2L_sup : Finset.univ.sup (msk2L NEG BIG sg b) = f e2 := by
  have he := h.e2_in hf
  have hne : xl e2 ≠ xl e1 := fun e => h.second.1 (Fin.ext (show e2.val = e1.val from congrArg (fun z : Fin 128 => z.val) e))
  refine sup_eq_of _ _ ⟨xl e2, ?_⟩ fun l => ?_
  · unfold msk2L
    rw [if_pos ((in2L_iff hsel hf hB h _).mpr ⟨⟨e2.isLt, he⟩, hne⟩), selL_xl hsel]
  · unfold msk2L
    split
    · rename_i hi
      have hi := (in2L_iff hsel hf hB h _).mp hi
      have h1 := (h.second.2 ⟨l.val, hi.1.1⟩ fun e => hi.2 (Fin.ext (congrArg (fun z : Fin 32 => z.val) e))).1
      simp only [hi.1.2, he, if_true] at h1
      rw [show l = xl ⟨l.val, hi.1.1⟩ from rfl, selL_xl hsel]; exact h1
    · exact (hf e2).le

include hsel hf hB h in
theorem e2_eq : e2L NEG BIG sg b = lane (xl e2) := by
  have he := h.e2_in hf
  have hne : xl e2 ≠ xl e1 := fun e => h.second.1 (Fin.ext (show e2.val = e1.val from congrArg (fun z : Fin 128 => z.val) e))
  unfold e2L
  rw [msk2L_sup hsel hf hB h]
  refine inf_eq_of _ _ ⟨xl e2, ?_⟩ fun l => ?_
  · have hi := (in2L_iff hsel hf hB h (xl e2)).mpr ⟨⟨e2.isLt, he⟩, hne⟩
    rw [if_pos ⟨hi, by unfold msk2L; rw [if_pos hi, selL_xl hsel]⟩]
  · split
    · rename_i hc
      have hi := (in2L_iff hsel hf hB h _).mp hc.1
      have h2 := hc.2
      unfold msk2L at h2
      rw [if_pos hc.1, show l = xl ⟨l.val, hi.1.1⟩ from rfl, selL_xl hsel] at h2
      have h1 := (h.second.2 ⟨l.val, hi.1.1⟩ fun e => hi.2 (Fin.ext (congrArg (fun z : Fin 32 => z.val) e))).2
        (by simp only [hi.1.2, he, if_true]; exact h2)
      exact lane_le.mpr h1
    · exact hB _

end Main

end MemAttnProof

end
-- ==== Proof.Lanes.lean ====
/-
  The kernel's choice of two experts, block operations read at one row: each is the row computation of Route.
-/
module

public import proofs.«01_k».proof.Proof.Kernel
public import proofs.«01_k».proof.Proof.Route

@[expose] public section

noncomputable section

namespace MemAttnProof

open Idealize.ShloMosaic Idealize.ShloMosaic.ValueIdx Cert.MemAttnIdeal Cert.MemAttnIdeal.Gen

theorem sel_ofBool {α : Type} (p : Prop) [Decidable p] (a b : α) :
    Scalar.select (BitVec.ofBool (decide p)) a b = if p then a else b := by
  by_cases h : p <;> simp [Scalar.select, h]

theorem and_ofBool (p q : Prop) [Decidable p] [Decidable q] :
    BitVec.ofBool (decide p) &&& BitVec.ofBool (decide q) = BitVec.ofBool (decide (p ∧ q)) := by
  by_cases hp : p <;> by_cases hq : q <;> simp [hp, hq]

theorem andA {s : Shape} (x y : IVec s 1) (i : s.Idx) : andi x y i = x i &&& y i := rfl
theorem cmpA {s : Shape} (p : CmpFPredicate) (x y : FVec Ideal s .f32) (i : s.Idx) : cmpf p x y i = Ideal.cmp p (x i) (y i) := rfl

/-- The lane numbers of a block. -/
abbrev lanes : IVec S512x128 32 := iota .tc S512x128 32 [1] iota_S512x128_d1_w32

theorem lanes_apply (r : Fin 512) (l : Fin 128) : lanes (ix2 r l) = BitVec.ofNat 32 l.val :=
  iota_single_apply .tc S512x128 32 1 _ _

theorem toInt_lane : ∀ l : Fin 128, (BitVec.ofNat 32 l.val).toInt = (l.val : ℤ) := by decide +kernel
theorem toInt_group : ∀ l : Fin 128, (IntOp.shrui .vector (BitVec.ofNat 32 l.val) 2#32).toInt = ((l.val / 4 : ℕ) : ℤ) := by decide +kernel
theorem lt32 : ∀ l : Fin 128, IntOp.cmpi .slt (BitVec.ofNat 32 l.val) 32#32 = BitVec.ofBool (decide (l.val < 32)) := by decide +kernel
theorem lt4 : ∀ l : Fin 128, IntOp.cmpi .slt (BitVec.ofNat 32 l.val) 4#32 = BitVec.ofBool (decide (l.val < 4)) := by decide +kernel
theorem is0 : ∀ l : Fin 128, IntOp.cmpi .eq (BitVec.ofNat 32 l.val) 0#32 = BitVec.ofBool (decide (l.val = 0)) := by decide +kernel
theorem is1 : ∀ l : Fin 128, IntOp.cmpi .eq (BitVec.ofNat 32 l.val) 1#32 = BitVec.ofBool (decide (l.val = 1)) := by decide +kernel
theorem is2 : ∀ l : Fin 128, IntOp.cmpi .eq (BitVec.ofNat 32 l.val) 2#32 = BitVec.ofBool (decide (l.val = 2)) := by decide +kernel
theorem bit1 : ∀ l : Fin 128, IntOp.cmpi .eq (IntOp.andi (BitVec.ofNat 32 l.val) 1#32) 0#32 = BitVec.ofBool (decide (l.val % 2 = 0)) := by
  decide +kernel
theorem bit2 : ∀ l : Fin 128, IntOp.cmpi .eq (IntOp.andi (BitVec.ofNat 32 l.val) 2#32) 0#32 = BitVec.ofBool (decide (l.val / 2 % 2 = 0)) := by
  decide +kernel

theorem pay13_apply (r : Fin 512) (l : Fin 128) : k0_pay13 (F := Ideal) (ix2 r l) = lane l := by
  show (((lanes (ix2 r l)).toInt : ℝ) : EReal) = _
  rw [lanes_apply, toInt_lane]; rfl

theorem pay14_apply (r : Fin 512) (l : Fin 128) : k0_pay14 (ix2 r l) = BitVec.ofBool (decide (l.val < 32)) := by
  show IntOp.cmpi .slt (lanes (ix2 r l)) 32#32 = _
  rw [lanes_apply, lt32]

theorem pay21_apply (r : Fin 512) (l : Fin 128) : k0_pay21 (ix2 r l) = IntOp.andi (BitVec.ofNat 32 l.val) 2#32 := by
  show IntOp.andi (lanes (ix2 r l)) 2#32 = _
  rw [lanes_apply]

/-- The partner of a lane in its pair, and the matching lane of the other pair, as rotations select them. -/
theorem partner1 (v : FVec Ideal S512x128 .f32) (r : Fin 512) (l : Fin 128) :
    Scalar.select (BitVec.ofBool (decide (l.val % 2 = 0))) (dynamicRotate 1 127#32 none v rotates_S512x128_d1 (ix2 r l))
      (dynamicRotate 1 1#32 none v rotates_S512x128_d1 (ix2 r l)) = v (ix2 r (pt1 l)) := by
  rw [sel_ofBool]
  split
  · rename_i h
    refine rot 127#32 v _ r l (pt1 l) ?_
    show (if l.val % 2 = 0 then (l.val + 1) % 128 else (l.val + 127) % 128) = (l.val + 128 - 127) % 128
    rw [if_pos h]; omega
  · rename_i h
    refine rot 1#32 v _ r l (pt1 l) ?_
    show (if l.val % 2 = 0 then (l.val + 1) % 128 else (l.val + 127) % 128) = (l.val + 128 - 1) % 128
    rw [if_neg h]; omega

theorem partner2 (v : FVec Ideal S512x128 .f32) (r : Fin 512) (l : Fin 128) :
    Scalar.select (BitVec.ofBool (decide (l.val / 2 % 2 = 0))) (dynamicRotate 1 126#32 none v rotates_S512x128_d1 (ix2 r l))
      (dynamicRotate 1 2#32 none v rotates_S512x128_d1 (ix2 r l)) = v (ix2 r (pt2 l)) := by
  rw [sel_ofBool]
  split
  · rename_i h
    refine rot 126#32 v _ r l (pt2 l) ?_
    show (if l.val / 2 % 2 = 0 then (l.val + 2) % 128 else (l.val + 126) % 128) = (l.val + 128 - 126) % 128
    rw [if_pos h]; omega
  · rename_i h
    refine rot 2#32 v _ r l (pt2 l) ?_
    show (if l.val / 2 % 2 = 0 then (l.val + 2) % 128 else (l.val + 126) % 128) = (l.val + 128 - 2) % 128
    rw [if_neg h]; omega

section Row
variable (a : FVec Ideal S512x1024 .f32) (w : Vec Ideal S1024x128 .f32) (bb : Vec Ideal S1x128 .f32) (r : Fin 512)

/-- The scores and the biases of one row, by lane. -/
abbrev sgB : Fin 128 → EReal := fun l => k0_pay15 a w (ix2 r l)
abbrev bB : Fin 128 → EReal := fun l => bb (ix2 0 l)

theorem pay16_apply (l : Fin 128) : k0_pay16 a w bb (ix2 r l) = selL cNeg (sgB a w r) (bB bb) l := by
  show Scalar.select (k0_pay14 (ix2 r l)) (k0_pay15 a w (ix2 r l) + broadcastTo S512x128 (shapeCast S1x128 bb _) _ (ix2 r l)) cNeg = _
  rw [pay14_apply, sel_ofBool, brow, shapeCast_self]
  rfl

theorem pay17_apply (l : Fin 128) : k0_pay17 a w bb (ix2 r l) = selL cNeg (sgB a w r) (bB bb) (pt1 l) := by
  rw [← pay16_apply, ← partner1 (k0_pay16 a w bb)]
  show Scalar.select (IntOp.cmpi .eq (IntOp.andi (lanes (ix2 r l)) 1#32) 0#32) _ _ = _
  rw [lanes_apply, bit1]

theorem pay18_apply (l : Fin 128) : k0_pay18 a w bb (ix2 r l) = hiL cNeg (sgB a w r) (bB bb) l := by
  show max (k0_pay16 a w bb (ix2 r l)) (k0_pay17 a w bb (ix2 r l)) = _
  rw [pay16_apply, pay17_apply]; rfl

theorem pay19_apply (l : Fin 128) : k0_pay19 a w bb (ix2 r l) = loL cNeg (sgB a w r) (bB bb) l := by
  show min (k0_pay16 a w bb (ix2 r l)) (k0_pay17 a w bb (ix2 r l)) = _
  rw [pay16_apply, pay17_apply]; rfl

theorem pay20_apply (l : Fin 128) : k0_pay20 a w bb (ix2 r l) = hiL cNeg (sgB a w r) (bB bb) (pt2 l) := by
  rw [← pay18_apply, ← partner2 (k0_pay18 a w bb)]
  show Scalar.select (IntOp.cmpi .eq (IntOp.andi (lanes (ix2 r l)) 2#32) 0#32) _ _ = _
  rw [lanes_apply, bit2]

/-- A row's maximum, and its minimum, spread back over the lanes. -/
theorem maxSpread (v : FVec Ideal S512x128 .f32) (l : Fin 128) :
    broadcastTo S512x128 (shapeCast S512x1 (multiReduction .maximumf [1] S512 v 0xFF800000#32 reduces_S512x128_S512 (.inl rfl) rfl)
      shapeCasts_S512_S512x1) broadcasts_S512x1_S512x128 (ix2 r l) = Finset.univ.sup fun k : Fin 128 => v (ix2 r k) := by
  rw [bcol, addCol, maxRow]
theorem minSpread (v : FVec Ideal S512x128 .f32) (l : Fin 128) :
    broadcastTo S512x128 (shapeCast S512x1 (multiReduction .minimumf [1] S512 v 0x7F800000#32 reduces_S512x128_S512 (.inl rfl) rfl)
      shapeCasts_S512_S512x1) broadcasts_S512x1_S512x128 (ix2 r l) = Finset.univ.inf fun k : Fin 128 => v (ix2 r k) := by
  rw [bcol, addCol, minRow]

/-- The sums of the two greatest scores of a group, as the block computes them. -/
def gsB (v144 v145 v152 : FVec Ideal S512x128 .f32) (v154 : IVec S512x128 32) : FVec Ideal S512x128 .f32 :=
  addf (maximumf v144 v152) (maximumf (minimumf v144 v152) (maximumf v145
    (select (cmpi .eq v154 (broadcast S512x128 0#32)) (dynamicRotate 1 126#32 none v145 rotates_S512x128_d1)
      (dynamicRotate 1 2#32 none v145 rotates_S512x128_d1))))
def grpB (v122 : IVec S512x128 32) : FVec Ideal S512x128 .f32 := sitofp .f32 (shrui v122 (broadcast S512x128 2#32))
def bestB (v122 : IVec S512x128 32) (v125 : IVec S512x128 1) (gs : FVec Ideal S512x128 .f32) : FVec Ideal S512x128 .f32 :=
  select (andi (cmpf .oeq gs (broadcastTo S512x128 (shapeCast S512x1 (multiReduction .maximumf [1] S512 gs 0xFF800000#32
    reduces_S512x128_S512 (.inl rfl) rfl) shapeCasts_S512_S512x1) broadcasts_S512x1_S512x128)) v125) (grpB v122)
    (broadcast S512x128 (Scalar.ofBits .f32 0x4E6E6B28#32 : Ideal .f32))

theorem gsB_apply (l : Fin 128) :
    gsB (k0_pay18 a w bb) (k0_pay19 a w bb) (k0_pay20 a w bb) k0_pay21 (ix2 r l) = gsL cNeg (sgB a w r) (bB bb) l := by
  show max (k0_pay18 a w bb (ix2 r l)) (k0_pay20 a w bb (ix2 r l)) + max (min (k0_pay18 a w bb (ix2 r l)) (k0_pay20 a w bb (ix2 r l)))
    (max (k0_pay19 a w bb (ix2 r l)) (Scalar.select (IntOp.cmpi .eq (k0_pay21 (ix2 r l)) 0#32) _ _)) = _
  rw [pay21_apply, bit2, partner2, pay18_apply, pay19_apply, pay20_apply, pay19_apply]
  rfl

theorem grpB_apply (l : Fin 128) : grpB lanes (ix2 r l) = grpLane l := by
  show (((IntOp.shrui .vector (lanes (ix2 r l)) 2#32).toInt : ℝ) : EReal) = _
  rw [lanes_apply, toInt_group, Int.cast_natCast]

open Classical in
theorem oeq_eq (x y : EReal) : Ideal.cmp .oeq x y = BitVec.ofBool (decide (x = y)) := by
  simp [Ideal.cmp]
open Classical in
theorem one_eq (x y : EReal) : Ideal.cmp .one x y = BitVec.ofBool (decide (x ≠ y)) := by
  simp [Ideal.cmp]

theorem bestB_apply (l : Fin 128) :
    bestB lanes k0_pay14 (gsB (k0_pay18 a w bb) (k0_pay19 a w bb) (k0_pay20 a w bb) k0_pay21) (ix2 r l)
      = if gsL cNeg (sgB a w r) (bB bb) l = Finset.univ.sup (gsL cNeg (sgB a w r) (bB bb)) ∧ l.val < 32 then grpLane l else cBig := by
  classical
  unfold bestB
  rw [select_apply]
  show Scalar.select (Ideal.cmp .oeq _ _ &&& k0_pay14 (ix2 r l)) (grpB lanes (ix2 r l)) cBig = _
  rw [maxSpread, grpB_apply, pay14_apply, oeq_eq, and_ofBool, sel_ofBool]
  simp only [gsB_apply]

abbrev inB : IVec S512x128 1 := k0_pay22 lanes k0_pay14 (k0_pay18 a w bb) (k0_pay19 a w bb) (k0_pay20 a w bb) k0_pay21

open Classical in
theorem pay22_apply (l : Fin 128) : inB a w bb (ix2 r l) = BitVec.ofBool (decide (inL cNeg cBig (sgB a w r) (bB bb) l)) := by
  have h : inB a w bb = andi (cmpf .oeq (grpB lanes) (broadcastTo S512x128 (shapeCast S512x1 (multiReduction .minimumf [1] S512
      (bestB lanes k0_pay14 (gsB (k0_pay18 a w bb) (k0_pay19 a w bb) (k0_pay20 a w bb) k0_pay21)) 0x7F800000#32
      reduces_S512x128_S512 (.inl rfl) rfl) shapeCasts_S512_S512x1) broadcasts_S512x1_S512x128)) k0_pay14 := rfl
  rw [h, andA, cmpA, minSpread, grpB_apply, pay14_apply, oeq_eq, and_ofBool]
  simp only [bestB_apply]
  refine congrArg BitVec.ofBool (decide_eq_decide.mpr ?_)
  unfold inL bestL
  exact Iff.rfl

/-- Where a mask holds the greatest of the masked values, the lane number; elsewhere the sentinel. -/
def firstB (msk : IVec S512x128 1) (s : FVec Ideal S512x128 .f32) : FVec Ideal S512x128 .f32 :=
  select (andi msk (cmpf .oeq (select msk s (broadcast S512x128 (Scalar.ofBits .f32 0xF149F2CA#32 : Ideal .f32)))
    (broadcastTo S512x128 (shapeCast S512x1 (multiReduction .maximumf [1] S512
      (select msk s (broadcast S512x128 (Scalar.ofBits .f32 0xF149F2CA#32 : Ideal .f32))) 0xFF800000#32
      reduces_S512x128_S512 (.inl rfl) rfl) shapeCasts_S512_S512x1) broadcasts_S512x1_S512x128))) k0_pay13
    (broadcast S512x128 (Scalar.ofBits .f32 0x4E6E6B28#32 : Ideal .f32))

open Classical in
theorem firstB_apply (msk : IVec S512x128 1) (s : FVec Ideal S512x128 .f32) (P : Fin 128 → Prop)
    (hm : ∀ l, msk (ix2 r l) = BitVec.ofBool (decide (P l))) (l : Fin 128) :
    firstB msk s (ix2 r l) = if P l ∧ (if P l then s (ix2 r l) else cNeg) = Finset.univ.sup (fun l => if P l then s (ix2 r l) else cNeg)
      then lane l else cBig := by
  unfold firstB
  rw [select_apply]
  show Scalar.select (msk (ix2 r l) &&& Ideal.cmp .oeq (Scalar.select (msk (ix2 r l)) (s (ix2 r l)) cNeg) _) (k0_pay13 (F := Ideal) (ix2 r l) : EReal) cBig = _
  rw [maxSpread, pay13_apply, hm, oeq_eq, sel_ofBool, and_ofBool, sel_ofBool]
  have : ∀ k, select msk s (broadcast S512x128 (Scalar.ofBits .f32 0xF149F2CA#32 : Ideal .f32)) (ix2 r k) = if P k then s (ix2 r k) else cNeg := by
    intro k
    rw [select_apply, hm, sel_ofBool]; rfl
  simp only [this]

abbrev e1B : FVec Ideal S512x1 .f32 :=
  k0_pay23 lanes k0_pay13 k0_pay14 (k0_pay16 a w bb) (k0_pay18 a w bb) (k0_pay19 a w bb) (k0_pay20 a w bb) k0_pay21

theorem pay23_apply : e1B a w bb (ix2 r 0) = e1L cNeg cBig (sgB a w r) (bB bb) := by
  classical
  have h : e1B a w bb = shapeCast S512x1 (multiReduction .minimumf [1] S512 (firstB (inB a w bb) (k0_pay16 a w bb)) 0x7F800000#32
      reduces_S512x128_S512 (.inl rfl) rfl) shapeCasts_S512_S512x1 := rfl
  rw [h, addCol, minRow]
  simp only [firstB_apply r _ _ _ (pay22_apply a w bb r), pay16_apply]
  rfl

/-- The lanes of the best group but the first choice. -/
abbrev in2B : IVec S512x128 1 := andi (inB a w bb) (cmpf .one k0_pay13 (broadcastTo S512x128 (e1B a w bb) broadcasts_S512x1_S512x128))

open Classical in
theorem in2B_apply (l : Fin 128) : in2B a w bb (ix2 r l) = BitVec.ofBool (decide (in2L cNeg cBig (sgB a w r) (bB bb) l)) := by
  rw [in2B, andA, cmpA, bcol, pay23_apply, pay22_apply, pay13_apply, one_eq, and_ofBool]
  refine congrArg BitVec.ofBool (decide_eq_decide.mpr ?_)
  unfold in2L
  exact Iff.rfl

abbrev msk2B : IVec S512x128 1 :=
  k0_pay24 lanes k0_pay13 k0_pay14 (k0_pay16 a w bb) (k0_pay18 a w bb) (k0_pay19 a w bb) (k0_pay20 a w bb) k0_pay21

/-- The column of the second choice. -/
def e2B : FVec Ideal S512x1 .f32 :=
  shapeCast S512x1 (multiReduction .minimumf [1] S512 (firstB (in2B a w bb) (k0_pay16 a w bb)) 0x7F800000#32
      reduces_S512x128_S512 (.inl rfl) rfl) shapeCasts_S512_S512x1

theorem e2B_apply : e2B a w bb (ix2 r 0) = e2L cNeg cBig (sgB a w r) (bB bb) := by
  classical
  unfold e2B
  rw [addCol, minRow]
  simp only [firstB_apply r _ _ _ (in2B_apply a w bb r), pay16_apply]
  rfl

/-- The column of the scores on the chosen lanes. -/
def pickB (s : FVec Ideal S512x128 .f32) (e : FVec Ideal S512x1 .f32) : FVec Ideal S512x1 .f32 :=
  shapeCast S512x1 (multiReduction .add [1] S512 (select (cmpf .oeq k0_pay13 (broadcastTo S512x128 e broadcasts_S512x1_S512x128)) s
    (broadcast S512x128 (Scalar.ofBits .f32 0x00000000#32 : Ideal .f32))) 0x00000000#32 reduces_S512x128_S512 (.inl rfl) rfl)
    shapeCasts_S512_S512x1

theorem pickB_apply (s : FVec Ideal S512x128 .f32) (e : FVec Ideal S512x1 .f32) :
    pickB s e (ix2 r 0) = pickL (fun l => s (ix2 r l)) (e (ix2 r 0)) := by
  classical
  unfold pickB pickL
  rw [addCol, sumRow]
  refine Finset.sum_congr rfl fun l _ => ?_
  rw [select_apply]
  show Scalar.select (Ideal.cmp .oeq (k0_pay13 (F := Ideal) (ix2 r l)) (broadcastTo S512x128 e _ (ix2 r l))) _ (Ideal.ofBits .f32 0x00000000#32) = _
  rw [bcol, pay13_apply, oeq_eq, sel_ofBool, show Ideal.ofBits .f32 0x00000000#32 = 0 by simp [Ideal.ofBits, Ideal.ieee]]

/-- The route of one row on one lane: the two chosen experts, their normalised scores, zeros. -/
def routeRow (sg : Fin 128 → EReal) (e1 e2 : EReal) (l : Fin 128) : EReal :=
  if l.val < 4 then
    if l.val = 0 then e1 else if l.val = 1 then e2
    else if l.val = 2 then Ideal.div (pickL sg e1) (pickL sg e1 + pickL sg e2) else Ideal.div (pickL sg e2) (pickL sg e1 + pickL sg e2)
  else 0

theorem pay25_apply (l : Fin 128) :
    k0_pay25 lanes k0_pay13 (k0_pay15 a w) (e1B a w bb) (msk2B a w bb) (Scalar.ofBits .f32 0x4E6E6B28#32) (ix2 r l)
      = routeRow (sgB a w r) (e1L cNeg cBig (sgB a w r) (bB bb)) (e2L cNeg cBig (sgB a w r) (bB bb)) l := by
  classical
  have h : k0_pay25 lanes k0_pay13 (k0_pay15 a w) (e1B a w bb) (msk2B a w bb) (Scalar.ofBits .f32 0x4E6E6B28#32)
      = select (cmpi .slt lanes (broadcast S512x128 4#32))
          (select (cmpi .eq lanes (broadcast S512x128 0#32)) (broadcastTo S512x128 (shapeCast S512x1 (e1B a w bb) shapeCasts_S512x1_S512x1) broadcasts_S512x1_S512x128)
            (select (cmpi .eq lanes (broadcast S512x128 1#32)) (broadcastTo S512x128 (shapeCast S512x1 (e2B a w bb) shapeCasts_S512x1_S512x1) broadcasts_S512x1_S512x128)
              (select (cmpi .eq lanes (broadcast S512x128 2#32))
                (broadcastTo S512x128 (shapeCast S512x1 (divf (pickB (k0_pay15 a w) (e1B a w bb))
                  (addf (pickB (k0_pay15 a w) (e1B a w bb)) (pickB (k0_pay15 a w) (e2B a w bb)))) shapeCasts_S512x1_S512x1) broadcasts_S512x1_S512x128)
                (broadcastTo S512x128 (shapeCast S512x1 (divf (pickB (k0_pay15 a w) (e2B a w bb))
                  (addf (pickB (k0_pay15 a w) (e1B a w bb)) (pickB (k0_pay15 a w) (e2B a w bb)))) shapeCasts_S512x1_S512x1) broadcasts_S512x1_S512x128))))
          (broadcast S512x128 (Scalar.ofBits .f32 0x00000000#32 : Ideal .f32)) := rfl
  rw [h]
  simp only [select_apply, shapeCast_self, bcol, divf_apply, addf_apply, pickB_apply, pay23_apply, e2B_apply]
  show Scalar.select (IntOp.cmpi .slt (lanes (ix2 r l)) 4#32) (Scalar.select (IntOp.cmpi .eq (lanes (ix2 r l)) 0#32) _
    (Scalar.select (IntOp.cmpi .eq (lanes (ix2 r l)) 1#32) _ (Scalar.select (IntOp.cmpi .eq (lanes (ix2 r l)) 2#32) _ _)))
    (Ideal.ofBits .f32 0x00000000#32) = _
  rw [lanes_apply, lt4, is0, is1, is2, sel_ofBool, sel_ofBool, sel_ofBool, sel_ofBool,
    show Ideal.ofBits .f32 0x00000000#32 = 0 by simp [Ideal.ofBits, Ideal.ieee]]
  rfl

end Row

end MemAttnProof

end
-- ==== Proof.Blocks.lean ====
/-
  The arrays the memory-attention kernel leaves, index by index: each block of 512 rows is the row computation of the
  arguments, and the blocks cover the arrays.
-/
module

public import Idealize.ShloMosaic.Lib.Pipeline.ValueKit
public import Idealize.ShloMosaic.Lib.StableHlo.RunRead
public import proofs.«01_k».proof.Proof.Lanes

@[expose] public section

set_option maxRecDepth 16384

noncomputable section

namespace MemAttnProof

open Idealize.ShloMosaic hiding ix1 ix2 ix3
open Idealize.ShloMosaic.TcCoe Idealize.ShloMosaic.ValueIdx Cert.MemAttnIdeal Cert.MemAttnIdeal.Gen Cert.MemAttnIdeal.Value
open Idealize.SL.Sem

/-- One row of scaled queries. -/
def qRow (x : Fin 1024 → EReal) (wq : Fin 1024 → Fin 1024 → EReal) (j : Fin 1024) : EReal := (∑ k, x k * wq k j) * c16

/-- One head's row, from the queries and the keys and values. -/
def headK (q : Fin 1024 → EReal) (kv : Fin 256 → Fin 2048 → EReal) (h : Fin 4) (d : Fin 256) : EReal :=
  headRow (fun m => ∑ e : Fin 256, q ⟨256 * h.val + e.val, by omega⟩ * kv m ⟨256 * h.val + e.val, by omega⟩)
    (fun m => kv m ⟨1024 + 256 * h.val + d.val, by omega⟩)

/-- One row of the layer: attention over the memory, projection, residual, layer norm. -/
def x2Row (x : Fin 1024 → EReal) (kv : Fin 256 → Fin 2048 → EReal) (wq wo : Fin 1024 → Fin 1024 → EReal) (g b : Fin 1024 → EReal) :
    Fin 1024 → EReal :=
  lnRow (fun j => cAlpha * x j + ∑ k : Fin 1024, headK (qRow x wq) kv ⟨k.val / 256, by omega⟩ ⟨k.val % 256, by omega⟩ * wo k j) g b

section Block
variable (x0 : Vec Ideal S1x512x1024 .f32) (x1 : Vec Ideal S1x256x2048 .bf16) (x2 x3 : Vec Ideal S1024x1024 .bf16)
  (x4 : Vec Ideal S8x1024 .f32) (x5 : Vec Ideal S1024x128 .f32) (x6 : Vec Ideal S8x128 .f32)

/-- The layer's row of one block. -/
abbrev x2B (r : Fin 512) : Fin 1024 → EReal :=
  x2Row (fun k => x0 (ix3 0 r k)) (fun m l => x1 (ix3 0 m l)) (fun k j => x2 (ix2 k j)) (fun k j => x3 (ix2 k j))
    (fun j => x4 (ix2 0 j)) (fun j => x4 (ix2 1 j))

theorem kvSlice (off : Nat) (hoff : off + 256 ≤ 2048) (inb : ∀ a, (![0, 0, off] : Fin 3 → Nat) a + S1x256x256.size a ≤ S1x256x2048.size a)
    (m d : Fin 256) : View.ld (Val := Elt Ideal) x1 (Rect.unit (s := S1x256x2048) ![0, 0, off] S1x256x256.size inb) (ix3 0 m d)
      = x1 (ix3 0 m ⟨off + d.val, by omega⟩) := by
  rw [View.ld_unit]
  exact extractStridedSlice_apply _ x1 _ _ _ fun a => by
    match a with
    | ⟨0, _⟩ => rfl
    | ⟨1, _⟩ => show m.val = 0 + m.val; omega
    | ⟨2, _⟩ => rfl

theorem pay33_apply (r : Fin 512) (j : Fin 1024) : k0_pay33 x0 x1 x2 x3 x4 x5 x6 (ix2 r j) = x2B x0 x1 x2 x3 x4 r j := by
  have q3 : ∀ j, k0_pay3 x0 x2 (ix2 r j) = qRow (fun k => x0 (ix3 0 r k)) (fun k j => x2 (ix2 k j)) j := fun j => pay3_apply x0 x2 r j
  have z3 : (![0, 0, 0] : Fin 3 → Nat) = fun _ => 0 := by funext a; match a with | ⟨0, _⟩ => rfl | ⟨1, _⟩ => rfl | ⟨2, _⟩ => rfl
  have z2 : (![0, 0] : Fin 2 → Nat) = fun _ => 0 := by funext a; match a with | ⟨0, _⟩ => rfl | ⟨1, _⟩ => rfl
  have l0 : View.ld (Val := Elt Ideal) x0 r0_0 = x0 := View.ld_unit_zero z3 _ x0
  have l2 : View.ld (Val := Elt Ideal) x2 r0_1 = x2 := View.ld_unit_zero z2 _ x2
  have l3 : View.ld (Val := Elt Ideal) x3 r0_1 = x3 := View.ld_unit_zero z2 _ x3
  unfold k0_pay33 k0_pay26 k0_pay28 k0_pay29 k0_pay30 k0_pay31 k0_pay32 k0_pay27
  rw [l0, l2, l3]
  refine (pay11_apply _ _ _ _ _ _ _ _ _ (headK (qRow (fun k => x0 (ix3 0 r k)) (fun k j => x2 (ix2 k j))) (fun m l => x1 (ix3 0 m l))) r
    ?_ ?_ ?_ ?_ j).trans ?_
  · intro d
    rw [pay4_apply]
    unfold headK
    simp only [q3, kvSlice x1 0 (by omega), kvSlice x1 1024 (by omega)]
    rfl
  · intro d
    rw [pay7_apply]
    unfold headK
    simp only [pay6_apply, q3, k0_pay5, dropUnit, kvSlice x1 256 (by omega), kvSlice x1 1280 (by omega)]
    rfl
  · intro d
    rw [pay8_apply]
    unfold headK
    simp only [q3, kvSlice x1 512 (by omega), kvSlice x1 1536 (by omega)]
    rfl
  · intro d
    unfold headK headRow
    simp only [pay10_apply, q3, k0_pay9, dropUnit, kvSlice x1 768 (by omega), kvSlice x1 1792 (by omega)]
    rfl
  · have g0 : ∀ j : Fin 1024, View.ld (Val := Elt Ideal) x4 r0_10 (ix2 0 j) = x4 (ix2 0 j) := fun j => by
      rw [View.ld_unit]
      exact extractStridedSlice_apply _ x4 _ _ _ fun a => by
        match a with
        | ⟨0, _⟩ => rfl
        | ⟨1, _⟩ => show j.val = 0 + j.val; omega
    have g1 : ∀ j : Fin 1024, View.ld (Val := Elt Ideal) x4 r0_11 (ix2 0 j) = x4 (ix2 1 j) := fun j => by
      rw [View.ld_unit]
      exact extractStridedSlice_apply _ x4 _ _ _ fun a => by
        match a with
        | ⟨0, _⟩ => rfl
        | ⟨1, _⟩ => show j.val = 0 + j.val; omega
    simp only [g0, g1]
    unfold k0_pay2
    simp only [dropUnit]
    rfl

/-- The scores of one row of a block, by lane. -/
abbrev sgBlk (r : Fin 512) (l : Fin 128) : EReal := sig (∑ k : Fin 1024, x2B x0 x1 x2 x3 x4 r k * x5 (ix2 k l))

theorem out7_apply (r : Fin 512) (j : Fin 1024) :
    out0_7 x0 x1 x2 x3 x4 x5 x6 (ix3 0 r j) = x2B x0 x1 x2 x3 x4 r j := by
  have z3 : (![0, 0, 0] : Fin 3 → Nat) = fun _ => 0 := by funext a; match a with | ⟨0, _⟩ => rfl | ⟨1, _⟩ => rfl | ⟨2, _⟩ => rfl
  rw [← pay33_apply x0 x1 x2 x3 x4 x5 x6]
  unfold out0_7
  rw [View.canon_unit_zero z3]
  exact addUnit (k0_pay33 x0 x1 x2 x3 x4 x5 x6) shapeCasts_S512x1024_S1x512x1024 0 r j

theorem out8_apply (r : Fin 512) (l : Fin 128) :
    out0_8 x0 x1 x2 x3 x4 x5 x6 (ix3 0 r l)
      = routeRow (sgBlk x0 x1 x2 x3 x4 x5 r) (e1L cNeg cBig (sgBlk x0 x1 x2 x3 x4 x5 r) (fun l => x6 (ix2 0 l)))
          (e2L cNeg cBig (sgBlk x0 x1 x2 x3 x4 x5 r) (fun l => x6 (ix2 0 l))) l := by
  have z3 : (![0, 0, 0] : Fin 3 → Nat) = fun _ => 0 := by funext a; match a with | ⟨0, _⟩ => rfl | ⟨1, _⟩ => rfl | ⟨2, _⟩ => rfl
  have z2 : (![0, 0] : Fin 2 → Nat) = fun _ => 0 := by funext a; match a with | ⟨0, _⟩ => rfl | ⟨1, _⟩ => rfl
  have l5 : View.ld (Val := Elt Ideal) x5 r0_12 = x5 := View.ld_unit_zero z2 _ x5
  have hs : sgB (k0_pay33 x0 x1 x2 x3 x4 x5 x6) x5 r = sgBlk x0 x1 x2 x3 x4 x5 r := by
    funext l
    rw [sgB, pay15_apply]
    simp only [pay33_apply]
  have hb : bB (View.ld (Val := Elt Ideal) x6 r0_13) = fun l => x6 (ix2 0 l) := by
    funext l
    show View.ld (Val := Elt Ideal) x6 r0_13 (ix2 0 l) = _
    rw [View.ld_unit]
    exact extractStridedSlice_apply _ x6 _ _ _ fun a => by
      match a with
      | ⟨0, _⟩ => rfl
      | ⟨1, _⟩ => show l.val = 0 + l.val; omega
  rw [← hs, ← hb, ← pay25_apply]
  unfold out0_8
  rw [View.canon_unit_zero z3]
  unfold k0_pay1
  refine (addUnit _ shapeCasts_S512x128_S1x512x128 0 r l).trans ?_
  unfold k0_pay34 k0_pay35 k0_pay36 k0_pay37 k0_pay38 k0_pay39 k0_pay40 k0_pay41
  rw [l5]

end Block

end MemAttnProof

end
-- ==== Proof.Arrays.lean ====
/-
  The arrays the memory-attention kernel leaves, index by index, as functions of the arguments.
-/
module

public import Idealize.ShloMosaic.Lib.KernelVsHost
public import Idealize.ShloMosaic.Lib.StableHlo.ReadAt
public import proofs.«01_k».proof.Proof.Blocks

@[expose] public section

set_option maxRecDepth 16384

noncomputable section

namespace MemAttnProof

open Idealize.ShloMosaic hiding ix1 ix2 ix3
open Idealize.ShloMosaic.TcCoe Idealize.ShloMosaic.ValueIdx Cert.MemAttnIdeal Cert.MemAttnIdeal.Gen Cert.MemAttnIdeal.Value
open Idealize.SL.Sem

variable (m : (ℓ : Loc nD τ Cert.MemAttnIdeal.sig) → Buf (Elt Idealize.ShloMosaic.Ideal) ℓ) (c : Dev nD)

theorem V_v7 : V m c main_v7 = (truncf .bf16 (m ((c : Thread nD τ).loc main_arg2) : FVec Ideal S1024x1024 .f32) bitsLt_bf16_f32 : FVec Ideal S1024x1024 .bf16) := by
  unfold V hostOps0 hostOps0_1 hostOps0_2 hostOps0_3 hostOps0_4
  after_reads_simp
  try rfl

theorem V_v8 : V m c main_v8 = (truncf .bf16 (m ((c : Thread nD τ).loc main_arg3) : FVec Ideal S1024x1024 .f32) bitsLt_bf16_f32 : FVec Ideal S1024x1024 .bf16) := by
  unfold V hostOps0 hostOps0_1 hostOps0_2 hostOps0_3 hostOps0_4
  after_reads_simp
  try rfl

theorem V_v6 : V m c main_v6 = (concatenate S8x1024 0 [⟨S1x1024, broadcastInDim S1x1024 ![1] bcast_S1024_S1x1024_1 (m ((c : Thread nD τ).loc main_arg4) : Vec Ideal S1024 .f32)⟩,
    ⟨S1x1024, broadcastInDim S1x1024 ![1] bcast_S1024_S1x1024_1 (m ((c : Thread nD τ).loc main_arg5) : Vec Ideal S1024 .f32)⟩,
    ⟨S6x1024, broadcastInDim S6x1024 ![] bcast_S_S6x1024 (constant S_ .f32 0x00000000#32 : FVec Ideal S_ .f32)⟩] concatenates_S1x1024_S1x1024_S6x1024_S8x1024_d0 : Vec Ideal S8x1024 .f32) := by
  unfold V hostOps0 hostOps0_1 hostOps0_2 hostOps0_3 hostOps0_4
  after_reads_simp
  try rfl

theorem V_v0 : V m c main_v0 = (pad S1024x128 ![0, 0] ![0, 96] ![0, 0] (m ((c : Thread nD τ).loc main_arg6) : Vec Ideal S1024x32 .f32)
    (sitofp .f32 (constantI S_ 32 0#32) : FVec Ideal S_ .f32) pads_S1024x32_S1024x128_000_0960 h_S_ : Vec Ideal S1024x128 .f32) := by
  unfold V hostOps0 hostOps0_1 hostOps0_2 hostOps0_3 hostOps0_4
  after_reads_simp
  try rfl

theorem V_v2 : V m c main_v2 = (pad S8x128 ![0, 0] ![7, 96] ![0, 0] (shapeCast S1x32 (m ((c : Thread nD τ).loc main_arg7) : Vec Ideal S32 .f32) shapeCasts_S32_S1x32)
    (sitofp .f32 (constantI S_ 32 0#32) : FVec Ideal S_ .f32) pads_S1x32_S8x128_070_0960 h_S_ : Vec Ideal S8x128 .f32) := by
  unfold V hostOps0 hostOps0_1 hostOps0_2 hostOps0_3 hostOps0_4
  after_reads_simp
  try rfl

/-- The arguments, at their types. -/
abbrev aX : Vec Ideal S8x2048x1024 .f32 := m ((c : Thread nD τ).loc main_arg0)
abbrev aKv : Vec Ideal S8x256x2048 .bf16 := m ((c : Thread nD τ).loc main_arg1)
abbrev aWq : FVec Ideal S1024x1024 .f32 := m ((c : Thread nD τ).loc main_arg2)
abbrev aWo : FVec Ideal S1024x1024 .f32 := m ((c : Thread nD τ).loc main_arg3)
abbrev aG : Vec Ideal S1024 .f32 := m ((c : Thread nD τ).loc main_arg4)
abbrev aB : Vec Ideal S1024 .f32 := m ((c : Thread nD τ).loc main_arg5)
abbrev aWr : Vec Ideal S1024x32 .f32 := m ((c : Thread nD τ).loc main_arg6)
abbrev aBr : Vec Ideal S32 .f32 := m ((c : Thread nD τ).loc main_arg7)

theorem v7_at (i : S1024x1024.Idx) : V m c main_v7 i = aWq m c i := by rw [V_v7]; rfl
theorem v8_at (i : S1024x1024.Idx) : V m c main_v8 i = aWo m c i := by rw [V_v8]; rfl

theorem v6_row0 (j : Fin 1024) : V m c main_v6 (ix2 (0 : Fin 8) j) = aG m c (ix1 j) := by
  rw [V_v6]
  refine (concatenate_apply_piece (t := S8x1024) 0 _ _ (ix2 (0 : Fin 8) j) 0 (by simp) S1x1024 _ rfl rfl 0 rfl
    (ix2 (0 : Fin 1) j) (fun b hb => ?_) rfl).trans ?_
  · match b with
    | ⟨0, _⟩ => exact absurd rfl hb
    | ⟨1, _⟩ => rfl
  · exact broadcastInDim_apply _ _ _ _ (ix1 j) fun a => by
      match a with
      | ⟨0, _⟩ => rfl

theorem v6_row1 (j : Fin 1024) : V m c main_v6 (ix2 (1 : Fin 8) j) = aB m c (ix1 j) := by
  rw [V_v6]
  refine (concatenate_apply_piece (t := S8x1024) 0 _ _ (ix2 (1 : Fin 8) j) 1 (by simp) S1x1024 _ rfl rfl 1 rfl
    (ix2 (0 : Fin 1) j) (fun b hb => ?_) rfl).trans ?_
  · match b with
    | ⟨0, _⟩ => exact absurd rfl hb
    | ⟨1, _⟩ => rfl
  · exact broadcastInDim_apply _ _ _ _ (ix1 j) fun a => by
      match a with
      | ⟨0, _⟩ => rfl

theorem v0_at (k : Fin 1024) (e : Fin 32) : V m c main_v0 (ix2 k (xl e)) = aWr m c (ix2 k e) := by
  rw [V_v0]
  exact pad_apply_of_inside _ _ _ _ _ _ _ _ (ix2 k e) fun a => by
    match a with
    | ⟨0, _⟩ => show k.val = 0 + k.val * (0 + 1); omega
    | ⟨1, _⟩ => show e.val = 0 + e.val * (0 + 1); omega

theorem v2_at (e : Fin 32) : V m c main_v2 (ix2 (0 : Fin 8) (xl e)) = aBr m c (ix1 e) := by
  rw [V_v2]
  refine (pad_apply_of_inside _ _ _ _ _ _ _ _ (ix2 (0 : Fin 1) e) fun a => by
    match a with
    | ⟨0, _⟩ => rfl
    | ⟨1, _⟩ => show e.val = 0 + e.val * (0 + 1); omega).trans ?_
  exact shapeCast_apply _ _ _ (ix1 e) (by simp [Shape.rowMajor_val_one, Shape.rowMajor_val_two])

/-- The layer's row at a batch and a position, from the arguments. -/
def x2At (b : Fin 8) (s : Fin 2048) : Fin 1024 → EReal :=
  x2Row (fun k => aX m c (ix3 b s k)) (fun t l => aKv m c (ix3 b t l)) (fun k j => aWq m c (ix2 k j)) (fun k j => aWo m c (ix2 k j))
    (fun j => aG m c (ix1 j)) (fun j => aB m c (ix1 j))

/-- The router's scores by lane (lanes 32 and up hold the scores of the padding). -/
def sgAt (b : Fin 8) (s : Fin 2048) (l : Fin 128) : EReal := sig (∑ k : Fin 1024, x2At m c b s k * (V m c main_v0 : Vec Ideal S1024x128 .f32) (ix2 k l))
/-- The router's biases by lane. -/
def bAt (l : Fin 128) : EReal := (V m c main_v2 : Vec Ideal S8x128 .f32) (ix2 0 l)

/-- The first result. -/
def G7 : Vec Ideal S8x2048x1024 .f32 := fun i => x2At m c (i 0) (i 1) (i 2)
/-- The second result. -/
def G8 : Vec Ideal S8x2048x128 .f32 := fun i =>
  routeRow (sgAt m c (i 0) (i 1)) (e1L cNeg cBig (sgAt m c (i 0) (i 1)) (bAt m c)) (e2L cNeg cBig (sgAt m c (i 0) (i 1)) (bAt m c)) (i 2)

theorem ix0 : ∀ t : Fin cfg0.N, win0_0.index t = ![t.val / 4, t.val % 4, 0] := (by decide +kernel : ∀ t : Fin grid0.N, _)
theorem ixKv : ∀ t : Fin cfg0.N, win0_1.index t = ![t.val / 4, 0, 0] := (by decide +kernel : ∀ t : Fin grid0.N, _)
theorem ixW2 : ∀ t : Fin cfg0.N, win0_2.index t = ![0, 0] := (by decide +kernel : ∀ t : Fin grid0.N, _)
theorem ixW3 : ∀ t : Fin cfg0.N, win0_3.index t = ![0, 0] := (by decide +kernel : ∀ t : Fin grid0.N, _)
theorem ixW4 : ∀ t : Fin cfg0.N, win0_4.index t = ![0, 0] := (by decide +kernel : ∀ t : Fin grid0.N, _)
theorem ixW5 : ∀ t : Fin cfg0.N, win0_5.index t = ![0, 0] := (by decide +kernel : ∀ t : Fin grid0.N, _)
theorem ixW6 : ∀ t : Fin cfg0.N, win0_6.index t = ![0, 0] := (by decide +kernel : ∀ t : Fin grid0.N, _)
theorem ix7 : ∀ t : Fin cfg0.N, win0_7.index t = ![t.val / 4, t.val % 4, 0] := (by decide +kernel : ∀ t : Fin grid0.N, _)
theorem ix8 : ∀ t : Fin cfg0.N, win0_8.index t = ![t.val / 4, t.val % 4, 0] := (by decide +kernel : ∀ t : Fin grid0.N, _)

/-- The batch and the position of a row of a point's block. -/
def ptB (t : Fin cfg0.N) : Fin 8 := ⟨t.val / 4, by have : t.val < 32 := t.isLt; omega⟩
def ptS (t : Fin cfg0.N) (r : Fin 512) : Fin 2048 := ⟨t.val % 4 * 512 + r.val, by omega⟩

theorem b0_at (t : Fin cfg0.N) (r : Fin 512) (k : Fin 1024) : iblk m c 0 t (ix3 (0 : Fin 1) r k) = aX m c (ix3 (ptB t) (ptS t r) k) := by
  show V m c main_arg0 (((cfg0.win 0).blk t).view.emb (ix3 (0 : Fin 1) r k)) = _
  rw [V_main_arg0]
  refine congrArg _ (funext fun a => Fin.ext ?_)
  have e := ix0 t
  match a with
  | ⟨0, _⟩ => show win0_0.index t (0 : Fin 3) * 1 + 1 * 0 = t.val / 4; rw [e]; show t.val / 4 * 1 + 1 * 0 = _; omega
  | ⟨1, _⟩ => show win0_0.index t (1 : Fin 3) * 512 + 1 * r.val = t.val % 4 * 512 + r.val; rw [e]; show t.val % 4 * 512 + 1 * r.val = _; omega
  | ⟨2, _⟩ => show win0_0.index t (2 : Fin 3) * 1024 + 1 * k.val = k.val; rw [e]; show 0 * 1024 + 1 * k.val = _; omega

theorem b1_at (t : Fin cfg0.N) (r : Fin 256) (k : Fin 2048) : iblk m c 1 t (ix3 (0 : Fin 1) r k) = aKv m c (ix3 (ptB t) r k) := by
  show V m c main_arg1 (((cfg0.win 1).blk t).view.emb (ix3 (0 : Fin 1) r k)) = _
  rw [V_main_arg1]
  refine congrArg _ (funext fun a => Fin.ext ?_)
  have e := ixKv t
  match a with
  | ⟨0, _⟩ => show win0_1.index t (0 : Fin 3) * 1 + 1 * 0 = t.val / 4; rw [e]; show t.val / 4 * 1 + 1 * 0 = _; omega
  | ⟨1, _⟩ => show win0_1.index t (1 : Fin 3) * 256 + 1 * r.val = r.val; rw [e]; show 0 * 256 + 1 * r.val = _; omega
  | ⟨2, _⟩ => show win0_1.index t (2 : Fin 3) * 2048 + 1 * k.val = k.val; rw [e]; show 0 * 2048 + 1 * k.val = _; omega

theorem b2_eq (t : Fin cfg0.N) : iblk m c 2 t = V m c main_v7 := by
  funext j
  show V m c main_v7 (((cfg0.win 2).blk t).view.emb j) = V m c main_v7 j
  refine congrArg _ (funext fun a => Fin.ext ?_)
  have e := ixW2 t
  match a with
  | ⟨0, _⟩ => show win0_2.index t (0 : Fin 2) * 1024 + 1 * (j 0).val = (j 0).val; rw [e]; show 0 * 1024 + 1 * (j 0).val = _; omega
  | ⟨1, _⟩ => show win0_2.index t (1 : Fin 2) * 1024 + 1 * (j 1).val = (j 1).val; rw [e]; show 0 * 1024 + 1 * (j 1).val = _; omega

theorem b3_eq (t : Fin cfg0.N) : iblk m c 3 t = V m c main_v8 := by
  funext j
  show V m c main_v8 (((cfg0.win 3).blk t).view.emb j) = V m c main_v8 j
  refine congrArg _ (funext fun a => Fin.ext ?_)
  have e := ixW3 t
  match a with
  | ⟨0, _⟩ => show win0_3.index t (0 : Fin 2) * 1024 + 1 * (j 0).val = (j 0).val; rw [e]; show 0 * 1024 + 1 * (j 0).val = _; omega
  | ⟨1, _⟩ => show win0_3.index t (1 : Fin 2) * 1024 + 1 * (j 1).val = (j 1).val; rw [e]; show 0 * 1024 + 1 * (j 1).val = _; omega

theorem b4_eq (t : Fin cfg0.N) : iblk m c 4 t = V m c main_v6 := by
  funext j
  show V m c main_v6 (((cfg0.win 4).blk t).view.emb j) = V m c main_v6 j
  refine congrArg _ (funext fun a => Fin.ext ?_)
  have e := ixW4 t
  match a with
  | ⟨0, _⟩ => show win0_4.index t (0 : Fin 2) * 8 + 1 * (j 0).val = (j 0).val; rw [e]; show 0 * 8 + 1 * (j 0).val = _; omega
  | ⟨1, _⟩ => show win0_4.index t (1 : Fin 2) * 1024 + 1 * (j 1).val = (j 1).val; rw [e]; show 0 * 1024 + 1 * (j 1).val = _; omega

theorem b5_eq (t : Fin cfg0.N) : iblk m c 5 t = V m c main_v0 := by
  funext j
  show V m c main_v0 (((cfg0.win 5).blk t).view.emb j) = V m c main_v0 j
  refine congrArg _ (funext fun a => Fin.ext ?_)
  have e := ixW5 t
  match a with
  | ⟨0, _⟩ => show win0_5.index t (0 : Fin 2) * 1024 + 1 * (j 0).val = (j 0).val; rw [e]; show 0 * 1024 + 1 * (j 0).val = _; omega
  | ⟨1, _⟩ => show win0_5.index t (1 : Fin 2) * 128 + 1 * (j 1).val = (j 1).val; rw [e]; show 0 * 128 + 1 * (j 1).val = _; omega

theorem b6_eq (t : Fin cfg0.N) : iblk m c 6 t = V m c main_v2 := by
  funext j
  show V m c main_v2 (((cfg0.win 6).blk t).view.emb j) = V m c main_v2 j
  refine congrArg _ (funext fun a => Fin.ext ?_)
  have e := ixW6 t
  match a with
  | ⟨0, _⟩ => show win0_6.index t (0 : Fin 2) * 8 + 1 * (j 0).val = (j 0).val; rw [e]; show 0 * 8 + 1 * (j 0).val = _; omega
  | ⟨1, _⟩ => show win0_6.index t (1 : Fin 2) * 128 + 1 * (j 1).val = (j 1).val; rw [e]; show 0 * 128 + 1 * (j 1).val = _; omega

theorem x2Row_congr {x x' : Fin 1024 → EReal} {kv kv' : Fin 256 → Fin 2048 → EReal} {wq wq' wo wo' : Fin 1024 → Fin 1024 → EReal}
    {g g' b b' : Fin 1024 → EReal} (h0 : ∀ k, x k = x' k) (h1 : ∀ k l, kv k l = kv' k l) (h2 : ∀ k j, wq k j = wq' k j)
    (h3 : ∀ k j, wo k j = wo' k j) (h4 : ∀ j, g j = g' j) (h5 : ∀ j, b j = b' j) : x2Row x kv wq wo g b = x2Row x' kv' wq' wo' g' b' := by
  obtain rfl : x = x' := funext h0
  obtain rfl : kv = kv' := funext fun k => funext (h1 k)
  obtain rfl : wq = wq' := funext fun k => funext (h2 k)
  obtain rfl : wo = wo' := funext fun k => funext (h3 k)
  obtain rfl : g = g' := funext h4
  obtain rfl : b = b' := funext h5
  rfl

theorem x2_blk (t : Fin cfg0.N) (r : Fin 512) :
    x2B (iblk m c 0 t) (iblk m c 1 t) (iblk m c 2 t) (iblk m c 3 t) (iblk m c 4 t) r = x2At m c (ptB t) (ptS t r) := by
  rw [b2_eq, b3_eq, b4_eq]
  exact x2Row_congr (fun k => b0_at m c t r k) (fun k l => b1_at m c t k l) (fun k j => v7_at m c (ix2 k j)) (fun k j => v8_at m c (ix2 k j))
    (fun j => v6_row0 m c j) (fun j => v6_row1 m c j)

theorem final7 : (dats m 0 c).arrAt 7 cfg0.N = G7 m c := by
  refine (dats m 0 c).arrAt_eq_of_covers 7 (G7 m c) (by decide +kernel) fun t hf y => ?_
  obtain ⟨r, j, rfl⟩ : ∃ (r : Fin 512) (j : Fin 1024), y = ix3 (0 : Fin 1) r j := ⟨y 1, y 2, funext fun a => by
    match a with
    | ⟨0, _⟩ => exact Subsingleton.elim (α := Fin 1) _ _
    | ⟨1, _⟩ => rfl
    | ⟨2, _⟩ => rfl⟩
  have he : ((cfg0.win 7).blk t).view.emb (ix3 (0 : Fin 1) r j) = ix3 (ptB t) (ptS t r) j := by
    funext a; apply Fin.ext
    have e := ix7 t
    match a with
    | ⟨0, _⟩ => show win0_7.index t (0 : Fin 3) * 1 + 1 * 0 = t.val / 4; rw [e]; show t.val / 4 * 1 + 1 * 0 = _; omega
    | ⟨1, _⟩ => show win0_7.index t (1 : Fin 3) * 512 + 1 * r.val = t.val % 4 * 512 + r.val; rw [e]; show t.val % 4 * 512 + 1 * r.val = _; omega
    | ⟨2, _⟩ => show win0_7.index t (2 : Fin 3) * 1024 + 1 * j.val = j.val; rw [e]; show 0 * 1024 + 1 * j.val = _; omega
  rw [he]
  show (dats m 0 c).after 7 t (ix3 (0 : Fin 1) r j) = x2At m c (ptB t) (ptS t r) j
  rw [after0_7, ← x2_blk]
  exact out7_apply _ _ _ _ _ _ _ _ _

theorem final8 : (dats m 0 c).arrAt 8 cfg0.N = G8 m c := by
  refine (dats m 0 c).arrAt_eq_of_covers 8 (G8 m c) (by decide +kernel) fun t hf y => ?_
  obtain ⟨r, j, rfl⟩ : ∃ (r : Fin 512) (j : Fin 128), y = ix3 (0 : Fin 1) r j := ⟨y 1, y 2, funext fun a => by
    match a with
    | ⟨0, _⟩ => exact Subsingleton.elim (α := Fin 1) _ _
    | ⟨1, _⟩ => rfl
    | ⟨2, _⟩ => rfl⟩
  have he : ((cfg0.win 8).blk t).view.emb (ix3 (0 : Fin 1) r j) = ix3 (ptB t) (ptS t r) j := by
    funext a; apply Fin.ext
    have e := ix8 t
    match a with
    | ⟨0, _⟩ => show win0_8.index t (0 : Fin 3) * 1 + 1 * 0 = t.val / 4; rw [e]; show t.val / 4 * 1 + 1 * 0 = _; omega
    | ⟨1, _⟩ => show win0_8.index t (1 : Fin 3) * 512 + 1 * r.val = t.val % 4 * 512 + r.val; rw [e]; show t.val % 4 * 512 + 1 * r.val = _; omega
    | ⟨2, _⟩ => show win0_8.index t (2 : Fin 3) * 128 + 1 * j.val = j.val; rw [e]; show 0 * 128 + 1 * j.val = _; omega
  have hs : sgBlk (iblk m c 0 t) (iblk m c 1 t) (iblk m c 2 t) (iblk m c 3 t) (iblk m c 4 t) (iblk m c 5 t) r
      = sgAt m c (ptB t) (ptS t r) := by
    funext l
    unfold sgBlk sgAt
    rw [x2_blk, b5_eq]
  have hb : (fun l => (iblk m c 6 t : Vec Ideal S8x128 .f32) (ix2 0 l)) = bAt m c := by
    funext l
    rw [b6_eq]
    rfl
  rw [he]
  show (dats m 0 c).after 8 t (ix3 (0 : Fin 1) r j) = routeRow (sgAt m c (ptB t) (ptS t r)) (e1L cNeg cBig (sgAt m c (ptB t) (ptS t r)) (bAt m c))
    (e2L cNeg cBig (sgAt m c (ptB t) (ptS t r)) (bAt m c)) j
  rw [after0_8, ← hs, ← hb]
  exact out8_apply _ _ _ _ _ _ _ _ _

end MemAttnProof

end
-- ==== Proof.RefAttn.lean ====
/-
  The reference's first result, index by index: with real queries and keys it is the same row of the layer.
-/
module

public import proofs.«01_k».proof.Proof.Blocks
public import proofs.«01_k».proof.Proof.Gen.MemAttnRefIdeal.Read

@[expose] public section

set_option maxRecDepth 16384

noncomputable section

namespace MemAttnProof.Ref

open Idealize.ShloMosaic hiding ix1 ix2 ix3 ix4 ix5
open Idealize.ShloMosaic.ValueIdx Cert.MemAttnRefIdeal Cert.MemAttnRefIdeal.Gen Cert.MemAttnRefIdeal.Read

variable (x0 : Vec Ideal S8x2048x1024 .f32) (x1 : Vec Ideal S8x256x2048 .bf16) (x2 x3 : Vec Ideal S1024x1024 .f32)
  (x4 x5 : Vec Ideal S1024 .f32)

theorem ofBits_zero : Ideal.ofBits .f32 0x00000000#32 = 0 := by simp [Ideal.ofBits, Ideal.ieee]
theorem c16_real : c16 = ((1 / 16 : ℝ) : EReal) := by
  simp [c16, Ideal.ofBits, Ideal.ieee, -EReal.coe_mul]
  norm_num

/-- The unscaled query at a head and a place in it. -/
def qAt (b : Fin 8) (s : Fin 2048) (j : Fin 1024) : EReal := ∑ k : Fin 1024, x0 (ix3 b s k) * x2 (ix2 k j)

theorem v0_at (b : Fin 8) (s : Fin 2048) (j : Fin 1024) : val_main_v0 x0 x2 (ix3 b s j) = qAt x0 x2 b s j := by
  rw [val_main_v0_apply]
  refine Finset.sum_congr rfl fun k _ => congrArg₂ (· * ·) (congrArg x0 ?_) (congrArg x2 ?_)
  · funext a; match a with | ⟨0, _⟩ => rfl | ⟨1, _⟩ => rfl | ⟨2, _⟩ => rfl
  · funext a; match a with | ⟨0, _⟩ => rfl | ⟨1, _⟩ => rfl

theorem v1_at (b : Fin 8) (s : Fin 2048) (h : Fin 4) (e : Fin 256) :
    val_main_v1 x0 x2 (ix4 b s h e) = qAt x0 x2 b s ⟨256 * h.val + e.val, by omega⟩ := by
  rw [val_main_v1_apply, ← v0_at]
  refine congrArg _ (funext fun a => Fin.ext ?_)
  match a with
  | ⟨0, _⟩ => show (((b.val * 2048 + s.val) * 4 + h.val) * 256 + e.val) / 2097152 = b.val; omega
  | ⟨1, _⟩ => show (((b.val * 2048 + s.val) * 4 + h.val) * 256 + e.val) / 1024 % 2048 = s.val; omega
  | ⟨2, _⟩ => show (((b.val * 2048 + s.val) * 4 + h.val) * 256 + e.val) % 1024 = 256 * h.val + e.val; omega

theorem v3_at (b : Fin 8) (t : Fin 256) (p : Fin 2) (h : Fin 4) (e : Fin 256) :
    val_main_v3 x1 (ix5 b t p h e) = x1 (ix3 b t ⟨1024 * p.val + 256 * h.val + e.val, by omega⟩) := by
  rw [val_main_v3_apply, val_main_v2_apply]
  show x1 _ = x1 _
  refine congrArg x1 (funext fun a => Fin.ext ?_)
  match a with
  | ⟨0, _⟩ => show ((((b.val * 256 + t.val) * 2 + p.val) * 4 + h.val) * 256 + e.val) / 524288 = b.val; omega
  | ⟨1, _⟩ => show ((((b.val * 256 + t.val) * 2 + p.val) * 4 + h.val) * 256 + e.val) / 2048 % 256 = t.val; omega
  | ⟨2, _⟩ => show ((((b.val * 256 + t.val) * 2 + p.val) * 4 + h.val) * 256 + e.val) % 2048 = 1024 * p.val + 256 * h.val + e.val; omega

theorem v5_at (b : Fin 8) (t : Fin 256) (h : Fin 4) (e : Fin 256) :
    val_main_v5 x1 (ix4 b t h e) = x1 (ix3 b t ⟨256 * h.val + e.val, by omega⟩) := by
  have h5 : idx_main_v5 (ix4 b t h e) = ix5 b t (0 : Fin 1) h e := by
    funext a; apply Fin.ext
    match a with
    | ⟨0, _⟩ => show (((b.val * 256 + t.val) * 4 + h.val) * 256 + e.val) / 262144 = b.val; omega
    | ⟨1, _⟩ => show (((b.val * 256 + t.val) * 4 + h.val) * 256 + e.val) / 1024 % 256 = t.val; omega
    | ⟨2, _⟩ => rfl
    | ⟨3, _⟩ => show (((b.val * 256 + t.val) * 4 + h.val) * 256 + e.val) / 256 % 4 = h.val; omega
    | ⟨4, _⟩ => show (((b.val * 256 + t.val) * 4 + h.val) * 256 + e.val) % 256 = e.val; omega
  have h4 : idx_main_v4 (ix5 b t (0 : Fin 1) h e) = ix5 b t (0 : Fin 2) h e := by
    funext a; apply Fin.ext
    match a with
    | ⟨0, _⟩ => rfl
    | ⟨1, _⟩ => rfl
    | ⟨2, _⟩ => rfl
    | ⟨3, _⟩ => rfl
    | ⟨4, _⟩ => rfl
  rw [val_main_v5_apply, h5, val_main_v4_apply, h4, v3_at]
  exact congrArg (fun k => x1 (ix3 b t k)) (Fin.ext (by show 1024 * 0 + 256 * h.val + e.val = 256 * h.val + e.val; omega))

theorem v21_at (b : Fin 8) (t : Fin 256) (h : Fin 4) (e : Fin 256) :
    val_main_v21 x1 (ix4 b t h e) = x1 (ix3 b t ⟨1024 + 256 * h.val + e.val, by omega⟩) := by
  have h5 : idx_main_v21 (ix4 b t h e) = ix5 b t (0 : Fin 1) h e := by
    funext a; apply Fin.ext
    match a with
    | ⟨0, _⟩ => show (((b.val * 256 + t.val) * 4 + h.val) * 256 + e.val) / 262144 = b.val; omega
    | ⟨1, _⟩ => show (((b.val * 256 + t.val) * 4 + h.val) * 256 + e.val) / 1024 % 256 = t.val; omega
    | ⟨2, _⟩ => rfl
    | ⟨3, _⟩ => show (((b.val * 256 + t.val) * 4 + h.val) * 256 + e.val) / 256 % 4 = h.val; omega
    | ⟨4, _⟩ => show (((b.val * 256 + t.val) * 4 + h.val) * 256 + e.val) % 256 = e.val; omega
  have h4 : idx_main_v20 (ix5 b t (0 : Fin 1) h e) = ix5 b t (1 : Fin 2) h e := by
    funext a; apply Fin.ext
    match a with
    | ⟨0, _⟩ => rfl
    | ⟨1, _⟩ => rfl
    | ⟨2, _⟩ => rfl
    | ⟨3, _⟩ => rfl
    | ⟨4, _⟩ => rfl
  rw [val_main_v21_apply, h5, val_main_v20_apply, h4, v3_at]
  exact congrArg (fun k => x1 (ix3 b t k)) (Fin.ext (by show 1024 * 1 + 256 * h.val + e.val = 1024 + 256 * h.val + e.val; omega))

/-- The reference's score of a query against a memory slot. -/
def scAt (b : Fin 8) (s : Fin 2048) (h : Fin 4) (t : Fin 256) : EReal :=
  (∑ e : Fin 256, qAt x0 x2 b s ⟨256 * h.val + e.val, by omega⟩ * x1 (ix3 b t ⟨256 * h.val + e.val, by omega⟩)) * c16

theorem v8_at (b : Fin 8) (s : Fin 2048) (h : Fin 4) (t : Fin 256) : val_main_v8 x0 x1 x2 (ix4 b h s t) = scAt x0 x1 x2 b s h t := by
  rw [val_main_v8_apply, val_main_v7_apply, val_main_cst_apply, val_main_v6_apply]
  have hl : ∀ k, lidx_main_v6 (ix4 b h s t) k = ix4 b s h k := fun k => by
    funext a; match a with | ⟨0, _⟩ => rfl | ⟨1, _⟩ => rfl | ⟨2, _⟩ => rfl | ⟨3, _⟩ => rfl
  have hr : ∀ k, ridx_main_v6 (ix4 b h s t) k = ix4 b t h k := fun k => by
    funext a; match a with | ⟨0, _⟩ => rfl | ⟨1, _⟩ => rfl | ⟨2, _⟩ => rfl | ⟨3, _⟩ => rfl
  simp only [hl, hr, v1_at, v5_at]
  rfl

theorem v9_at (b : Fin 8) (s : Fin 2048) (h : Fin 4) :
    val_main_v9 x0 x1 x2 (ix3 b h s) = Finset.univ.sup fun t : Fin 256 => scAt x0 x1 x2 b s h t := by
  unfold val_main_v9
  rw [Host.reduce_eq_fold_single _ _ _ _ (by decide : S8x4x2048x256.Reduces [3] S8x4x2048)]
  show Finset.fold max (Ideal.ofBits .f32 0xFF800000#32) _ _ = Finset.fold max ⊥ _ _
  rw [ofBits_ninf]
  refine Finset.fold_congr fun k _ => ?_
  refine Eq.trans (congrArg (val_main_v8 x0 x1 x2) ?_) (v8_at x0 x1 x2 b s h k)
  funext a; apply Fin.ext
  match a with
  | ⟨0, _⟩ => rfl
  | ⟨1, _⟩ => rfl
  | ⟨2, _⟩ => rfl
  | ⟨3, _⟩ => rfl

theorem v13_at (b : Fin 8) (s : Fin 2048) (h : Fin 4) (t : Fin 256) :
    val_main_v13 x0 x1 x2 (ix4 b h s t) = max ⊥ (Finset.univ.sup fun t : Fin 256 => scAt x0 x1 x2 b s h t) := by
  rw [val_main_v13_apply, val_main_v12_apply, val_main_v11_apply, val_main_v10_apply, val_main_cst_1_apply]
  have hi : idx_main_v12 (idx_main_v13 (ix4 b h s t)) = ix3 b h s := by
    funext a; match a with | ⟨0, _⟩ => rfl | ⟨1, _⟩ => rfl | ⟨2, _⟩ => rfl
  rw [hi, v9_at]
  show max (Ideal.ofBits .f32 0xFF800000#32) _ = _
  rw [ofBits_ninf]

theorem v15_at (b : Fin 8) (s : Fin 2048) (h : Fin 4) (t : Fin 256) :
    val_main_v15 x0 x1 x2 (ix4 b h s t)
      = Ideal.exp (scAt x0 x1 x2 b s h t - max ⊥ (Finset.univ.sup fun t : Fin 256 => scAt x0 x1 x2 b s h t)) := by
  rw [val_main_v15_apply, val_main_v14_apply, v8_at, v13_at]
  rfl

theorem v19_at (b : Fin 8) (s : Fin 2048) (h : Fin 4) (t : Fin 256) :
    val_main_v19 x0 x1 x2 (ix4 b h s t)
      = Ideal.div (Ideal.exp (scAt x0 x1 x2 b s h t - max ⊥ (Finset.univ.sup fun t : Fin 256 => scAt x0 x1 x2 b s h t)))
          (0 + ∑ t, Ideal.exp (scAt x0 x1 x2 b s h t - max ⊥ (Finset.univ.sup fun t : Fin 256 => scAt x0 x1 x2 b s h t))) := by
  rw [val_main_v19_apply, val_main_v18_apply, val_main_v17_apply, val_main_v16_apply, v15_at, val_main_cst_2_apply]
  have hi : ∀ k, idx_main_v16 (idx_main_v17 (idx_main_v18 (ix4 b h s t))) k = ix4 b h s k := fun k => by
    funext a; match a with | ⟨0, _⟩ => rfl | ⟨1, _⟩ => rfl | ⟨2, _⟩ => rfl | ⟨3, _⟩ => rfl
  simp only [hi, v15_at]
  show Ideal.div _ (Ideal.ofBits .f32 0x00000000#32 + _) = _
  rw [ofBits_zero]

theorem scAt_eq (b : Fin 8) (s : Fin 2048) (h : Fin 4) (t : Fin 256) :
    scAt x0 x1 x2 b s h t = ∑ e : Fin 256, qRow (fun k => x0 (ix3 b s k)) (fun k j => x2 (ix2 k j)) ⟨256 * h.val + e.val, by omega⟩
      * x1 (ix3 b t ⟨256 * h.val + e.val, by omega⟩) := by
  have := sum_scaled Finset.univ (fun e : Fin 256 => qAt x0 x2 b s ⟨256 * h.val + e.val, by omega⟩)
    (fun e : Fin 256 => x1 (ix3 b t ⟨256 * h.val + e.val, by omega⟩)) (1 / 16) (by norm_num)
  unfold scAt
  rw [c16_real, ← this]
  unfold qRow
  rw [c16_real]
  rfl

theorem v23_at (b : Fin 8) (s : Fin 2048) (h : Fin 4) (d : Fin 256) (hs : ∀ t, IsR (scAt x0 x1 x2 b s h t)) :
    val_main_v23 x0 x1 x2 (ix4 b s h d)
      = headK (qRow (fun k => x0 (ix3 b s k)) (fun k j => x2 (ix2 k j))) (fun t l => x1 (ix3 b t l)) h d := by
  have h23 : idx_main_v23 (ix4 b s h d) = ix4 b h d s := by
    funext a; match a with | ⟨0, _⟩ => rfl | ⟨1, _⟩ => rfl | ⟨2, _⟩ => rfl | ⟨3, _⟩ => rfl
  have hl : ∀ k, lidx_main_v22 (ix4 b h d s) k = ix4 b k h d := fun k => by
    funext a; match a with | ⟨0, _⟩ => rfl | ⟨1, _⟩ => rfl | ⟨2, _⟩ => rfl | ⟨3, _⟩ => rfl
  have hr : ∀ k, ridx_main_v22 (ix4 b h d s) k = ix4 b h s k := fun k => by
    funext a; match a with | ⟨0, _⟩ => rfl | ⟨1, _⟩ => rfl | ⟨2, _⟩ => rfl | ⟨3, _⟩ => rfl
  rw [val_main_v23_apply, h23, val_main_v22_apply]
  simp only [hl, hr, v21_at, v19_at]
  refine (headRow_eq (by norm_num) (fun t => scAt x0 x1 x2 b s h t) (fun t => x1 (ix3 b t ⟨1024 + 256 * h.val + d.val, by omega⟩)) hs).trans ?_
  unfold headK
  simp only [scAt_eq]

theorem v24_at (b : Fin 8) (s : Fin 2048) (k : Fin 1024) (hs : ∀ h t, IsR (scAt x0 x1 x2 b s h t)) :
    val_main_v24 x0 x1 x2 (ix3 b s k)
      = headK (qRow (fun k => x0 (ix3 b s k)) (fun k j => x2 (ix2 k j))) (fun t l => x1 (ix3 b t l)) ⟨k.val / 256, by omega⟩ ⟨k.val % 256, by omega⟩ := by
  have h24 : idx_main_v24 (ix3 b s k) = ix4 b s (⟨k.val / 256, by omega⟩ : Fin 4) (⟨k.val % 256, by omega⟩ : Fin 256) := by
    funext a; apply Fin.ext
    match a with
    | ⟨0, _⟩ => show ((b.val * 2048 + s.val) * 1024 + k.val) / 2097152 = b.val; omega
    | ⟨1, _⟩ => show ((b.val * 2048 + s.val) * 1024 + k.val) / 1024 % 2048 = s.val; omega
    | ⟨2, _⟩ => show ((b.val * 2048 + s.val) * 1024 + k.val) / 256 % 4 = k.val / 256; omega
    | ⟨3, _⟩ => show ((b.val * 2048 + s.val) * 1024 + k.val) % 256 = k.val % 256; omega
  rw [val_main_v24_apply, h24]
  exact v23_at x0 x1 x2 b s _ _ (hs _)

/-- The row before the layer norm. -/
def yAt (b : Fin 8) (s : Fin 2048) (j : Fin 1024) : EReal :=
  cAlpha * x0 (ix3 b s j) + ∑ k : Fin 1024, headK (qRow (fun k => x0 (ix3 b s k)) (fun k j => x2 (ix2 k j))) (fun t l => x1 (ix3 b t l))
    ⟨k.val / 256, by omega⟩ ⟨k.val % 256, by omega⟩ * x3 (ix2 k j)

variable (b : Fin 8) (s : Fin 2048) (hs : ∀ h t, IsR (scAt x0 x1 x2 b s h t))
include hs

theorem v28_at (j : Fin 1024) : val_main_v28 x0 x1 x2 x3 (ix3 b s j) = yAt x0 x1 x2 x3 b s j := by
  have hl : ∀ k, lidx_main_v27 (ix3 b s j) k = ix3 b s k := fun k => by
    funext a; match a with | ⟨0, _⟩ => rfl | ⟨1, _⟩ => rfl | ⟨2, _⟩ => rfl
  have hr : ∀ k, ridx_main_v27 (ix3 b s j) k = ix2 k j := fun k => by
    funext a; match a with | ⟨0, _⟩ => rfl | ⟨1, _⟩ => rfl
  rw [val_main_v28_apply, val_main_v26_apply, val_main_v25_apply, val_main_cst_3_apply, val_main_v27_apply]
  simp only [hl, hr, v24_at x0 x1 x2 b s _ hs]
  rfl

theorem v32_at : val_main_v32 x0 x1 x2 x3 (ix3 b s (0 : Fin 1)) = mean (yAt x0 x1 x2 x3 b s) := by
  have hi : ∀ k, idx_main_v29 (idx_main_v30 (ix3 b s (0 : Fin 1))) k = ix3 b s k := fun k => by
    funext a; match a with | ⟨0, _⟩ => rfl | ⟨1, _⟩ => rfl | ⟨2, _⟩ => rfl
  rw [val_main_v32_apply, val_main_v30_apply, val_main_v29_apply, val_main_v31_apply, val_main_cst_5_apply, val_main_cst_4_apply]
  simp only [hi, v28_at x0 x1 x2 x3 b s hs]
  show Ideal.div (Ideal.ofBits .f32 0x00000000#32 + _) _ = _
  rw [ofBits_zero, zero_add]
  rfl

theorem v34_at (j : Fin 1024) : val_main_v34 x0 x1 x2 x3 (ix3 b s j) = yAt x0 x1 x2 x3 b s j - mean (yAt x0 x1 x2 x3 b s) := by
  have hi : idx_main_v33 (ix3 b s j) = ix3 b s (0 : Fin 1) := by
    funext a; match a with | ⟨0, _⟩ => rfl | ⟨1, _⟩ => rfl | ⟨2, _⟩ => rfl
  rw [val_main_v34_apply, val_main_v33_apply, hi, v28_at x0 x1 x2 x3 b s hs, v32_at x0 x1 x2 x3 b s hs]
  rfl

theorem v39_at : val_main_v39 x0 x1 x2 x3 (ix3 b s (0 : Fin 1))
    = mean (fun k => (yAt x0 x1 x2 x3 b s k - mean (yAt x0 x1 x2 x3 b s)) * (yAt x0 x1 x2 x3 b s k - mean (yAt x0 x1 x2 x3 b s))) := by
  have hi : ∀ k, idx_main_v36 (idx_main_v37 (ix3 b s (0 : Fin 1))) k = ix3 b s k := fun k => by
    funext a; match a with | ⟨0, _⟩ => rfl | ⟨1, _⟩ => rfl | ⟨2, _⟩ => rfl
  rw [val_main_v39_apply, val_main_v37_apply, val_main_v36_apply, val_main_v38_apply, val_main_cst_7_apply, val_main_cst_6_apply]
  simp only [hi, val_main_v35_apply, v34_at x0 x1 x2 x3 b s hs]
  show Ideal.div (Ideal.ofBits .f32 0x00000000#32 + _) _ = _
  rw [ofBits_zero, zero_add]
  rfl

theorem v52_at (j : Fin 1024) : val_main_v52 x0 x1 x2 x3 x4 x5 (ix3 b s j)
    = x2Row (fun k => x0 (ix3 b s k)) (fun t l => x1 (ix3 b t l)) (fun k j => x2 (ix2 k j)) (fun k j => x3 (ix2 k j))
        (fun j => x4 (ix1 j)) (fun j => x5 (ix1 j)) j := by
  have h40 : idx_main_v40 (ix3 b s j) = ix3 b s (0 : Fin 1) := by
    funext a; match a with | ⟨0, _⟩ => rfl | ⟨1, _⟩ => rfl | ⟨2, _⟩ => rfl
  have h45 : idx_main_v45 (ix3 b s j) = ix3 b s (0 : Fin 1) := by
    funext a; match a with | ⟨0, _⟩ => rfl | ⟨1, _⟩ => rfl | ⟨2, _⟩ => rfl
  have h47 : idx_main_v47 (idx_main_v48 (ix3 b s j)) = ix1 j := by
    funext a; match a with | ⟨0, _⟩ => rfl
  have h50 : idx_main_v50 (idx_main_v51 (ix3 b s j)) = ix1 j := by
    funext a; match a with | ⟨0, _⟩ => rfl
  rw [val_main_v52_apply, val_main_v49_apply, val_main_v46_apply, val_main_v41_apply, val_main_v40_apply, val_main_v45_apply,
    val_main_v44_apply, val_main_v43_apply, val_main_v42_apply, val_main_cst_8_apply, val_main_v48_apply, val_main_v47_apply,
    val_main_v51_apply, val_main_v50_apply, h40, h45, h47, h50, v28_at x0 x1 x2 x3 b s hs, v32_at x0 x1 x2 x3 b s hs, v39_at x0 x1 x2 x3 b s hs]
  rfl

end MemAttnProof.Ref

end
-- ==== Proof.TopK.lean ====
/-
  The greatest entries along the last axis, and the pick of an entry by its index: what `topK` and the row gather give at an index.
-/
module

public import proofs.«01_k».proof.Proof.Algebra
public import proofs.«01_k».proof.Proof.Ops

@[expose] public section

set_option maxRecDepth 16384

noncomputable section

namespace MemAttnProof

open Idealize.ShloMosaic
open Idealize.ShloMosaic.ValueIdx

/-- The order of a sort from the greatest: the first key is the greater one. -/
def gtKey {n : Nat} (G : Fin n → EReal) (a b : Fin n) : Bool := (FloatOps.cmpfTotal (F := Ideal) (φ := .f32) .gt (G a) (G b)) == 1#1

theorem gtKey_iff {n : Nat} (G : Fin n → EReal) (a b : Fin n) : gtKey G a b = true ↔ G b < G a := by
  show (BitVec.ofBool (decide (G a > G b)) == 1#1) = true ↔ _
  by_cases h : G b < G a
  · simp [h]
  · simp [h]

theorem along2 {N K : Nat} (n : Fin N) (i k : Fin K) : (ix2 n i).along (1 : Fin 2) k = ix2 n k := by
  funext a
  match a with
  | ⟨0, _⟩ => rfl
  | ⟨1, _⟩ => rfl

theorem along3 {N M K : Nat} (n : Fin N) (g : Fin M) (i k : Fin K) : (ix3 n g i).along (2 : Fin 3) k = ix3 n g k := by
  funext a
  match a with
  | ⟨0, _⟩ => rfl
  | ⟨1, _⟩ => rfl
  | ⟨2, _⟩ => rfl

theorem topK2_index {N K M : Nat} (x : Vec Ideal ⟨2, ![N, K]⟩ .f32) (h) (n : Fin N) (i : Fin M) (hM : i.val < K) :
    (Host.topK ⟨2, ![N, M]⟩ 1 (FloatOps.cmpfTotal (F := Ideal) (φ := .f32) .gt) x h).2 (ix2 n i)
      = BitVec.ofNat 32 (sortedFrom (gtKey fun k => x (ix2 n k)) ⟨i.val, hM⟩).val := by
  unfold Host.topK
  dsimp only
  rw [extractStridedSlice_apply _ _ h (ix2 n i) (ix2 n ⟨i.val, hM⟩) (fun a => by
    match a with
    | ⟨0, _⟩ => exact (Nat.zero_add _).symm
    | ⟨1, _⟩ => exact (Nat.zero_add _).symm)]
  have e : (fun k k' : Fin K => (FloatOps.cmpfTotal (F := Ideal) (φ := .f32) .gt (x ((ix2 n ⟨i.val, hM⟩).along (1 : Fin 2) k))
      (x ((ix2 n ⟨i.val, hM⟩).along (1 : Fin 2) k'))) == 1#1) = gtKey fun k => x (ix2 n k) := by
    funext k k'
    rw [along2, along2]
    rfl
  show BitVec.ofNat 32 (sortedFrom (fun k k' : Fin K => (FloatOps.cmpfTotal (F := Ideal) (φ := .f32) .gt
    (x ((ix2 n ⟨i.val, hM⟩).along (1 : Fin 2) k)) (x ((ix2 n ⟨i.val, hM⟩).along (1 : Fin 2) k'))) == 1#1) ⟨i.val, hM⟩).val = _
  rw [e]

theorem topK3_value {N G K M : Nat} (x : Vec Ideal ⟨3, ![N, G, K]⟩ .f32) (h) (n : Fin N) (g : Fin G) (i : Fin M) (hM : i.val < K) :
    (Host.topK ⟨3, ![N, G, M]⟩ 2 (FloatOps.cmpfTotal (F := Ideal) (φ := .f32) .gt) x h).1 (ix3 n g i)
      = x (ix3 n g (sortedFrom (gtKey fun k => x (ix3 n g k)) ⟨i.val, hM⟩)) := by
  unfold Host.topK
  dsimp only
  rw [extractStridedSlice_apply _ _ h (ix3 n g i) (ix3 n g ⟨i.val, hM⟩) (fun a => by
    match a with
    | ⟨0, _⟩ => exact (Nat.zero_add _).symm
    | ⟨1, _⟩ => exact (Nat.zero_add _).symm
    | ⟨2, _⟩ => exact (Nat.zero_add _).symm)]
  have e : (fun k k' : Fin K => (FloatOps.cmpfTotal (F := Ideal) (φ := .f32) .gt (x ((ix3 n g ⟨i.val, hM⟩).along (2 : Fin 3) k))
      (x ((ix3 n g ⟨i.val, hM⟩).along (2 : Fin 3) k'))) == 1#1) = gtKey fun k => x (ix3 n g k) := by
    funext k k'
    rw [along3, along3]
    rfl
  show x ((ix3 n g ⟨i.val, hM⟩).along (2 : Fin 3) (sortedFrom (fun k k' : Fin K => (FloatOps.cmpfTotal (F := Ideal) (φ := .f32) .gt
    (x ((ix3 n g ⟨i.val, hM⟩).along (2 : Fin 3) k)) (x ((ix3 n g ⟨i.val, hM⟩).along (2 : Fin 3) k'))) == 1#1) ⟨i.val, hM⟩)) = _
  rw [e]
  exact congrArg x (along3 n g _ _)

/-- The numbers of a pick of one entry of each row: row `n` is taken at the index held for it. -/
abbrev pickDims (N C K : Nat)
    (wf : GatherDims.WF ⟨2, ![N, C]⟩ ⟨3, ![N, K, 1]⟩ ⟨2, ![N, K]⟩ [] [1] [0] [1] [0] 2 ![1, 1]) :
    GatherDims ⟨2, ![N, C]⟩ ⟨3, ![N, K, 1]⟩ ⟨2, ![N, K]⟩ where
  offsetDims := []
  collapsedSliceDims := [1]
  operandBatchingDims := [0]
  startIndicesBatchingDims := [0]
  startIndexMap := [1]
  indexVectorDim := 2
  sliceSizes := ![1, 1]
  wf := wf

theorem pick_at {α : Type} {N C K : Nat} (wf) (x : (⟨2, ![N, C]⟩ : Shape).Idx → α) (idx : IVec ⟨3, ![N, K, 1]⟩ 32)
    (n : Fin N) (k : Fin K) (e : Fin C) (he : min (idx (ix3 n k 0)).toInt.toNat (C - 1) = e.val) :
    Host.gather (pickDims N C K wf) x idx (ix2 n k) = x (ix2 n e) := by
  refine congrArg x (funext fun a => Fin.ext ?_)
  show (pickDims N C K wf).start (ix2 n k) idx a + (pickDims N C K wf).batchCoord (ix2 n k) a
      + (pickDims N C K wf).offCoord (ix2 n k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl)),
      Nat.add_zero]
    unfold GatherDims.start
    rw [dif_pos (show (1 : Fin 2) ∈ (pickDims N C K wf).startIndexMap from List.mem_singleton.mpr rfl)]
    refine Eq.trans ?_ he
    refine congrArg (fun j => min (idx j).toInt.toNat (C - 1)) (funext fun b => Fin.ext ?_)
    match b with
    | ⟨0, _⟩ => rfl
    | ⟨1, _⟩ => rfl
    | ⟨2, _⟩ => rfl

end MemAttnProof

end
-- ==== Proof.RefRoute.lean ====
/-
  The reference's second result, index by index: which group it takes, which two experts of it, and their shares.
-/
module

public import proofs.«01_k».proof.Proof.RefAttn
public import proofs.«01_k».proof.Proof.TopK
public import proofs.«01_k».proof.Proof.Lanes

@[expose] public section

set_option maxRecDepth 16384

noncomputable section

namespace MemAttnProof.Ref

open Idealize.ShloMosaic hiding ix1 ix2 ix3 ix4 ix5
open Idealize.ShloMosaic.ValueIdx Cert.MemAttnRefIdeal Cert.MemAttnRefIdeal.Gen Cert.MemAttnRefIdeal.Read

variable (x0 : Vec Ideal S8x2048x1024 .f32) (x1 : Vec Ideal S8x256x2048 .bf16) (x2 x3 : Vec Ideal S1024x1024 .f32)
  (x4 x5 : Vec Ideal S1024 .f32) (x6 : Vec Ideal S1024x32 .f32) (x7 : Vec Ideal S32 .f32)

/-- A token's row among all tokens. -/
def row (b : Fin 8) (s : Fin 2048) : Fin 16384 := ⟨2048 * b.val + s.val, by omega⟩

theorem v53_at (b : Fin 8) (s : Fin 2048) (k : Fin 1024) :
    val_main_v53 x0 x1 x2 x3 x4 x5 (ix2 (row b s) k) = val_main_v52 x0 x1 x2 x3 x4 x5 (ix3 b s k) := by
  rw [val_main_v53_apply]
  refine congrArg _ (funext fun a => Fin.ext ?_)
  match a with
  | ⟨0, _⟩ => show ((2048 * b.val + s.val) * 1024 + k.val) / 2097152 = b.val; omega
  | ⟨1, _⟩ => show ((2048 * b.val + s.val) * 1024 + k.val) / 1024 % 2048 = s.val; omega
  | ⟨2, _⟩ => show ((2048 * b.val + s.val) * 1024 + k.val) % 1024 = k.val; omega

theorem v60_at (b : Fin 8) (s : Fin 2048) (e : Fin 32) :
    val_main_v60 x0 x1 x2 x3 x4 x5 x6 (ix2 (row b s) e) = sig (∑ k : Fin 1024, val_main_v52 x0 x1 x2 x3 x4 x5 (ix3 b s k) * x6 (ix2 k e)) := by
  have h54 : val_main_v54 x0 x1 x2 x3 x4 x5 x6 (ix2 (row b s) e) = ∑ k : Fin 1024, val_main_v52 x0 x1 x2 x3 x4 x5 (ix3 b s k) * x6 (ix2 k e) := by
    rw [val_main_v54_apply]
    refine Finset.sum_congr rfl fun k _ => congrArg₂ (· * ·) ?_ (congrArg x6 ?_)
    · rw [← v53_at]
      refine congrArg _ (funext fun a => ?_)
      match a with | ⟨0, _⟩ => rfl | ⟨1, _⟩ => rfl
    · funext a; match a with | ⟨0, _⟩ => rfl | ⟨1, _⟩ => rfl
  rw [val_main_v60_apply, val_main_v59_apply, val_main_v58_apply, val_main_v57_apply, val_main_v56_apply, val_main_v55_apply, h54]
  generalize (∑ k : Fin 1024, val_main_v52 x0 x1 x2 x3 x4 x5 (ix3 b s k) * x6 (ix2 k e)) = z
  show Ideal.div (Ideal.ofBits .f32 0x3F800000#32) (Ideal.ofBits .f32 0x3F800000#32 + Ideal.exp (-z)) = Ideal.div 1 (1 + Ideal.exp (0 - z))
  rw [ofBits_one, zero_sub]

theorem v63_at (n : Fin 16384) (e : Fin 32) : val_main_v63 x0 x1 x2 x3 x4 x5 x6 x7 (ix2 n e) = val_main_v60 x0 x1 x2 x3 x4 x5 x6 (ix2 n e) + x7 (ix1 e) := by
  rw [val_main_v63_apply, val_main_v62_apply, val_main_v61_apply]
  refine congrArg (val_main_v60 x0 x1 x2 x3 x4 x5 x6 (ix2 n e) + ·) (congrArg x7 (funext fun a => ?_))
  match a with | ⟨0, _⟩ => rfl

theorem v64_at (n : Fin 16384) (g : Fin 8) (p : Fin 4) : val_main_v64 x0 x1 x2 x3 x4 x5 x6 x7 (ix3 n g p) = val_main_v63 x0 x1 x2 x3 x4 x5 x6 x7 (ix2 n (mem g p)) := by
  rw [val_main_v64_apply]
  refine congrArg _ (funext fun a => Fin.ext ?_)
  match a with
  | ⟨0, _⟩ => show ((n.val * 8 + g.val) * 4 + p.val) / 32 = n.val; omega
  | ⟨1, _⟩ => show ((n.val * 8 + g.val) * 4 + p.val) % 32 = 4 * g.val + p.val; omega

theorem v65_at (n : Fin 16384) (g : Fin 8) : ∃ p q : Fin 4,
    (∀ j, val_main_v63 x0 x1 x2 x3 x4 x5 x6 x7 (ix2 n (mem g j)) ≤ val_main_v63 x0 x1 x2 x3 x4 x5 x6 x7 (ix2 n (mem g p))) ∧ q ≠ p
    ∧ (∀ j, j ≠ p → val_main_v63 x0 x1 x2 x3 x4 x5 x6 x7 (ix2 n (mem g j)) ≤ val_main_v63 x0 x1 x2 x3 x4 x5 x6 x7 (ix2 n (mem g q)))
    ∧ val_main_v65 x0 x1 x2 x3 x4 x5 x6 x7 (ix2 n g) = val_main_v63 x0 x1 x2 x3 x4 x5 x6 x7 (ix2 n (mem g p)) + val_main_v63 x0 x1 x2 x3 x4 x5 x6 x7 (ix2 n (mem g q)) := by
  have hk := gtKey_iff fun k : Fin 4 => val_main_v64 x0 x1 x2 x3 x4 x5 x6 x7 (ix3 n g k)
  have h1 := sortedFrom_first _ _ hk 0 rfl
  have h2 := sortedFrom_second _ _ hk 0 1 rfl rfl
  refine ⟨_, _, fun j => ?_, h2.1, fun j hj => ?_, ?_⟩
  · have := (h1.2 j trivial).1
    dsimp only at this
    rwa [v64_at, v64_at] at this
  · have := (h2.2 j hj).1
    dsimp only at this
    rwa [v64_at, v64_at] at this
  · have hv : ∀ k : Fin 2, val_main_values x0 x1 x2 x3 x4 x5 x6 x7 (idx_main_v65 (ix2 n g) k)
        = val_main_v64 x0 x1 x2 x3 x4 x5 x6 x7 (ix3 n g (sortedFrom (gtKey fun k => val_main_v64 x0 x1 x2 x3 x4 x5 x6 x7 (ix3 n g k)) ⟨k.val, by omega⟩)) := by
      intro k
      rw [show idx_main_v65 (ix2 n g) k = ix3 n g k from by
        funext a; match a with | ⟨0, _⟩ => rfl | ⟨1, _⟩ => rfl | ⟨2, _⟩ => rfl]
      exact topK3_value _ _ n g k (by omega)
    rw [val_main_v65_apply, Fin.sum_univ_two, hv, hv, v64_at, v64_at,
      show val_main_cst_11 (F := Ideal) (Shape.Idx.first h_S_) = 0 from ofBits_zero, zero_add]
    rfl

theorem v74_at (n : Fin 16384) (e : Fin 32) (g : Fin 8) (hg : val_main_indices_13 x0 x1 x2 x3 x4 x5 x6 x7 (ix2 n (0 : Fin 1)) = BitVec.ofNat 32 g.val) :
    val_main_v74 x0 x1 x2 x3 x4 x5 x6 x7 (ix2 n e) = BitVec.ofBool (decide (e.val / 4 = g.val)) := by
  have h72 : val_main_v72 (F := Ideal) (ix2 n e) = BitVec.ofNat 32 (e.val / 4) := by
    rw [val_main_v72_apply, val_main_v70_apply, val_main_v69_apply, val_main_v68_apply, val_main_v67_apply]
    refine congrArg (BitVec.ofNat 32) ?_
    show (0 * 32 + e.val) / 4 = e.val / 4
    omega
  have h73 : val_main_v73 x0 x1 x2 x3 x4 x5 x6 x7 (ix2 n e) = BitVec.ofNat 32 g.val := by
    rw [val_main_v73_apply, val_main_v71_apply, val_main_v66_apply, ← hg]
    refine congrArg _ (funext fun a => Fin.ext ?_)
    match a with
    | ⟨0, _⟩ => show n.val / 1 = n.val; omega
    | ⟨1, _⟩ => rfl
  rw [val_main_v74_apply, h72, h73]
  show BitVec.ofBool (decide (BitVec.ofNat 32 (e.val / 4) = BitVec.ofNat 32 g.val)) = _
  refine congrArg BitVec.ofBool (decide_eq_decide.mpr ⟨fun h => ?_, fun h => by rw [h]⟩)
  have := congrArg BitVec.toNat h
  simp only [BitVec.toNat_ofNat] at this
  omega

theorem v75_at (n : Fin 16384) (e : Fin 32) (g : Fin 8) (hg : val_main_indices_13 x0 x1 x2 x3 x4 x5 x6 x7 (ix2 n (0 : Fin 1)) = BitVec.ofNat 32 g.val) :
    val_main_v75 x0 x1 x2 x3 x4 x5 x6 x7 (ix2 n e) = if e.val / 4 = g.val then val_main_v63 x0 x1 x2 x3 x4 x5 x6 x7 (ix2 n e) else cNeg := by
  rw [val_main_v75_apply, v74_at x0 x1 x2 x3 x4 x5 x6 x7 n e g hg, val_main_call0_v1_apply]
  by_cases h : e.val / 4 = g.val
  · rw [if_pos h, decide_eq_true h]; rfl
  · rw [if_neg h, decide_eq_false h]; rfl

/-- The group and the two experts the reference takes, and the entries they come from. -/
theorem choice (n : Fin 16384) : ∃ (g : Fin 8) (e1 e2 : Fin 32),
    Choice cNeg (fun e => val_main_v63 x0 x1 x2 x3 x4 x5 x6 x7 (ix2 n e)) (fun g => val_main_v65 x0 x1 x2 x3 x4 x5 x6 x7 (ix2 n g)) g e1 e2
    ∧ val_main_indices_16 x0 x1 x2 x3 x4 x5 x6 x7 (ix2 n (0 : Fin 2)) = BitVec.ofNat 32 e1.val
    ∧ val_main_indices_16 x0 x1 x2 x3 x4 x5 x6 x7 (ix2 n (1 : Fin 2)) = BitVec.ofNat 32 e2.val := by
  have kg := gtKey_iff fun k : Fin 8 => val_main_v65 x0 x1 x2 x3 x4 x5 x6 x7 (ix2 n k)
  have bg := sortedFrom_first _ _ kg 0 rfl
  have ig : val_main_indices_13 x0 x1 x2 x3 x4 x5 x6 x7 (ix2 n (0 : Fin 1)) = BitVec.ofNat 32 (sortedFrom (gtKey fun k : Fin 8 => val_main_v65 x0 x1 x2 x3 x4 x5 x6 x7 (ix2 n k)) 0).val :=
    topK2_index _ _ n (0 : Fin 1) (by decide)
  have ke := gtKey_iff fun k : Fin 32 => val_main_v75 x0 x1 x2 x3 x4 x5 x6 x7 (ix2 n k)
  have b1 := sortedFrom_first _ _ ke 0 rfl
  have b2 := sortedFrom_second _ _ ke 0 1 rfl rfl
  have hm : (fun e => if e.val / 4 = (sortedFrom (gtKey fun k : Fin 8 => val_main_v65 x0 x1 x2 x3 x4 x5 x6 x7 (ix2 n k)) 0).val then val_main_v63 x0 x1 x2 x3 x4 x5 x6 x7 (ix2 n e) else cNeg)
      = fun e : Fin 32 => val_main_v75 x0 x1 x2 x3 x4 x5 x6 x7 (ix2 n e) := by
    funext e; exact (v75_at x0 x1 x2 x3 x4 x5 x6 x7 n e _ ig).symm
  refine ⟨_, _, _, ⟨v65_at x0 x1 x2 x3 x4 x5 x6 x7 n, bg, ?_, ?_⟩, topK2_index _ _ n (0 : Fin 2) (by decide), topK2_index _ _ n (1 : Fin 2) (by decide)⟩
  · rw [hm]; exact b1
  · rw [hm]; exact b2

theorem toInt_small (e : Fin 32) : (BitVec.ofNat 32 e.val).toInt = (e.val : ℤ) := by
  rw [BitVec.toInt_eq_toNat_cond, BitVec.toNat_ofNat]
  have := e.isLt
  rw [Nat.mod_eq_of_lt (by omega), if_pos (by omega)]

theorem not_negative : ∀ e : Fin 32, IntOp.cmpi .slt (BitVec.ofNat 32 e.val) 0#32 = 0#1 := by decide

theorem v76_at (n : Fin 16384) (k : Fin 2) (e : Fin 32) (he : val_main_indices_16 x0 x1 x2 x3 x4 x5 x6 x7 (ix2 n k) = BitVec.ofNat 32 e.val) :
    val_main_v76 x0 x1 x2 x3 x4 x5 x6 x7 (ix2 n k) = val_main_v60 x0 x1 x2 x3 x4 x5 x6 (ix2 n e) := by
  have h4 : val_main_call1_v4 x0 x1 x2 x3 x4 x5 x6 x7 (ix2 n k) = BitVec.ofNat 32 e.val := by
    rw [val_main_call1_v4_apply, val_main_call1_v1_apply, he, val_main_call1_v0_apply, val_main_call1_c_apply]
    rw [not_negative e]; rfl
  refine pick_at _ _ _ n k e ?_
  have h5 : val_main_call1_v5 x0 x1 x2 x3 x4 x5 x6 x7 (ix3 n k (0 : Fin 1)) = BitVec.ofNat 32 e.val := by
    rw [val_main_call1_v5_apply, ← h4]
    refine congrArg _ (funext fun a => Fin.ext ?_)
    match a with
    | ⟨0, _⟩ => show ((n.val * 2 + k.val) * 1 + 0) / 2 = n.val; omega
    | ⟨1, _⟩ => show ((n.val * 2 + k.val) * 1 + 0) % 2 = k.val; omega
  rw [show (ix3 n k 0 : S16384x2x1.Idx) = ix3 n k (0 : Fin 1) from rfl, h5, toInt_small]
  have := e.isLt
  omega

theorem v80_at (n : Fin 16384) (k : Fin 2) : val_main_v80 x0 x1 x2 x3 x4 x5 x6 x7 (ix2 n k)
    = Ideal.div (val_main_v76 x0 x1 x2 x3 x4 x5 x6 x7 (ix2 n k)) (val_main_v76 x0 x1 x2 x3 x4 x5 x6 x7 (ix2 n (0 : Fin 2)) + val_main_v76 x0 x1 x2 x3 x4 x5 x6 x7 (ix2 n (1 : Fin 2))) := by
  have hi : ∀ j : Fin 2, idx_main_v77 (idx_main_v78 (idx_main_v79 (ix2 n k))) j = ix2 n j := by
    intro j; funext a; match a with | ⟨0, _⟩ => rfl | ⟨1, _⟩ => rfl
  rw [val_main_v80_apply, val_main_v79_apply, val_main_v78_apply, val_main_v77_apply, Fin.sum_univ_two, hi, hi,
    show val_main_cst_17 (F := Ideal) (Shape.Idx.first h_S_) = 0 from ofBits_zero, zero_add]
  rfl

theorem v81_at (n : Fin 16384) (k : Fin 2) (e : Fin 32) (he : val_main_indices_16 x0 x1 x2 x3 x4 x5 x6 x7 (ix2 n k) = BitVec.ofNat 32 e.val) :
    val_main_v81 x0 x1 x2 x3 x4 x5 x6 x7 (ix2 n k) = lane (xl e) := by
  rw [val_main_v81_apply, he]
  show (((BitVec.ofNat 32 e.val).toInt : ℝ) : EReal) = ((e.val : ℝ) : EReal)
  rw [toInt_small, Int.cast_natCast]

theorem v83_idx (n : Fin 16384) (l : Fin 128) (k : Fin 2) (h : 0 + k.val = l.val) : val_main_v83 x0 x1 x2 x3 x4 x5 x6 x7 (ix2 n l) = val_main_v81 x0 x1 x2 x3 x4 x5 x6 x7 (ix2 n k) :=
  concatenate_apply_piece (t := S16384x128) 1 _ _ (ix2 n l) 0 (by simp) S16384x2 _ rfl rfl 0 rfl (ix2 n k)
    (fun b hb => by
      match b with
      | ⟨0, _⟩ => rfl
      | ⟨1, _⟩ => exact absurd rfl hb) h

theorem v83_share (n : Fin 16384) (l : Fin 128) (k : Fin 2) (h : 2 + k.val = l.val) :
    val_main_v83 x0 x1 x2 x3 x4 x5 x6 x7 (ix2 n l) = val_main_v80 x0 x1 x2 x3 x4 x5 x6 x7 (ix2 n k) :=
  concatenate_apply_piece (t := S16384x128) 1 _ _ (ix2 n l) 1 (by simp) S16384x2 _ rfl rfl 2 rfl (ix2 n k)
    (fun b hb => by
      match b with
      | ⟨0, _⟩ => rfl
      | ⟨1, _⟩ => exact absurd rfl hb) h

theorem v83_rest (n : Fin 16384) (l : Fin 128) (h : 4 ≤ l.val) : val_main_v83 x0 x1 x2 x3 x4 x5 x6 x7 (ix2 n l) = 0 := by
  refine (concatenate_apply_piece (t := S16384x128) 1 _ _ (ix2 n l) 2 (by simp) S16384x124 _ rfl rfl 4 rfl
    (ix2 n (⟨l.val - 4, by omega⟩ : Fin 124)) (fun b hb => by
      match b with
      | ⟨0, _⟩ => rfl
      | ⟨1, _⟩ => exact absurd rfl hb) (by show 4 + (l.val - 4) = l.val; omega)).trans ?_
  rw [val_main_v82_apply]
  exact ofBits_zero

/-- The second result at a token and a lane, by the scores alone: the chosen experts' numbers and their shares. -/
theorem v84_at (b : Fin 8) (s : Fin 2048) (l : Fin 128) (sg bb : Fin 128 → EReal)
    (hsg : ∀ e : Fin 32, sg (xl e) = val_main_v60 x0 x1 x2 x3 x4 x5 x6 (ix2 (row b s) e)) (hbb : ∀ e : Fin 32, bb (xl e) = x7 (ix1 e))
    (hlow : ∀ e : Fin 32, cNeg < sg (xl e) + bb (xl e)) (hB : ∀ l : Fin 128, lane l ≤ cBig) :
    val_main_v84 x0 x1 x2 x3 x4 x5 x6 x7 (ix3 b s l) = routeRow sg (e1L cNeg cBig sg bb) (e2L cNeg cBig sg bb) l := by
  have h84 : idx_main_v84 (ix3 b s l) = ix2 (row b s) l := by
    funext a; apply Fin.ext
    match a with
    | ⟨0, _⟩ => show ((b.val * 2048 + s.val) * 128 + l.val) / 128 = 2048 * b.val + s.val; omega
    | ⟨1, _⟩ => show ((b.val * 2048 + s.val) * 128 + l.val) % 128 = l.val; omega
  obtain ⟨g, e1, e2, hc, i1, i2⟩ := choice x0 x1 x2 x3 x4 x5 x6 x7 (row b s)
  have hsel : ∀ e : Fin 32, sg (xl e) + bb (xl e) = val_main_v63 x0 x1 x2 x3 x4 x5 x6 x7 (ix2 (row b s) e) := fun e => by
    rw [hsg, hbb, v63_at]
  have hf : ∀ e : Fin 32, cNeg < val_main_v63 x0 x1 x2 x3 x4 x5 x6 x7 (ix2 (row b s) e) := fun e => by rw [← hsel]; exact hlow e
  rw [e1_eq hsel hf hB hc, e2_eq hsel hf hB hc, val_main_v84_apply, h84]
  unfold routeRow
  rw [pickL_lane, pickL_lane, hsg, hsg]
  have w1 := v76_at x0 x1 x2 x3 x4 x5 x6 x7 _ 0 e1 i1
  have w2 := v76_at x0 x1 x2 x3 x4 x5 x6 x7 _ 1 e2 i2
  by_cases h4 : l.val < 4
  · rw [if_pos h4]
    by_cases h0 : l.val = 0
    · rw [if_pos h0, v83_idx x0 x1 x2 x3 x4 x5 x6 x7 _ l 0 (by rw [h0]; rfl), v81_at x0 x1 x2 x3 x4 x5 x6 x7 _ 0 e1 i1]
    rw [if_neg h0]
    by_cases h1 : l.val = 1
    · rw [if_pos h1, v83_idx x0 x1 x2 x3 x4 x5 x6 x7 _ l 1 (by rw [h1]; rfl), v81_at x0 x1 x2 x3 x4 x5 x6 x7 _ 1 e2 i2]
    rw [if_neg h1]
    by_cases h2 : l.val = 2
    · rw [if_pos h2, v83_share x0 x1 x2 x3 x4 x5 x6 x7 _ l 0 (by rw [h2]; rfl), v80_at, w1, w2]
    · rw [if_neg h2, v83_share x0 x1 x2 x3 x4 x5 x6 x7 _ l 1 (by show 2 + 1 = l.val; omega), v80_at, w1, w2]
  · rw [if_neg h4, v83_rest x0 x1 x2 x3 x4 x5 x6 x7 _ _ (by omega)]

end MemAttnProof.Ref

end
-- ==== Proof.Match.lean ====
/-
  The two programs' results are the same arrays: what the precondition gives, and both results put together.
-/
module

public import proofs.«01_k».proof.Proof.Arrays
public import proofs.«01_k».proof.Proof.RefRoute
public import proofs.«01_k».proof.Pre_finite_scores_bias_above_mask

@[expose] public section

set_option maxRecDepth 16384

noncomputable section

namespace MemAttnProof

open Idealize.ShloMosaic hiding ix1 ix2 ix3 ix4 ix5
open Idealize.ShloMosaic.ValueIdx Cert.MemAttnIdeal Cert.MemAttnIdeal.Gen

variable [hp : Cert.Pre_finite_scores_bias_above_mask.Facts]

theorem cmpf_one {p : CmpFPredicate} {x y : EReal} {P : Prop} [Decidable P]
    (e : Ideal.cmp p x y = BitVec.ofBool (decide P)) (h : Ideal.cmp p x y = 1#1) : P := by
  rw [e] at h
  by_contra hn
  rw [decide_eq_false hn] at h
  exact absurd h (by decide)

theorem isR_of_small {x : EReal} (h : Ideal.cmp .olt (max x (-x)) (Ideal.ofBits .f32 0x7F800000#32) = 1#1) : IsR x := by
  have h' := cmpf_one (P := max x (-x) < Ideal.ofBits .f32 0x7F800000#32) rfl h
  rw [ofBits_pinf] at h'
  exact isR_of_abs_lt h'

theorem sig_nonneg (z : EReal) : 0 ≤ sig z := by
  unfold sig
  have h : (0 : EReal) < 1 + Ideal.exp (0 - z) :=
    lt_of_lt_of_le zero_lt_one (le_add_of_nonneg_right (by
      unfold Ideal.exp
      split
      · exact le_rfl
      · exact le_top
      · exact EReal.coe_nonneg.mpr (Real.exp_pos _).le))
  unfold Ideal.div
  rw [if_neg h.ne']
  rw [one_mul]
  exact EReal.inv_nonneg_of_nonneg h.le

theorem lane_le_big (l : Fin 128) : lane l ≤ cBig := by
  have h : cBig = ((1000000000 : ℝ) : EReal) := by
    simp [cBig, Ideal.ofBits, Ideal.ieee, -EReal.coe_mul]
    norm_num
  rw [h]
  refine EReal.coe_le_coe_iff.mpr ?_
  have : (l.val : ℝ) ≤ 127 := by exact_mod_cast Nat.le_of_lt_succ l.isLt
  linarith

/-- The condition on the arguments, read at an index. -/
structure Good (a0 : Vec Ideal S8x2048x1024 .f32) (a1 : Vec Ideal S8x256x2048 .bf16) (a2 : Vec Ideal S1024x1024 .f32) (a7 : Vec Ideal S32 .f32) : Prop where
  x : ∀ b s k, IsR (a0 (ix3 b s k))
  wq : ∀ k j, IsR (a2 (ix2 k j))
  key : ∀ (b : Fin 8) (t : Fin 256) (l : Fin 2048), l.val < 1024 → IsR (a1 (ix3 b t l))
  bias : ∀ e : Fin 32, cNeg < a7 (ix1 e)

theorem good_of_pre (a0 : Vec Ideal S8x2048x1024 .f32) (a1 : Vec Ideal S8x256x2048 .bf16) (a2 a3 : Vec Ideal S1024x1024 .f32)
    (a4 a5 : Vec Ideal S1024 .f32) (a6 : Vec Ideal S1024x32 .f32) (a7 : Vec Ideal S32 .f32)
    (h : (Cert.Pre_finite_scores_bias_above_mask.fn (F := Ideal) a0 a1 a2 a3 a4 a5 a6 a7).1 = (fun _ => 1#1)
      ∧ (Cert.Pre_finite_scores_bias_above_mask.fn (F := Ideal) a0 a1 a2 a3 a4 a5 a6 a7).2.1 = (fun _ => 1#1)
      ∧ (Cert.Pre_finite_scores_bias_above_mask.fn (F := Ideal) a0 a1 a2 a3 a4 a5 a6 a7).2.2.1 = (fun _ => 1#1)
      ∧ (Cert.Pre_finite_scores_bias_above_mask.fn (F := Ideal) a0 a1 a2 a3 a4 a5 a6 a7).2.2.2 = (fun _ => 1#1)) : Good a0 a1 a2 a7 := by
  obtain ⟨h1, h2, h3, h4⟩ := h
  refine ⟨fun b s k => isR_of_small (congrFun h1 (ix3 b s k)), fun k j => isR_of_small (congrFun h2 (ix2 k j)), fun b t l hl => ?_, fun e => ?_⟩
  · have h := isR_of_small (congrFun h3 (ix3 b t (⟨l.val, hl⟩ : Fin 1024)))
    have e : extractStridedSlice Cert.Pre_finite_scores_bias_above_mask.S8x256x1024 ![0, 0, 0] a1 hp.slices_S8x256x2048_S8x256x1024_0_0_0
        (ix3 b t (⟨l.val, hl⟩ : Fin 1024)) = a1 (ix3 b t l) := extractStridedSlice_apply _ _ _ _ _ fun a => by
      match a with
      | ⟨0, _⟩ => exact (Nat.zero_add _).symm
      | ⟨1, _⟩ => exact (Nat.zero_add _).symm
      | ⟨2, _⟩ => exact (Nat.zero_add _).symm
    rw [← e]; exact h
  · exact cmpf_one (p := .ogt) (x := a7 (ix1 e)) (y := cNeg) (P := a7 (ix1 e) > cNeg) rfl (congrFun h4 (ix1 e))

theorem score_real {a0 a1 a2 a7} (g : Good a0 a1 a2 a7) (b : Fin 8) (s : Fin 2048) (h : Fin 4) (t : Fin 256) : IsR (Ref.scAt a0 a1 a2 b s h t) := by
  unfold Ref.scAt Ref.qAt
  refine IsR.mul (IsR.sum _ fun d => IsR.mul (IsR.sum _ fun k => (g.x _ _ _).mul (g.wq _ _)) (g.key _ _ _ ?_)) ⟨_, Ref.c16_real⟩
  show 256 * h.val + d.val < 1024
  omega

variable (m : (ℓ : Loc nD τ Cert.MemAttnIdeal.sig) → Buf (Elt Idealize.ShloMosaic.Ideal) ℓ) (c : Dev nD)

theorem first_eq (hg : Good (aX m c) (aKv m c) (aWq m c) (aBr m c)) :
    Cert.MemAttnRefIdeal.Read.val_main_v52 (aX m c) (aKv m c) (aWq m c) (aWo m c) (aG m c) (aB m c) = G7 m c := by
  funext i
  obtain ⟨b, s, j, rfl⟩ : ∃ (b : Fin 8) (s : Fin 2048) (j : Fin 1024), i = ix3 b s j :=
    ⟨i 0, i 1, i 2, by funext a; match a with | ⟨0, _⟩ => rfl | ⟨1, _⟩ => rfl | ⟨2, _⟩ => rfl⟩
  exact Ref.v52_at _ _ _ _ _ _ b s (score_real hg b s) j

theorem second_eq (hg : Good (aX m c) (aKv m c) (aWq m c) (aBr m c)) :
    Cert.MemAttnRefIdeal.Read.val_main_v84 (aX m c) (aKv m c) (aWq m c) (aWo m c) (aG m c) (aB m c) (aWr m c) (aBr m c) = G8 m c := by
  funext i
  obtain ⟨b, s, l, rfl⟩ : ∃ (b : Fin 8) (s : Fin 2048) (l : Fin 128), i = ix3 b s l :=
    ⟨i 0, i 1, i 2, by funext a; match a with | ⟨0, _⟩ => rfl | ⟨1, _⟩ => rfl | ⟨2, _⟩ => rfl⟩
  have hb : ∀ e : Fin 32, bAt m c (xl e) = aBr m c (ix1 e) := v2_at m c
  refine Ref.v84_at _ _ _ _ _ _ _ _ b s l (sgAt m c b s) (bAt m c) (fun e => ?_) hb (fun e => ?_) lane_le_big
  · rw [Ref.v60_at, first_eq m c hg]
    exact congrArg sig (Finset.sum_congr rfl fun k _ => congrArg (x2At m c b s k * ·) (v0_at m c k e))
  · rw [hb]
    exact lt_of_lt_of_le (hg.bias e) (le_add_of_nonneg_left (sig_nonneg _))

end MemAttnProof

end
-- ==== Proof.Rows.lean ====
/-
  Blocks of rows, shared by the projections: a batch of sequences read as one list of rows, all the columns or some of the rows of a
  block, and a list of columns read in two halves.
-/
module

public import proofs.«01_k».proof.Proof.Ops

@[expose] public section

noncomputable section

namespace MemAttnProof

open Idealize.ShloMosaic Idealize.ShloMosaic.ValueIdx

theorem zero2 : (![0, 0] : Fin 2 → Nat) = fun _ => 0 := by funext a; match a with | ⟨0, _⟩ => rfl | ⟨1, _⟩ => rfl

/-- Row `R` of the flat list is row `R % S` of sequence `R / S`. -/
theorem flatRows {α : Type} {B S N T : Nat} (v : (Sh3 B S N).Idx → α) (h : (Sh3 B S N).ShapeCasts (Sh2 T N)) (R : Fin T) (j : Fin N)
    (b : Fin B) (s : Fin S) (hR : R.val = b.val * S + s.val) : shapeCast (Sh2 T N) v h (ix2 R j) = v (ix3 b s j) :=
  shapeCast_apply v h _ _ (by
    rw [Shape.rowMajor_val_three, Shape.rowMajor_val_two]
    show (b.val * S + s.val) * N + j.val = R.val * N + j.val
    rw [hR])

/-- A load of some of the rows and columns of a block. -/
theorem part {F : FTy → Type} {e : EltTy} {M N P Q : Nat} (x : (Sh2 M N).Idx → Elt F e) (o0 o1 : Nat)
    (inb : ∀ a, (![o0, o1] : Fin 2 → Nat) a + (Sh2 P Q).size a ≤ (Sh2 M N).size a)
    (r : Fin P) (j : Fin Q) (r' : Fin M) (j' : Fin N) (hr : r'.val = o0 + r.val) (hj : j'.val = o1 + j.val) :
    View.ld (Val := Elt F) x (Rect.unit (s := Sh2 M N) ![o0, o1] (Sh2 P Q).size inb) (ix2 r j) = x (ix2 r' j') := by
  rw [View.ld_unit]
  exact extractStridedSlice_apply _ x _ _ _ fun a => by
    match a with
    | ⟨0, _⟩ => exact hr
    | ⟨1, _⟩ => exact hj

end MemAttnProof

end
-- ==== Proof.In.lean ====
/-
  The input projection: the three arrays the kernel leaves, and the reference's three results, index by index.
-/
module

public import proofs.«01_k».proof.Proof.Gen.InProjIdeal.Value
public import proofs.«01_k».proof.Proof.Gen.InProjRefIdeal.Read
public import Idealize.ShloMosaic.Lib.Pipeline.ValueKit
public import Idealize.ShloMosaic.Lib.StableHlo.RunRead
public import Idealize.ShloMosaic.Lib.StableHlo.ReadAt
public import proofs.«01_k».proof.Proof.Rows

@[expose] public section

set_option maxRecDepth 16384

noncomputable section

namespace InProof

open Idealize.ShloMosaic hiding ix1 ix2 ix3
open Idealize.ShloMosaic.TcCoe Idealize.ShloMosaic.ValueIdx Cert.InProjIdeal Cert.InProjIdeal.Gen Cert.InProjIdeal.Value MemAttnProof
open Idealize.SL.Sem

variable (m : (ℓ : Loc nD τ Cert.InProjIdeal.sig) → Buf (Elt Idealize.ShloMosaic.Ideal) ℓ) (c : Dev nD)

abbrev aX : Vec Ideal S8x2048x1024 .f32 := m ((c : Thread nD τ).loc main_arg0)
abbrev aW : Vec Ideal S1024x3328 .f32 := m ((c : Thread nD τ).loc main_arg1)
abbrev aU : Vec Ideal S1024x32 .f32 := m ((c : Thread nD τ).loc main_arg2)

/-- Column `l` of the joined weights: the layer's columns, then the columns for the residual of the values, then zeros. -/
def col (W : Vec Ideal S1024x3328 .f32) (U : Vec Ideal S1024x32 .f32) (k : Fin 1024) (l : Nat) : EReal :=
  if h : l < 3328 then W (ix2 k ⟨l, h⟩) else if h : l - 3328 < 32 then U (ix2 k ⟨l - 3328, h⟩) else 0

/-- One entry of the projection: the sum over the features of the row. -/
def entry (X : Vec Ideal S8x2048x1024 .f32) (W : Vec Ideal S1024x3328 .f32) (U : Vec Ideal S1024x32 .f32) (R : Fin 16384) (l : Nat) : EReal :=
  ∑ k : Fin 1024, X (ix3 (⟨R.val / 2048, by omega⟩ : Fin 8) (⟨R.val % 2048, by omega⟩ : Fin 2048) k) * col W U k l

def G2 : Vec Ideal S16384x1536 .f32 := fun i => entry (aX m c) (aW m c) (aU m c) (i 0) (0 + (i 1).val)
def G3 : Vec Ideal S16384x1536 .f32 := fun i => entry (aX m c) (aW m c) (aU m c) (i 0) (1536 + (i 1).val)
def G4 : Vec Ideal S16384x384 .f32 := fun i => entry (aX m c) (aW m c) (aU m c) (i 0) (3072 + (i 1).val)

theorem ofBits_zero : Ideal.ofBits .f32 0x00000000#32 = 0 := by simp [Ideal.ofBits, Ideal.ieee]

theorem V_v3 : V m c main_v3 = (shapeCast S16384x1024 (aX m c) shapeCasts_S8x2048x1024_S16384x1024 : Vec Ideal S16384x1024 .f32) := by
  unfold V hostOps0
  after_reads_simp
  try rfl

/-- The joined weights, with the zeros. -/
def joined (W : Vec Ideal S1024x3328 .f32) (U : Vec Ideal S1024x32 .f32) : Vec Ideal S1024x3456 .f32 :=
  concatenate S1024x3456 1 [⟨S1024x3328, W⟩, ⟨S1024x32, U⟩,
    ⟨S1024x96, broadcastInDim S1024x96 ![] bcast_S_S1024x96 (constant S_ .f32 0x00000000#32 : FVec Ideal S_ .f32)⟩]
    concatenates_S1024x3328_S1024x32_S1024x96_S1024x3456_d1

theorem V_v2 : V m c main_v2 = (truncf .bf16 (joined (aW m c) (aU m c) : FVec Ideal S1024x3456 .f32) bitsLt_bf16_f32 : FVec Ideal S1024x3456 .bf16) := by
  unfold V hostOps0
  after_reads_simp
  try rfl

theorem joined_at (W : Vec Ideal S1024x3328 .f32) (U : Vec Ideal S1024x32 .f32) (k : Fin 1024) (l : Fin 3456) :
    joined W U (ix2 k l) = col W U k l.val := by
  unfold joined col
  split
  · rename_i h
    exact concatenate_apply_piece (t := S1024x3456) 1 _ _ (ix2 k l) 0 (by simp) S1024x3328 _ rfl rfl 0 rfl (ix2 k ⟨l.val, h⟩)
      (fun b hb => by
        match b with
        | ⟨0, _⟩ => rfl
        | ⟨1, _⟩ => exact absurd rfl hb) (Nat.zero_add _)
  · rename_i h1
    split
    · rename_i h
      exact concatenate_apply_piece (t := S1024x3456) 1 _ _ (ix2 k l) 1 (by simp) S1024x32 _ rfl rfl 3328 rfl (ix2 k ⟨l.val - 3328, h⟩)
        (fun b hb => by
          match b with
          | ⟨0, _⟩ => rfl
          | ⟨1, _⟩ => exact absurd rfl hb) (by show 3328 + (l.val - 3328) = l.val; omega)
    · rename_i h2
      refine (concatenate_apply_piece (t := S1024x3456) 1 _ _ (ix2 k l) 2 (by simp) S1024x96 _ rfl rfl 3360 rfl
        (ix2 k (⟨l.val - 3360, by omega⟩ : Fin 96)) (fun b hb => by
          match b with
          | ⟨0, _⟩ => rfl
          | ⟨1, _⟩ => exact absurd rfl hb) (by show 3360 + (l.val - 3360) = l.val; omega)).trans ?_
      exact ofBits_zero

section Block
variable (x0 : Vec Ideal S256x1024 .f32) (x1 : Vec Ideal S1024x3456 .bf16) (r : Fin 256)

theorem out2_apply (j : Fin 1536) : out0_2 x0 x1 (ix2 r j) = ∑ k : Fin 1024, x0 (ix2 r k) * x1 (ix2 k (⟨0 + j.val, by omega⟩ : Fin 3456)) := by
  have l0 : View.ld (Val := Elt Ideal) x0 r0_0 = x0 := View.ld_unit_zero zero2 _ x0
  unfold out0_2
  rw [View.canon_unit_zero zero2, l0]
  unfold k0_pay2 k0_pay1
  dsimp only
  rw [mm dot_S256x1024_S1024x1536_S256x1536_1_0_0_1_n_n rfl]
  simp only [truncf_apply, shapeCast_self]
  refine Finset.sum_congr rfl fun k _ => congrArg (x0 (ix2 r k) * ·) ?_
  exact part (F := Ideal) x1 0 0 _ k j k _ (Nat.zero_add _).symm rfl

theorem out3_apply (j : Fin 1536) : out0_3 x0 x1 (ix2 r j) = ∑ k : Fin 1024, x0 (ix2 r k) * x1 (ix2 k (⟨1536 + j.val, by omega⟩ : Fin 3456)) := by
  have l0 : View.ld (Val := Elt Ideal) x0 r0_0 = x0 := View.ld_unit_zero zero2 _ x0
  unfold out0_3
  rw [View.canon_unit_zero zero2, l0]
  unfold k0_pay3 k0_pay1
  dsimp only
  rw [mm dot_S256x1024_S1024x1536_S256x1536_1_0_0_1_n_n rfl]
  simp only [truncf_apply, shapeCast_self]
  refine Finset.sum_congr rfl fun k _ => congrArg (x0 (ix2 r k) * ·) ?_
  exact part (F := Ideal) x1 0 1536 _ k j k _ (Nat.zero_add _).symm rfl

theorem out4_apply (j : Fin 384) : out0_4 x0 x1 (ix2 r j) = ∑ k : Fin 1024, x0 (ix2 r k) * x1 (ix2 k (⟨3072 + j.val, by omega⟩ : Fin 3456)) := by
  have l0 : View.ld (Val := Elt Ideal) x0 r0_0 = x0 := View.ld_unit_zero zero2 _ x0
  unfold out0_4
  rw [View.canon_unit_zero zero2, l0]
  unfold k0_pay4 k0_pay1
  dsimp only
  rw [mm dot_S256x1024_S1024x384_S256x384_1_0_0_1_n_n rfl]
  simp only [truncf_apply, shapeCast_self]
  refine Finset.sum_congr rfl fun k _ => congrArg (x0 (ix2 r k) * ·) ?_
  exact part (F := Ideal) x1 0 3072 _ k j k _ (Nat.zero_add _).symm rfl

end Block

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)

def row (t : Fin cfg0.N) (r : Fin 256) : Fin 16384 := ⟨t.val * 256 + r.val, by have : t.val < 64 := t.isLt; omega⟩

theorem b0_at (t : Fin cfg0.N) (r : Fin 256) (k : Fin 1024) :
    iblk m c 0 t (ix2 r k) = aX m c (ix3 (⟨(row t r).val / 2048, by omega⟩ : Fin 8) (⟨(row t r).val % 2048, by omega⟩ : Fin 2048) k) := by
  have he : ((cfg0.win 0).blk t).view.emb (ix2 r k) = ix2 (row t r) k := by
    funext a; apply Fin.ext
    have e := i0 t
    match a with
    | ⟨0, _⟩ => show win0_0.index t (0 : Fin 2) * 256 + 1 * r.val = t.val * 256 + r.val; rw [e]; show t.val * 256 + 1 * r.val = _; omega
    | ⟨1, _⟩ => show win0_0.index t (1 : Fin 2) * 1024 + 1 * k.val = k.val; rw [e]; show 0 * 1024 + 1 * k.val = _; omega
  show V m c main_v3 (((cfg0.win 0).blk t).view.emb (ix2 r k)) = _
  rw [V_v3, he]
  exact flatRows _ _ _ _ _ _ (by show (row t r).val = (row t r).val / 2048 * 2048 + (row t r).val % 2048; omega)

theorem b1_at (t : Fin cfg0.N) (k : Fin 1024) (j : Fin 3456) : iblk m c 1 t (ix2 k j) = col (aW m c) (aU m c) k j.val := by
  have he : ((cfg0.win 1).blk t).view.emb (ix2 k j) = ix2 k j := by
    funext a; apply Fin.ext
    have e := i1 t
    match a with
    | ⟨0, _⟩ => show win0_1.index t (0 : Fin 2) * 1024 + 1 * k.val = k.val; rw [e]; show 0 * 1024 + 1 * k.val = _; omega
    | ⟨1, _⟩ => show win0_1.index t (1 : Fin 2) * 3456 + 1 * j.val = j.val; rw [e]; show 0 * 3456 + 1 * j.val = _; omega
  show V m c main_v2 (((cfg0.win 1).blk t).view.emb (ix2 k j)) = _
  rw [V_v2, he]
  exact joined_at _ _ k j

theorem final2 : (dats m 0 c).arrAt 2 cfg0.N = G2 m c := by
  refine (dats m 0 c).arrAt_eq_of_covers 2 (G2 m c) (by decide +kernel) fun t hf y => ?_
  obtain ⟨r, j, rfl⟩ : ∃ (r : Fin 256) (j : Fin 1536), y = ix2 r j := ⟨y 0, y 1, funext fun a => by
    match a with
    | ⟨0, _⟩ => rfl
    | ⟨1, _⟩ => rfl⟩
  have he : ((cfg0.win 2).blk t).view.emb (ix2 r j) = ix2 (row t r) j := by
    funext a; apply Fin.ext
    have e := i2 t
    match a with
    | ⟨0, _⟩ => show win0_2.index t (0 : Fin 2) * 256 + 1 * r.val = t.val * 256 + r.val; rw [e]; show t.val * 256 + 1 * r.val = _; omega
    | ⟨1, _⟩ => show win0_2.index t (1 : Fin 2) * 1536 + 1 * j.val = j.val; rw [e]; show 0 * 1536 + 1 * j.val = _; omega
  rw [he]
  show (dats m 0 c).after 2 t (ix2 r j) = entry (aX m c) (aW m c) (aU m c) (row t r) (0 + j.val)
  rw [after0_2]
  exact (out2_apply _ _ r j).trans (Finset.sum_congr rfl fun k _ => congrArg₂ (· * ·) (b0_at m c t r k) (b1_at m c t k _))

theorem final3 : (dats m 0 c).arrAt 3 cfg0.N = G3 m c := by
  refine (dats m 0 c).arrAt_eq_of_covers 3 (G3 m c) (by decide +kernel) fun t hf y => ?_
  obtain ⟨r, j, rfl⟩ : ∃ (r : Fin 256) (j : Fin 1536), y = ix2 r j := ⟨y 0, y 1, funext fun a => by
    match a with
    | ⟨0, _⟩ => rfl
    | ⟨1, _⟩ => rfl⟩
  have he : ((cfg0.win 3).blk t).view.emb (ix2 r j) = ix2 (row t r) j := by
    funext a; apply Fin.ext
    have e := i3 t
    match a with
    | ⟨0, _⟩ => show win0_3.index t (0 : Fin 2) * 256 + 1 * r.val = t.val * 256 + r.val; rw [e]; show t.val * 256 + 1 * r.val = _; omega
    | ⟨1, _⟩ => show win0_3.index t (1 : Fin 2) * 1536 + 1 * j.val = j.val; rw [e]; show 0 * 1536 + 1 * j.val = _; omega
  rw [he]
  show (dats m 0 c).after 3 t (ix2 r j) = entry (aX m c) (aW m c) (aU m c) (row t r) (1536 + j.val)
  rw [after0_3]
  exact (out3_apply _ _ r j).trans (Finset.sum_congr rfl fun k _ => congrArg₂ (· * ·) (b0_at m c t r k) (b1_at m c t k _))

theorem final4 : (dats m 0 c).arrAt 4 cfg0.N = G4 m c := by
  refine (dats m 0 c).arrAt_eq_of_covers 4 (G4 m c) (by decide +kernel) fun t hf y => ?_
  obtain ⟨r, j, rfl⟩ : ∃ (r : Fin 256) (j : Fin 384), y = ix2 r j := ⟨y 0, y 1, funext fun a => by
    match a with
    | ⟨0, _⟩ => rfl
    | ⟨1, _⟩ => rfl⟩
  have he : ((cfg0.win 4).blk t).view.emb (ix2 r j) = ix2 (row t r) j := by
    funext a; apply Fin.ext
    have e := i4 t
    match a with
    | ⟨0, _⟩ => show win0_4.index t (0 : Fin 2) * 256 + 1 * r.val = t.val * 256 + r.val; rw [e]; show t.val * 256 + 1 * r.val = _; omega
    | ⟨1, _⟩ => show win0_4.index t (1 : Fin 2) * 384 + 1 * j.val = j.val; rw [e]; show 0 * 384 + 1 * j.val = _; omega
  rw [he]
  show (dats m 0 c).after 4 t (ix2 r j) = entry (aX m c) (aW m c) (aU m c) (row t r) (3072 + j.val)
  rw [after0_4]
  exact (out4_apply _ _ r j).trans (Finset.sum_congr rfl fun k _ => congrArg₂ (· * ·) (b0_at m c t r k) (b1_at m c t k _))

section Reference
open Cert.InProjRefIdeal.Read
variable (X : Vec Ideal S8x2048x1024 .f32) (W : Vec Ideal S1024x3328 .f32) (U : Vec Ideal S1024x32 .f32)

theorem weights_at (k : Fin 1024) (l : Fin 3360) : val_main_v0 (F := Ideal) W U (ix2 k l) = col W U k l.val := by
  unfold val_main_v0 col
  split
  · rename_i h
    exact concatenate_apply_piece (t := Cert.InProjRefIdeal.S1024x3360) 1 _ _ (ix2 k l) 0 (by simp) S1024x3328 _ rfl rfl 0 rfl (ix2 k ⟨l.val, h⟩)
      (fun b hb => by
        match b with
        | ⟨0, _⟩ => rfl
        | ⟨1, _⟩ => exact absurd rfl hb) (Nat.zero_add _)
  · rename_i h1
    rw [dif_pos (show l.val - 3328 < 32 by omega)]
    exact concatenate_apply_piece (t := Cert.InProjRefIdeal.S1024x3360) 1 _ _ (ix2 k l) 1 (by simp) S1024x32 _ rfl rfl 3328 rfl
      (ix2 k ⟨l.val - 3328, by omega⟩)
      (fun b hb => by
        match b with
        | ⟨0, _⟩ => rfl
        | ⟨1, _⟩ => exact absurd rfl hb) (by show 3328 + (l.val - 3328) = l.val; omega)

theorem z_at (b : Fin 8) (s : Fin 2048) (l : Fin 3360) :
    val_main_v1 (F := Ideal) X W U (ix3 b s l) = ∑ k : Fin 1024, X (ix3 b s k) * col W U k l.val := by
  rw [val_main_v1_apply]
  refine Finset.sum_congr rfl fun k _ => congrArg₂ (· * ·) (congrArg X ?_) ((congrArg (val_main_v0 (F := Ideal) W U) ?_).trans (weights_at W U k l))
  · funext a; match a with | ⟨0, _⟩ => rfl | ⟨1, _⟩ => rfl | ⟨2, _⟩ => rfl
  · funext a; match a with | ⟨0, _⟩ => rfl | ⟨1, _⟩ => rfl

theorem att_eq : val_main_v7 (F := Ideal) X W U = fun i => entry X W U (i 0) (0 + (i 1).val) := by
  funext i
  have h0 : (i 0).val < 16384 := (i 0).isLt
  have h1 : (i 1).val < 1536 := (i 1).isLt
  rw [val_main_v7_apply, val_main_v2_apply]
  refine Eq.trans (congrArg _ ?_) (z_at X W U ⟨(i 0).val / 2048, by omega⟩ ⟨(i 0).val % 2048, by omega⟩ ⟨0 + (i 1).val, by omega⟩)
  funext a; apply Fin.ext
  match a with
  | ⟨0, _⟩ => show ((i 0).val * 1536 + (i 1).val) / 3145728 = (i 0).val / 2048; omega
  | ⟨1, _⟩ => show ((i 0).val * 1536 + (i 1).val) / 1536 % 2048 = (i 0).val % 2048; omega
  | ⟨2, _⟩ => show ((i 0).val * 1536 + (i 1).val) % 1536 = 0 + (i 1).val; omega

theorem rkv_eq : val_main_v8 (F := Ideal) X W U = fun i => entry X W U (i 0) (1536 + (i 1).val) := by
  funext i
  have h0 : (i 0).val < 16384 := (i 0).isLt
  have h1 : (i 1).val < 1536 := (i 1).isLt
  rw [val_main_v8_apply, val_main_v3_apply]
  refine Eq.trans (congrArg _ ?_) (z_at X W U ⟨(i 0).val / 2048, by omega⟩ ⟨(i 0).val % 2048, by omega⟩ ⟨1536 + (i 1).val, by omega⟩)
  funext a; apply Fin.ext
  match a with
  | ⟨0, _⟩ => show ((i 0).val * 1536 + (i 1).val) / 3145728 = (i 0).val / 2048; omega
  | ⟨1, _⟩ => show ((i 0).val * 1536 + (i 1).val) / 1536 % 2048 = (i 0).val % 2048; omega
  | ⟨2, _⟩ => show 1536 + ((i 0).val * 1536 + (i 1).val) % 1536 = 1536 + (i 1).val; omega

theorem lora_at (b : Fin 8) (s : Fin 2048) (j : Fin 384) :
    val_main_v6 (F := Ideal) X W U (ix3 b s j) = ∑ k : Fin 1024, X (ix3 b s k) * col W U k (3072 + j.val) := by
  by_cases h : j.val < 288
  · refine (concatenate_apply_piece (t := Cert.InProjRefIdeal.S8x2048x384) 2 _ _ (ix3 b s j) 0 (by simp) Cert.InProjRefIdeal.S8x2048x288 _ rfl rfl 0 rfl
      (ix3 b s (⟨j.val, h⟩ : Fin 288)) (fun a ha => by
        match a with
        | ⟨0, _⟩ => rfl
        | ⟨1, _⟩ => rfl
        | ⟨2, _⟩ => exact absurd rfl ha) (Nat.zero_add _)).trans ?_
    rw [val_main_v4_apply]
    refine Eq.trans (congrArg _ ?_) (z_at X W U b s ⟨3072 + j.val, by omega⟩)
    funext a; match a with | ⟨0, _⟩ => rfl | ⟨1, _⟩ => rfl | ⟨2, _⟩ => rfl
  · refine (concatenate_apply_piece (t := Cert.InProjRefIdeal.S8x2048x384) 2 _ _ (ix3 b s j) 1 (by simp) Cert.InProjRefIdeal.S8x2048x96 _ rfl rfl 288 rfl
      (ix3 b s (⟨j.val - 288, by omega⟩ : Fin 96)) (fun a ha => by
        match a with
        | ⟨0, _⟩ => rfl
        | ⟨1, _⟩ => rfl
        | ⟨2, _⟩ => exact absurd rfl ha) (by show 288 + (j.val - 288) = j.val; omega)).trans ?_
    rw [val_main_v5_apply]
    refine Eq.trans ofBits_zero (Finset.sum_eq_zero fun k _ => ?_).symm
    unfold col
    rw [dif_neg (by omega), dif_neg (by omega), mul_zero]

theorem lora_eq : val_main_v9 (F := Ideal) X W U = fun i => entry X W U (i 0) (3072 + (i 1).val) := by
  funext i
  have h0 : (i 0).val < 16384 := (i 0).isLt
  have h1 : (i 1).val < 384 := (i 1).isLt
  rw [val_main_v9_apply]
  refine Eq.trans (congrArg _ ?_) (lora_at X W U ⟨(i 0).val / 2048, by omega⟩ ⟨(i 0).val % 2048, by omega⟩ ⟨(i 1).val, h1⟩)
  funext a; apply Fin.ext
  match a with
  | ⟨0, _⟩ => show ((i 0).val * 384 + (i 1).val) / 786432 = (i 0).val / 2048; omega
  | ⟨1, _⟩ => show ((i 0).val * 384 + (i 1).val) / 384 % 2048 = (i 0).val % 2048; omega
  | ⟨2, _⟩ => show ((i 0).val * 384 + (i 1).val) % 384 = (i 1).val; omega

end Reference

end InProof

end
-- ==== Proof.Out.lean ====
/-
  The output projection with its residual and layer norm: the array the kernel leaves, and the reference's result, index by index.
-/
module

public import proofs.«01_k».proof.Proof.Gen.OutProjIdeal.Value
public import proofs.«01_k».proof.Proof.Gen.OutProjRefIdeal.Read
public import Idealize.ShloMosaic.Lib.Pipeline.ValueKit
public import Idealize.ShloMosaic.Lib.StableHlo.RunRead
public import Idealize.ShloMosaic.Lib.StableHlo.ReadAt
public import proofs.«01_k».proof.Proof.Rows
public import proofs.«01_k».proof.Proof.Kernel

@[expose] public section

set_option maxRecDepth 16384

noncomputable section

namespace OutProof

open Idealize.ShloMosaic hiding ix1 ix2 ix3
open Idealize.ShloMosaic.TcCoe Idealize.ShloMosaic.ValueIdx Cert.OutProjIdeal Cert.OutProjIdeal.Gen Cert.OutProjIdeal.Value MemAttnProof
open Idealize.SL.Sem

variable (m : (ℓ : Loc nD τ Cert.OutProjIdeal.sig) → Buf (Elt Idealize.ShloMosaic.Ideal) ℓ) (c : Dev nD)

abbrev aX : Vec Ideal S8x2048x1024 .f32 := m ((c : Thread nD τ).loc main_arg0)
abbrev aA : Vec Ideal S8x2048x512 .f32 := m ((c : Thread nD τ).loc main_arg1)
abbrev aR : Vec Ideal S8x2048x512 .f32 := m ((c : Thread nD τ).loc main_arg2)
abbrev aW : FVec Ideal S1024x1024 .f32 := m ((c : Thread nD τ).loc main_arg3)
abbrev aG : Vec Ideal S1024 .f32 := m ((c : Thread nD τ).loc main_arg4)
abbrev aB : Vec Ideal S1024 .f32 := m ((c : Thread nD τ).loc main_arg5)

/-- The residual plus the projection of the two mixers' outputs, for one row. -/
def pre (x : Fin 1024 → EReal) (a q : Fin 512 → EReal) (w : Fin 1024 → Fin 1024 → EReal) (j : Fin 1024) : EReal :=
  cAlpha * x j + ((∑ k : Fin 512, a k * w ⟨k.val, by omega⟩ j) + ∑ k : Fin 512, q k * w ⟨512 + k.val, by omega⟩ j)

/-- The result at a batch, a position and a lane. -/
def outAt (X : Vec Ideal S8x2048x1024 .f32) (A R : Vec Ideal S8x2048x512 .f32) (W : Vec Ideal S1024x1024 .f32) (g b : Vec Ideal S1024 .f32)
    (n : Fin 16384) (j : Fin 1024) : EReal :=
  lnRow (pre (fun k => X (ix3 (⟨n.val / 2048, by omega⟩ : Fin 8) (⟨n.val % 2048, by omega⟩ : Fin 2048) k))
      (fun k => A (ix3 (⟨n.val / 2048, by omega⟩ : Fin 8) (⟨n.val % 2048, by omega⟩ : Fin 2048) k))
      (fun k => R (ix3 (⟨n.val / 2048, by omega⟩ : Fin 8) (⟨n.val % 2048, by omega⟩ : Fin 2048) k)) fun k j => W (ix2 k j))
    (fun j => g (ix1 j)) (fun j => b (ix1 j)) j

def G : Vec Ideal S16384x1024 .f32 := fun i => outAt (aX m c) (aA m c) (aR m c) (aW m c) (aG m c) (aB m c) (i 0) (i 1)

theorem V_v4 : V m c main_v4 = (shapeCast S16384x1024 (aX m c) shapeCasts_S8x2048x1024_S16384x1024 : Vec Ideal S16384x1024 .f32) := by
  unfold V hostOps0
  after_reads_simp
  try rfl

theorem V_v5 : V m c main_v5 = (shapeCast S16384x512 (aA m c) shapeCasts_S8x2048x512_S16384x512 : Vec Ideal S16384x512 .f32) := by
  unfold V hostOps0
  after_reads_simp
  try rfl

theorem V_v6 : V m c main_v6 = (shapeCast S16384x512 (aR m c) shapeCasts_S8x2048x512_S16384x512 : Vec Ideal S16384x512 .f32) := by
  unfold V hostOps0
  after_reads_simp
  try rfl

theorem V_v7 : V m c main_v7 = (truncf .bf16 (aW m c) bitsLt_bf16_f32 : FVec Ideal S1024x1024 .bf16) := by
  unfold V hostOps0
  after_reads_simp
  try rfl

theorem V_v3 : V m c main_v3 = (concatenate S8x1024 0 [⟨S1x1024, broadcastInDim S1x1024 ![1] bcast_S1024_S1x1024_1 (aG m c)⟩,
    ⟨S1x1024, broadcastInDim S1x1024 ![1] bcast_S1024_S1x1024_1 (aB m c)⟩,
    ⟨S6x1024, broadcastInDim S6x1024 ![] bcast_S_S6x1024 (constant S_ .f32 0x00000000#32 : FVec Ideal S_ .f32)⟩] concatenates_S1x1024_S1x1024_S6x1024_S8x1024_d0 : Vec Ideal S8x1024 .f32) := by
  unfold V hostOps0
  after_reads_simp
  try rfl

theorem v3_row0 (j : Fin 1024) : V m c main_v3 (ix2 (0 : Fin 8) j) = aG m c (ix1 j) := by
  rw [V_v3]
  refine (concatenate_apply_piece (t := S8x1024) 0 _ _ (ix2 (0 : Fin 8) j) 0 (by simp) S1x1024 _ rfl rfl 0 rfl
    (ix2 (0 : Fin 1) j) (fun b hb => ?_) rfl).trans ?_
  · match b with
    | ⟨0, _⟩ => exact absurd rfl hb
    | ⟨1, _⟩ => rfl
  · exact broadcastInDim_apply _ _ _ _ (ix1 j) fun a => by
      match a with
      | ⟨0, _⟩ => rfl

theorem v3_row1 (j : Fin 1024) : V m c main_v3 (ix2 (1 : Fin 8) j) = aB m c (ix1 j) := by
  rw [V_v3]
  refine (concatenate_apply_piece (t := S8x1024) 0 _ _ (ix2 (1 : Fin 8) j) 1 (by simp) S1x1024 _ rfl rfl 1 rfl
    (ix2 (0 : Fin 1) j) (fun b hb => ?_) rfl).trans ?_
  · match b with
    | ⟨0, _⟩ => exact absurd rfl hb
    | ⟨1, _⟩ => rfl
  · exact broadcastInDim_apply _ _ _ _ (ix1 j) fun a => by
      match a with
      | ⟨0, _⟩ => rfl

section Block
variable (x0 : Vec Ideal S512x1024 .f32) (x1 x2 : Vec Ideal S512x512 .f32) (x3 : Vec Ideal S1024x1024 .bf16) (x4 : Vec Ideal S8x1024 .f32)
  (r : Fin 512)

/-- The residual plus the two products of one block, from the loaded halves of the weights. -/
def preB (v0 : Vec Ideal S512x512 .f32) (v3 : Vec Ideal S512x1024 .bf16) (v6 : Vec Ideal S512x512 .f32) (v9 : Vec Ideal S512x1024 .bf16)
    (v13 : Vec Ideal S512x1024 .f32) : FVec Ideal S512x1024 .f32 :=
  addf (mulf (broadcast S512x1024 (Scalar.ofBits .f32 0x3FB504F3#32 : Ideal .f32)) (shapeCast S512x1024 v13 shapeCasts_S512x1024_S512x1024))
    (addf (matmul dot_S512x512_S512x1024_S512x1024_1_0_0_1_n_n none
        (truncf .bf16 (shapeCast S512x512 v0 shapeCasts_S512x512_S512x512 : FVec Ideal S512x512 .f32) bitsLt_bf16_f32 : FVec Ideal S512x512 .bf16)
        (shapeCast S512x1024 v3 shapeCasts_S512x1024_S512x1024 : FVec Ideal S512x1024 .bf16) (constant S512x1024 .f32 0x00000000#32))
      (matmul dot_S512x512_S512x1024_S512x1024_1_0_0_1_n_n none
        (truncf .bf16 (shapeCast S512x512 v6 shapeCasts_S512x512_S512x512 : FVec Ideal S512x512 .f32) bitsLt_bf16_f32 : FVec Ideal S512x512 .bf16)
        (shapeCast S512x1024 v9 shapeCasts_S512x1024_S512x1024 : FVec Ideal S512x1024 .bf16) (constant S512x1024 .f32 0x00000000#32)))

theorem preB_apply (v0 : Vec Ideal S512x512 .f32) (v3 : Vec Ideal S512x1024 .bf16) (v6 : Vec Ideal S512x512 .f32) (v9 : Vec Ideal S512x1024 .bf16)
    (v13 : Vec Ideal S512x1024 .f32) (j : Fin 1024) :
    preB v0 v3 v6 v9 v13 (ix2 r j) = cAlpha * v13 (ix2 r j) + ((∑ k : Fin 512, v0 (ix2 r k) * v3 (ix2 k j)) + ∑ k : Fin 512, v6 (ix2 r k) * v9 (ix2 k j)) := by
  unfold preB
  rw [addf_apply, addf_apply, mm dot_S512x512_S512x1024_S512x1024_1_0_0_1_n_n rfl, mm dot_S512x512_S512x1024_S512x1024_1_0_0_1_n_n rfl]
  simp only [truncf_apply, shapeCast_self]
  rfl

theorem norm_eq (g b : Vec Ideal S1x1024 .f32) (v0 : Vec Ideal S512x512 .f32) (v3 : Vec Ideal S512x1024 .bf16) (v6 : Vec Ideal S512x512 .f32)
    (v9 : Vec Ideal S512x1024 .bf16) (v13 : Vec Ideal S512x1024 .f32) :
    k0_pay1 (k0_pay2 g) (k0_pay3 b) (k0_pay4 v0 v3 v6 v9 v13) (k0_pay5 v0 v3 v6 v9 v13)
      = lnBlk (preB v0 v3 v6 v9 v13) (shapeCast S1x1024 g shapeCasts_S1x1024_S1x1024) (shapeCast S1x1024 b shapeCasts_S1x1024_S1x1024) := rfl

theorem out_apply (j : Fin 1024) : out0_5 x0 x1 x2 x3 x4 (ix2 r j)
    = lnRow (pre (fun k => x0 (ix2 r k)) (fun k => x1 (ix2 r k)) (fun k => x2 (ix2 r k)) fun k j => x3 (ix2 k j))
        (fun j => x4 (ix2 (0 : Fin 8) j)) (fun j => x4 (ix2 (1 : Fin 8) j)) j := by
  have l0 : View.ld (Val := Elt Ideal) x0 r0_3 = x0 := View.ld_unit_zero zero2 _ x0
  have l1 : View.ld (Val := Elt Ideal) x1 r0_0 = x1 := View.ld_unit_zero zero2 _ x1
  have l2 : View.ld (Val := Elt Ideal) x2 r0_0 = x2 := View.ld_unit_zero zero2 _ x2
  have w0 : ∀ (k : Fin 512) (j : Fin 1024), View.ld (Val := Elt Ideal) x3 r0_1 (ix2 k j) = x3 (ix2 (⟨k.val, by omega⟩ : Fin 1024) j) := fun k j =>
    part (F := Ideal) x3 0 0 _ k j _ _ (Nat.zero_add _).symm (Nat.zero_add _).symm
  have w1 : ∀ (k : Fin 512) (j : Fin 1024), View.ld (Val := Elt Ideal) x3 r0_2 (ix2 k j) = x3 (ix2 (⟨512 + k.val, by omega⟩ : Fin 1024) j) := fun k j =>
    part (F := Ideal) x3 512 0 _ k j _ _ rfl (Nat.zero_add _).symm
  have g0 : ∀ j : Fin 1024, View.ld (Val := Elt Ideal) x4 r0_4 (ix2 (0 : Fin 1) j) = x4 (ix2 (0 : Fin 8) j) := fun j =>
    part (F := Ideal) x4 0 0 _ (0 : Fin 1) j _ _ rfl (Nat.zero_add _).symm
  have g1 : ∀ j : Fin 1024, View.ld (Val := Elt Ideal) x4 r0_5 (ix2 (0 : Fin 1) j) = x4 (ix2 (1 : Fin 8) j) := fun j =>
    part (F := Ideal) x4 1 0 _ (0 : Fin 1) j _ _ rfl (Nat.zero_add _).symm
  unfold out0_5
  rw [View.canon_unit_zero zero2, norm_eq, lnBlk_apply, l0, l1, l2]
  simp only [shapeCast_self, preB_apply, w0, w1, g0, g1]
  rfl

end Block

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![t.val, 0] := (by decide +kernel : ∀ t : Fin grid0.N, _)

def row (t : Fin cfg0.N) (r : Fin 512) : Fin 16384 := ⟨t.val * 512 + r.val, by have : t.val < 32 := t.isLt; omega⟩

theorem b0_at (t : Fin cfg0.N) (r : Fin 512) (k : Fin 1024) :
    iblk m c 0 t (ix2 r k) = aX m c (ix3 (⟨(row t r).val / 2048, by omega⟩ : Fin 8) (⟨(row t r).val % 2048, by omega⟩ : Fin 2048) k) := by
  have he : ((cfg0.win 0).blk t).view.emb (ix2 r k) = ix2 (row t r) k := by
    funext a; apply Fin.ext
    have e := i0 t
    match a with
    | ⟨0, _⟩ => show win0_0.index t (0 : Fin 2) * 512 + 1 * r.val = t.val * 512 + r.val; rw [e]; show t.val * 512 + 1 * r.val = _; omega
    | ⟨1, _⟩ => show win0_0.index t (1 : Fin 2) * 1024 + 1 * k.val = k.val; rw [e]; show 0 * 1024 + 1 * k.val = _; omega
  show V m c main_v4 (((cfg0.win 0).blk t).view.emb (ix2 r k)) = _
  rw [V_v4, he]
  exact flatRows _ _ _ _ _ _ (by show (row t r).val = (row t r).val / 2048 * 2048 + (row t r).val % 2048; omega)

theorem b1_at (t : Fin cfg0.N) (r : Fin 512) (k : Fin 512) :
    iblk m c 1 t (ix2 r k) = aA m c (ix3 (⟨(row t r).val / 2048, by omega⟩ : Fin 8) (⟨(row t r).val % 2048, by omega⟩ : Fin 2048) k) := by
  have he : ((cfg0.win 1).blk t).view.emb (ix2 r k) = ix2 (row t r) k := by
    funext a; apply Fin.ext
    have e := i1 t
    match a with
    | ⟨0, _⟩ => show win0_1.index t (0 : Fin 2) * 512 + 1 * r.val = t.val * 512 + r.val; rw [e]; show t.val * 512 + 1 * r.val = _; omega
    | ⟨1, _⟩ => show win0_1.index t (1 : Fin 2) * 512 + 1 * k.val = k.val; rw [e]; show 0 * 512 + 1 * k.val = _; omega
  show V m c main_v5 (((cfg0.win 1).blk t).view.emb (ix2 r k)) = _
  rw [V_v5, he]
  exact flatRows _ _ _ _ _ _ (by show (row t r).val = (row t r).val / 2048 * 2048 + (row t r).val % 2048; omega)

theorem b2_at (t : Fin cfg0.N) (r : Fin 512) (k : Fin 512) :
    iblk m c 2 t (ix2 r k) = aR m c (ix3 (⟨(row t r).val / 2048, by omega⟩ : Fin 8) (⟨(row t r).val % 2048, by omega⟩ : Fin 2048) k) := by
  have he : ((cfg0.win 2).blk t).view.emb (ix2 r k) = ix2 (row t r) k := by
    funext a; apply Fin.ext
    have e := i2 t
    match a with
    | ⟨0, _⟩ => show win0_2.index t (0 : Fin 2) * 512 + 1 * r.val = t.val * 512 + r.val; rw [e]; show t.val * 512 + 1 * r.val = _; omega
    | ⟨1, _⟩ => show win0_2.index t (1 : Fin 2) * 512 + 1 * k.val = k.val; rw [e]; show 0 * 512 + 1 * k.val = _; omega
  show V m c main_v6 (((cfg0.win 2).blk t).view.emb (ix2 r k)) = _
  rw [V_v6, he]
  exact flatRows _ _ _ _ _ _ (by show (row t r).val = (row t r).val / 2048 * 2048 + (row t r).val % 2048; omega)

theorem b3_eq (t : Fin cfg0.N) : iblk m c 3 t = V m c main_v7 := by
  funext j
  show V m c main_v7 (((cfg0.win 3).blk t).view.emb j) = V m c main_v7 j
  refine congrArg _ (funext fun a => Fin.ext ?_)
  have e := i3 t
  match a with
  | ⟨0, _⟩ => show win0_3.index t (0 : Fin 2) * 1024 + 1 * (j 0).val = (j 0).val; rw [e]; show 0 * 1024 + 1 * (j 0).val = _; omega
  | ⟨1, _⟩ => show win0_3.index t (1 : Fin 2) * 1024 + 1 * (j 1).val = (j 1).val; rw [e]; show 0 * 1024 + 1 * (j 1).val = _; omega

theorem b4_eq (t : Fin cfg0.N) : iblk m c 4 t = V m c main_v3 := by
  funext j
  show V m c main_v3 (((cfg0.win 4).blk t).view.emb j) = V m c main_v3 j
  refine congrArg _ (funext fun a => Fin.ext ?_)
  have e := i4 t
  match a with
  | ⟨0, _⟩ => show win0_4.index t (0 : Fin 2) * 8 + 1 * (j 0).val = (j 0).val; rw [e]; show 0 * 8 + 1 * (j 0).val = _; omega
  | ⟨1, _⟩ => show win0_4.index t (1 : Fin 2) * 1024 + 1 * (j 1).val = (j 1).val; rw [e]; show 0 * 1024 + 1 * (j 1).val = _; omega

theorem row_congr {x x' : Fin 1024 → EReal} {a a' q q' : Fin 512 → EReal} {w w' : Fin 1024 → Fin 1024 → EReal} {g g' b b' : Fin 1024 → EReal}
    (h0 : ∀ k, x k = x' k) (h1 : ∀ k, a k = a' k) (h2 : ∀ k, q k = q' k) (h3 : ∀ k j, w k j = w' k j) (h4 : ∀ j, g j = g' j) (h5 : ∀ j, b j = b' j)
    (j : Fin 1024) : lnRow (pre x a q w) g b j = lnRow (pre x' a' q' w') g' b' j := by
  obtain rfl : x = x' := funext h0
  obtain rfl : a = a' := funext h1
  obtain rfl : q = q' := funext h2
  obtain rfl : w = w' := funext fun k => funext (h3 k)
  obtain rfl : g = g' := funext h4
  obtain rfl : b = b' := funext h5
  rfl

theorem final : (dats m 0 c).arrAt 5 cfg0.N = G m c := by
  refine (dats m 0 c).arrAt_eq_of_covers 5 (G m c) (by decide +kernel) fun t hf y => ?_
  obtain ⟨r, j, rfl⟩ : ∃ (r : Fin 512) (j : Fin 1024), y = ix2 r j := ⟨y 0, y 1, funext fun a => by
    match a with
    | ⟨0, _⟩ => rfl
    | ⟨1, _⟩ => rfl⟩
  have he : ((cfg0.win 5).blk t).view.emb (ix2 r j) = ix2 (row t r) j := by
    funext a; apply Fin.ext
    have e := i5 t
    match a with
    | ⟨0, _⟩ => show win0_5.index t (0 : Fin 2) * 512 + 1 * r.val = t.val * 512 + r.val; rw [e]; show t.val * 512 + 1 * r.val = _; omega
    | ⟨1, _⟩ => show win0_5.index t (1 : Fin 2) * 1024 + 1 * j.val = j.val; rw [e]; show 0 * 1024 + 1 * j.val = _; omega
  rw [he]
  show (dats m 0 c).after 5 t (ix2 r j) = outAt (aX m c) (aA m c) (aR m c) (aW m c) (aG m c) (aB m c) (row t r) j
  rw [after0_5]
  refine (out_apply _ _ _ _ _ r j).trans ?_
  rw [b3_eq, b4_eq]
  exact row_congr (b0_at m c t r) (b1_at m c t r) (b2_at m c t r) (fun k j => by rw [V_v7]; rfl) (v3_row0 m c) (v3_row1 m c) j

section Reference
open Cert.OutProjRefIdeal.Read
variable (X : Vec Ideal S8x2048x1024 .f32) (A R : Vec Ideal S8x2048x512 .f32) (W : Vec Ideal S1024x1024 .f32) (g β : Vec Ideal S1024 .f32)

theorem ofBits_zero : Ideal.ofBits .f32 0x00000000#32 = 0 := by simp [Ideal.ofBits, Ideal.ieee]

theorem mix_lo (b : Fin 8) (s : Fin 2048) (k : Fin 512) : val_main_v0 (F := Ideal) A R (ix3 b s (⟨k.val, by omega⟩ : Fin 1024)) = A (ix3 b s k) :=
  concatenate_apply_piece (t := S8x2048x1024) 2 _ _ (ix3 b s (⟨k.val, by omega⟩ : Fin 1024)) 0 (by simp) S8x2048x512 _ rfl rfl 0 rfl (ix3 b s k)
    (fun a ha => by
      match a with
      | ⟨0, _⟩ => rfl
      | ⟨1, _⟩ => rfl
      | ⟨2, _⟩ => exact absurd rfl ha) (Nat.zero_add _)

theorem mix_hi (b : Fin 8) (s : Fin 2048) (k : Fin 512) : val_main_v0 (F := Ideal) A R (ix3 b s (⟨512 + k.val, by omega⟩ : Fin 1024)) = R (ix3 b s k) :=
  concatenate_apply_piece (t := S8x2048x1024) 2 _ _ (ix3 b s (⟨512 + k.val, by omega⟩ : Fin 1024)) 1 (by simp) S8x2048x512 _ rfl rfl 512 rfl (ix3 b s k)
    (fun a ha => by
      match a with
      | ⟨0, _⟩ => rfl
      | ⟨1, _⟩ => rfl
      | ⟨2, _⟩ => exact absurd rfl ha) rfl

/-- A sum over the joined columns is the sum over each half. -/
theorem sum_halves (f : Fin 1024 → EReal) : ∑ k, f k = (∑ k : Fin 512, f ⟨k.val, by omega⟩) + ∑ k : Fin 512, f ⟨512 + k.val, by omega⟩ :=
  Fin.sum_univ_add (a := 512) (b := 512) f

variable (b : Fin 8) (s : Fin 2048)

/-- The reference's row before its layer norm. -/
def yAt : Fin 1024 → EReal := pre (fun k => X (ix3 b s k)) (fun k => A (ix3 b s k)) (fun k => R (ix3 b s k)) fun k j => W (ix2 k j)

theorem v4_at (j : Fin 1024) : val_main_v4 (F := Ideal) X A R W (ix3 b s j) = yAt X A R W b s j := by
  have hl : ∀ k, lidx_main_v3 (ix3 b s j) k = ix3 b s k := fun k => by
    funext a; match a with | ⟨0, _⟩ => rfl | ⟨1, _⟩ => rfl | ⟨2, _⟩ => rfl
  have hr : ∀ k, ridx_main_v3 (ix3 b s j) k = ix2 k j := fun k => by
    funext a; match a with | ⟨0, _⟩ => rfl | ⟨1, _⟩ => rfl
  rw [val_main_v4_apply, val_main_v2_apply, val_main_v1_apply, val_main_cst_apply, val_main_v3_apply]
  simp only [hl, hr]
  rw [sum_halves]
  simp only [mix_lo, mix_hi]
  rfl

theorem v8_at : val_main_v8 (F := Ideal) X A R W (ix3 b s (0 : Fin 1)) = mean (yAt X A R W b s) := by
  have hi : ∀ k, idx_main_v5 (idx_main_v6 (ix3 b s (0 : Fin 1))) k = ix3 b s k := fun k => by
    funext a; match a with | ⟨0, _⟩ => rfl | ⟨1, _⟩ => rfl | ⟨2, _⟩ => rfl
  rw [val_main_v8_apply, val_main_v6_apply, val_main_v5_apply, val_main_v7_apply, val_main_cst_1_apply, val_main_cst_0_apply]
  simp only [hi, v4_at]
  show Ideal.div (Ideal.ofBits .f32 0x00000000#32 + _) _ = _
  rw [ofBits_zero, zero_add]
  rfl

theorem v10_at (j : Fin 1024) : val_main_v10 (F := Ideal) X A R W (ix3 b s j) = yAt X A R W b s j - mean (yAt X A R W b s) := by
  have hi : idx_main_v9 (ix3 b s j) = ix3 b s (0 : Fin 1) := by
    funext a; match a with | ⟨0, _⟩ => rfl | ⟨1, _⟩ => rfl | ⟨2, _⟩ => rfl
  rw [val_main_v10_apply, val_main_v9_apply, hi, v4_at, v8_at]
  rfl

theorem v15_at : val_main_v15 (F := Ideal) X A R W (ix3 b s (0 : Fin 1))
    = mean (fun k => (yAt X A R W b s k - mean (yAt X A R W b s)) * (yAt X A R W b s k - mean (yAt X A R W b s))) := by
  have hi : ∀ k, idx_main_v12 (idx_main_v13 (ix3 b s (0 : Fin 1))) k = ix3 b s k := fun k => by
    funext a; match a with | ⟨0, _⟩ => rfl | ⟨1, _⟩ => rfl | ⟨2, _⟩ => rfl
  rw [val_main_v15_apply, val_main_v13_apply, val_main_v12_apply, val_main_v14_apply, val_main_cst_3_apply, val_main_cst_2_apply]
  simp only [hi, val_main_v11_apply, v10_at]
  show Ideal.div (Ideal.ofBits .f32 0x00000000#32 + _) _ = _
  rw [ofBits_zero, zero_add]
  rfl

theorem v28_at (j : Fin 1024) : val_main_v28 (F := Ideal) X A R W g β (ix3 b s j)
    = lnRow (yAt X A R W b s) (fun j => g (ix1 j)) (fun j => β (ix1 j)) j := by
  have h16 : idx_main_v16 (ix3 b s j) = ix3 b s (0 : Fin 1) := by
    funext a; match a with | ⟨0, _⟩ => rfl | ⟨1, _⟩ => rfl | ⟨2, _⟩ => rfl
  have h21 : idx_main_v21 (ix3 b s j) = ix3 b s (0 : Fin 1) := by
    funext a; match a with | ⟨0, _⟩ => rfl | ⟨1, _⟩ => rfl | ⟨2, _⟩ => rfl
  have h23 : idx_main_v23 (idx_main_v24 (ix3 b s j)) = ix1 j := by
    funext a; match a with | ⟨0, _⟩ => rfl
  have h26 : idx_main_v26 (idx_main_v27 (ix3 b s j)) = ix1 j := by
    funext a; match a with | ⟨0, _⟩ => rfl
  rw [val_main_v28_apply, val_main_v25_apply, val_main_v22_apply, val_main_v17_apply, val_main_v16_apply, val_main_v21_apply,
    val_main_v20_apply, val_main_v19_apply, val_main_v18_apply, val_main_cst_4_apply, val_main_v24_apply, val_main_v23_apply,
    val_main_v27_apply, val_main_v26_apply, h16, h21, h23, h26, v4_at, v8_at, v15_at]
  rfl

omit b s in
theorem ref_eq : val_main_v29 (F := Ideal) X A R W g β = fun i => outAt X A R W g β (i 0) (i 1) := by
  funext i
  have h0 : (i 0).val < 16384 := (i 0).isLt
  have h1 : (i 1).val < 1024 := (i 1).isLt
  rw [val_main_v29_apply]
  refine Eq.trans (congrArg _ ?_) (v28_at X A R W g β ⟨(i 0).val / 2048, by omega⟩ ⟨(i 0).val % 2048, by omega⟩ (i 1))
  funext a; apply Fin.ext
  match a with
  | ⟨0, _⟩ => show ((i 0).val * 1024 + (i 1).val) / 2097152 = (i 0).val / 2048; omega
  | ⟨1, _⟩ => show ((i 0).val * 1024 + (i 1).val) / 1024 % 2048 = (i 0).val % 2048; omega
  | ⟨2, _⟩ => show ((i 0).val * 1024 + (i 1).val) % 1024 = (i 1).val; omega

end Reference

end OutProof

end
-- ==== Proof.Kv.lean ====
/-
  The projection of the memory to keys and values: the array the kernel leaves, and the reference's result, index by index.
-/
module

public import proofs.«01_k».proof.Proof.Gen.KvProjIdeal.Value
public import proofs.«01_k».proof.Proof.Gen.KvProjRefIdeal.Read
public import Idealize.ShloMosaic.Lib.Pipeline.ValueKit
public import Idealize.ShloMosaic.Lib.StableHlo.RunRead
public import Idealize.ShloMosaic.Lib.StableHlo.ReadAt
public import proofs.«01_k».proof.Proof.Rows

@[expose] public section

set_option maxRecDepth 16384

noncomputable section

namespace KvProof

open Idealize.ShloMosaic hiding ix1 ix2 ix3
open Idealize.ShloMosaic.TcCoe Idealize.ShloMosaic.ValueIdx Cert.KvProjIdeal Cert.KvProjIdeal.Gen Cert.KvProjIdeal.Value MemAttnProof
open Idealize.SL.Sem

variable (m : (ℓ : Loc nD τ Cert.KvProjIdeal.sig) → Buf (Elt Idealize.ShloMosaic.Ideal) ℓ) (c : Dev nD)

abbrev aM : Vec Ideal S8x256x1024 .f32 := m ((c : Thread nD τ).loc main_arg0)
abbrev aW : FVec Ideal S1024x2048 .f32 := m ((c : Thread nD τ).loc main_arg1)

/-- One entry of the projection: the sum over the features of the memory's row. -/
def entry (M : Vec Ideal S8x256x1024 .f32) (W : Vec Ideal S1024x2048 .f32) (R j : Fin 2048) : EReal :=
  ∑ k : Fin 1024, M (ix3 (⟨R.val / 256, by omega⟩ : Fin 8) (⟨R.val % 256, by omega⟩ : Fin 256) k) * W (ix2 k j)

def G : Vec Ideal S2048x2048 .bf16 := fun i => entry (aM m c) (aW m c) (i 0) (i 1)

theorem V_v0 : V m c main_v0 = (shapeCast S2048x1024 (aM m c) shapeCasts_S8x256x1024_S2048x1024 : Vec Ideal S2048x1024 .f32) := by
  unfold V hostOps0
  after_reads_simp
  try rfl

theorem V_v1 : V m c main_v1 = (truncf .bf16 (aW m c) bitsLt_bf16_f32 : FVec Ideal S1024x2048 .bf16) := by
  unfold V hostOps0
  after_reads_simp
  try rfl

theorem out_apply (x0 : Vec Ideal S256x1024 .f32) (x1 : Vec Ideal S1024x2048 .bf16) (r : Fin 256) (j : Fin 2048) :
    out0_2 x0 x1 (ix2 r j) = ∑ k : Fin 1024, x0 (ix2 r k) * x1 (ix2 k j) := by
  have l0 : View.ld (Val := Elt Ideal) x0 r0_0 = x0 := View.ld_unit_zero zero2 _ x0
  have l1 : View.ld (Val := Elt Ideal) x1 r0_1 = x1 := View.ld_unit_zero zero2 _ x1
  unfold out0_2
  rw [View.canon_unit_zero zero2, l0, l1]
  unfold k0_pay1
  rw [truncf_apply]
  show matmul _ _ _ _ _ (ix2 r j) = _
  rw [mm dot_S256x1024_S1024x2048_S256x2048_1_0_0_1_n_n rfl]
  simp only [truncf_apply, shapeCast_self]

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![t.val, 0] := (by decide +kernel : ∀ t : Fin grid0.N, _)

def row (t : Fin cfg0.N) (r : Fin 256) : Fin 2048 := ⟨t.val * 256 + r.val, by have : t.val < 8 := t.isLt; omega⟩

theorem b0_at (t : Fin cfg0.N) (r : Fin 256) (k : Fin 1024) :
    iblk m c 0 t (ix2 r k) = aM m c (ix3 (⟨(row t r).val / 256, by omega⟩ : Fin 8) (⟨(row t r).val % 256, by omega⟩ : Fin 256) k) := by
  have he : ((cfg0.win 0).blk t).view.emb (ix2 r k) = ix2 (row t r) k := by
    funext a; apply Fin.ext
    have e := i0 t
    match a with
    | ⟨0, _⟩ => show win0_0.index t (0 : Fin 2) * 256 + 1 * r.val = t.val * 256 + r.val; rw [e]; show t.val * 256 + 1 * r.val = _; omega
    | ⟨1, _⟩ => show win0_0.index t (1 : Fin 2) * 1024 + 1 * k.val = k.val; rw [e]; show 0 * 1024 + 1 * k.val = _; omega
  show V m c main_v0 (((cfg0.win 0).blk t).view.emb (ix2 r k)) = _
  rw [V_v0, he]
  exact flatRows _ _ _ _ _ _ (by show (row t r).val = (row t r).val / 256 * 256 + (row t r).val % 256; omega)

theorem b1_at (t : Fin cfg0.N) (k : Fin 1024) (j : Fin 2048) : iblk m c 1 t (ix2 k j) = aW m c (ix2 k j) := by
  have he : ((cfg0.win 1).blk t).view.emb (ix2 k j) = ix2 k j := by
    funext a; apply Fin.ext
    have e := i1 t
    match a with
    | ⟨0, _⟩ => show win0_1.index t (0 : Fin 2) * 1024 + 1 * k.val = k.val; rw [e]; show 0 * 1024 + 1 * k.val = _; omega
    | ⟨1, _⟩ => show win0_1.index t (1 : Fin 2) * 2048 + 1 * j.val = j.val; rw [e]; show 0 * 2048 + 1 * j.val = _; omega
  show V m c main_v1 (((cfg0.win 1).blk t).view.emb (ix2 k j)) = _
  rw [V_v1, he]
  rfl

theorem final : (dats m 0 c).arrAt 2 cfg0.N = G m c := by
  refine (dats m 0 c).arrAt_eq_of_covers 2 (G m c) (by decide +kernel) fun t hf y => ?_
  obtain ⟨r, j, rfl⟩ : ∃ (r : Fin 256) (j : Fin 2048), y = ix2 r j := ⟨y 0, y 1, funext fun a => by
    match a with
    | ⟨0, _⟩ => rfl
    | ⟨1, _⟩ => rfl⟩
  have he : ((cfg0.win 2).blk t).view.emb (ix2 r j) = ix2 (row t r) j := by
    funext a; apply Fin.ext
    have e := i2 t
    match a with
    | ⟨0, _⟩ => show win0_2.index t (0 : Fin 2) * 256 + 1 * r.val = t.val * 256 + r.val; rw [e]; show t.val * 256 + 1 * r.val = _; omega
    | ⟨1, _⟩ => show win0_2.index t (1 : Fin 2) * 2048 + 1 * j.val = j.val; rw [e]; show 0 * 2048 + 1 * j.val = _; omega
  rw [he]
  show (dats m 0 c).after 2 t (ix2 r j) = entry (aM m c) (aW m c) (row t r) j
  rw [after0_2]
  refine (out_apply _ _ r j).trans (Finset.sum_congr rfl fun k _ => congrArg₂ (· * ·) (b0_at m c t r k) (b1_at m c t k j))

open Cert.KvProjRefIdeal.Read in
theorem ref_eq (M : Vec Ideal S8x256x1024 .f32) (W : Vec Ideal S1024x2048 .f32) :
    val_main_v2 (F := Ideal) M W = fun i => entry M W (i 0) (i 1) := by
  funext i
  rw [val_main_v2_apply, val_main_v1_apply]
  show val_main_v0 (F := Ideal) M W _ = _
  rw [val_main_v0_apply]
  refine Finset.sum_congr rfl fun k _ => congrArg₂ (· * ·) (congrArg M ?_) (congrArg W ?_)
  · have h0 : (i 0).val < 2048 := (i 0).isLt
    have h1 : (i 1).val < 2048 := (i 1).isLt
    funext a; apply Fin.ext
    match a with
    | ⟨0, _⟩ => show ((i 0).val * 2048 + (i 1).val) / 524288 = (i 0).val / 256; omega
    | ⟨1, _⟩ => show ((i 0).val * 2048 + (i 1).val) / 2048 % 256 = (i 0).val % 256; omega
    | ⟨2, _⟩ => rfl
  · have h0 : (i 0).val < 2048 := (i 0).isLt
    have h1 : (i 1).val < 2048 := (i 1).isLt
    funext a; apply Fin.ext
    match a with
    | ⟨0, _⟩ => rfl
    | ⟨1, _⟩ => show ((i 0).val * 2048 + (i 1).val) % 2048 = (i 1).val; omega

end KvProof

end
-- ==== Proof.Exp.Items.lean ====
/- The work items of a ragged product, on natural numbers: 32 experts with `C e` rows each, the rows in blocks of 256; an
   item is an expert with one of the row blocks it has rows in, the items in the order of the experts. -/
module

public import Idealize.ShloMosaic.Lib.Routing.Ops

@[expose] public section

namespace Cert.ExpItems

variable (C : ℕ → ℕ)

/-- An expert's first row. -/
def off (e : ℕ) : ℕ := ∑ i ∈ Finset.range e, C i
/-- How many items an expert has. -/
def per (e : ℕ) : ℕ := if 0 < C e then (off C (e + 1) - 1) / 256 - off C e / 256 + 1 else 0
/-- An expert's first item. -/
def st (e : ℕ) : ℕ := ∑ i ∈ Finset.range e, per C i
/-- The expert of an item. -/
def ex (w : ℕ) : ℕ := Nat.count (fun q => st C (q + 1) ≤ w) 32
/-- The row block of an item. -/
def rb (w : ℕ) : ℕ := off C (ex C w) / 256 + (w - st C (ex C w))

theorem off_succ (e : ℕ) : off C (e + 1) = off C e + C e := Finset.sum_range_succ _ _
theorem st_succ (e : ℕ) : st C (e + 1) = st C e + per C e := Finset.sum_range_succ _ _

theorem off_mono {i j : ℕ} (h : i ≤ j) : off C i ≤ off C j := by
  induction h with
  | refl => exact le_rfl
  | step h ih => exact ih.trans (by rw [off_succ]; omega)
theorem st_mono {i j : ℕ} (h : i ≤ j) : st C i ≤ st C j := by
  induction h with
  | refl => exact le_rfl
  | step h ih => exact ih.trans (by rw [st_succ]; omega)

/-- Experts without items between two have no rows. -/
theorem off_eq_of_st {i j : ℕ} (h : i ≤ j) (hs : st C i = st C j) : off C i = off C j := by
  induction h with
  | refl => rfl
  | @step j h ih =>
    have h1 := st_mono C h
    rw [Nat.succ_eq_add_one, st_succ] at hs
    have h2 : per C j = 0 := by omega
    have h3 : C j = 0 := by
      by_contra hc
      unfold per at h2
      rw [if_pos (by omega)] at h2; omega
    rw [Nat.succ_eq_add_one, off_succ, h3, Nat.add_zero]
    exact ih (by omega)

theorem st_le (e : ℕ) : st C e ≤ off C e / 256 + e := by
  induction e with
  | zero => simp [st]
  | succ e ih =>
    have := off_succ C e
    rw [st_succ]; unfold per; split <;> omega

/-- Counting an initial stretch. -/
theorem count_initial (p : ℕ → Prop) [DecidablePred p] (k n : ℕ) (hp : ∀ q < n, (p q ↔ q < k)) : Nat.count p n = min k n := by
  induction n with
  | zero => simp
  | succ n ih =>
    rw [Nat.count_succ, ih fun q hq => hp q (by omega)]
    have h := hp n (by omega)
    by_cases hn : n < k
    · rw [if_pos (h.mpr hn)]; omega
    · rw [if_neg (mt h.mp hn)]; omega

theorem exists_between (f : ℕ → ℕ) (h0 : f 0 = 0) (w n : ℕ) (hw : w < f n) : ∃ k < n, f k ≤ w ∧ w < f (k + 1) := by
  induction n with
  | zero => omega
  | succ n ih =>
    by_cases h : w < f n
    · obtain ⟨k, hk, h1⟩ := ih h; exact ⟨k, by omega, h1⟩
    · exact ⟨n, by omega, by omega, hw⟩

/-- The number of starts at or below `w` is the place `w` is in. -/
theorem count_place (f : ℕ → ℕ) (hm : ∀ i j, i ≤ j → f i ≤ f j) (k w : ℕ) (hk : k < 32) (h1 : f k ≤ w) (h2 : w < f (k + 1)) :
    Nat.count (fun q => f (q + 1) ≤ w) 32 = k := by
  rw [count_initial _ k 32 fun q _ => ⟨fun h => by
    by_contra hq
    have := hm (k + 1) (q + 1) (by omega); omega, fun h => (hm (q + 1) k (by omega)).trans h1⟩]
  omega

theorem ex_of {k w : ℕ} (hk : k < 32) (h1 : st C k ≤ w) (h2 : w < st C (k + 1)) : ex C w = k :=
  count_place (st C) (fun _ _ h => st_mono C h) k w hk h1 h2

/-- The expert of a row. -/
def exRow (r : ℕ) : ℕ := Nat.count (fun q => off C (q + 1) ≤ r) 32
theorem exRow_of {k r : ℕ} (hk : k < 32) (h1 : off C k ≤ r) (h2 : r < off C (k + 1)) : exRow C r = k :=
  count_place (off C) (fun _ _ h => off_mono C h) k r hk h1 h2
theorem exRow_spec {r : ℕ} (hr : r < off C 32) : exRow C r < 32 ∧ off C (exRow C r) ≤ r ∧ r < off C (exRow C r + 1) := by
  obtain ⟨k, hk, h1, h2⟩ := exists_between (off C) (by simp [off]) r 32 hr
  rw [exRow_of C hk h1 h2]; exact ⟨hk, h1, h2⟩

section Items
variable {w : ℕ} (hw : w < st C 32)
include hw

theorem ex_spec : ex C w < 32 ∧ st C (ex C w) ≤ w ∧ w < st C (ex C w + 1) := by
  obtain ⟨k, hk, h1, h2⟩ := exists_between (st C) (by simp [st]) w 32 hw
  rw [ex_of C hk h1 h2]; exact ⟨hk, h1, h2⟩

theorem item_spec : 0 < C (ex C w) ∧ w - st C (ex C w) ≤ (off C (ex C w + 1) - 1) / 256 - off C (ex C w) / 256 := by
  obtain ⟨hk, h1, h2⟩ := ex_spec C hw
  rw [st_succ] at h2
  unfold per at h2
  split at h2
  · exact ⟨by assumption, by omega⟩
  · omega

theorem rb_le : rb C w ≤ (off C (ex C w + 1) - 1) / 256 := by
  have h := item_spec C hw
  have := off_succ C (ex C w)
  unfold rb; omega
theorem le_rb : off C (ex C w) / 256 ≤ rb C w := by unfold rb; omega

end Items

theorem item_zero (h : 0 < st C 32) : off C (ex C 0) = 0 ∧ rb C 0 = 0 := by
  obtain ⟨hk, h1, h2⟩ := ex_spec C h
  have h3 : off C (ex C 0) = 0 := by
    rw [← off_eq_of_st C (Nat.zero_le _) (by rw [Nat.le_zero.mp h1]; simp [st])]; simp [off]
  refine ⟨h3, ?_⟩
  unfold rb; rw [h3]; omega

/-- The next item. -/
theorem item_succ {w : ℕ} (h : w + 1 < st C 32) :
    (ex C (w + 1) = ex C w ∧ rb C (w + 1) = rb C w + 1)
    ∨ (off C (ex C (w + 1)) = off C (ex C w + 1) ∧ rb C w = (off C (ex C w + 1) - 1) / 256 ∧ rb C (w + 1) = off C (ex C w + 1) / 256) := by
  obtain ⟨hk, h1, h2⟩ := ex_spec C (w := w) (by omega)
  have hi := item_spec C (w := w) (by omega)
  obtain ⟨hk', h1', h2'⟩ := ex_spec C h
  by_cases hc : w + 1 < st C (ex C w + 1)
  · have he : ex C (w + 1) = ex C w := ex_of C hk (by omega) hc
    refine .inl ⟨he, ?_⟩
    unfold rb; rw [he]; omega
  · have hlt : ex C w + 1 ≤ ex C (w + 1) := by
      by_contra hn
      have := st_mono C (i := ex C (w + 1) + 1) (j := ex C w + 1) (by omega); omega
    have hst := st_mono C hlt
    have ho : off C (ex C w + 1) = off C (ex C (w + 1)) := off_eq_of_st C hlt (by omega)
    refine .inr ⟨ho.symm, ?_, ?_⟩
    · have h3 := st_succ C (ex C w)
      have h4 := off_succ C (ex C w)
      unfold per at h3
      rw [if_pos hi.1] at h3
      unfold rb; omega
    · unfold rb; rw [← ho]; omega

theorem item_last (h : 0 < st C 32) : off C (ex C (st C 32 - 1) + 1) = off C 32 ∧ rb C (st C 32 - 1) = (off C 32 - 1) / 256 := by
  obtain ⟨hk, h1, h2⟩ := ex_spec C (w := st C 32 - 1) (by omega)
  have hi := item_spec C (w := st C 32 - 1) (by omega)
  have hm := st_mono C (i := ex C (st C 32 - 1) + 1) (j := 32) (by omega)
  have ho : off C (ex C (st C 32 - 1) + 1) = off C 32 := off_eq_of_st C (by omega) (by omega)
  refine ⟨ho, ?_⟩
  have h3 := st_succ C (ex C (st C 32 - 1))
  have h4 := off_succ C (ex C (st C 32 - 1))
  unfold per at h3
  rw [if_pos hi.1, ho] at h3
  unfold rb; omega

theorem st_pos (h : 0 < off C 32) : 0 < st C 32 := by
  by_contra hn
  have h0 : st C 0 = 0 := Finset.sum_range_zero _
  have h1 : off C 0 = 0 := Finset.sum_range_zero _
  have := off_eq_of_st C (Nat.zero_le 32) (by omega)
  omega

/-- Every row block up to an item's is some item's. -/
theorem hit {w : ℕ} (hw : w < st C 32) (k : ℕ) (hk : k ≤ rb C w) : ∃ v ≤ w, rb C v = k := by
  induction w with
  | zero => exact ⟨0, le_rfl, by have := (item_zero C hw).2; omega⟩
  | succ w ih =>
    by_cases h : k ≤ rb C w
    · obtain ⟨v, hv, e⟩ := ih (by omega) h; exact ⟨v, by omega, e⟩
    · refine ⟨w + 1, le_rfl, ?_⟩
      rcases item_succ C hw with ⟨-, h2⟩ | ⟨-, h2, h3⟩ <;> omega

end Cert.ExpItems

end
-- ==== Proof.Exp.Spec.lean ====
/- The experts' products, entry by entry: what both programs compute. -/
module

public import proofs.«01_k».proof.Proof.Exp.Items
public import proofs.«01_k».proof.Proof.Ops

@[expose] public section

noncomputable section

namespace Cert.ExpItems

open Idealize.ShloMosaic Idealize.ShloMosaic.ValueIdx

/-- The logistic function. -/
def sg (z : EReal) : EReal := Ideal.div 1 (1 + Ideal.exp (-z))

/-- One hidden entry of a row: the gate's product through its own logistic value, times the other product. -/
def hid (x : Fin 1024 → EReal) (g u : Fin 1024 → Fin 512 → EReal) (f : Fin 512) : EReal :=
  (∑ k, x k * g k f) * sg (∑ k, x k * g k f) * ∑ k, x k * u k f

/-- One entry of an expert's product with a row. -/
def out (x : Fin 1024 → EReal) (g u : Fin 1024 → Fin 512 → EReal) (d : Fin 512 → Fin 1024 → EReal) (j : Fin 1024) : EReal :=
  ∑ f, hid x g u f * d f j

/-- The entry of the row `r` under the expert `e`. -/
def ent (X : (⟨2, ![32768, 1024]⟩ : Shape).Idx → EReal) (G U : (⟨3, ![32, 1024, 512]⟩ : Shape).Idx → EReal) (D : (⟨3, ![32, 512, 1024]⟩ : Shape).Idx → EReal)
    (e : Fin 32) (r : Fin 32768) (j : Fin 1024) : EReal :=
  out (fun k => X (ix2 r k)) (fun k f => G (ix3 e k f)) (fun k f => U (ix3 e k f)) (fun f j => D (ix3 e f j)) j

/-- The expert of a row, as an index. -/
def eR (C : ℕ → ℕ) (r : ℕ) : Fin 32 := ⟨min (exRow C r) 31, by omega⟩

theorem one_word : Ideal.ofBits .f32 0x3F800000#32 = 1 := by
  simp [Ideal.ofBits, Ideal.ieee, -EReal.coe_mul]
  norm_num
theorem zero_word : Ideal.ofBits .f32 0x00000000#32 = 0 := by simp [Ideal.ofBits, Ideal.ieee]

end Cert.ExpItems

end
-- ==== Proof.Exp.RefVal.lean ====
/- The experts' products: the reference's result, entry by entry. -/
module

public import proofs.«01_k».proof.Proof.Gen.ExpertsRefIdeal.Read
public import proofs.«01_k».proof.Proof.Exp.Spec
public import Idealize.ShloMosaic.Lib.Routing.OpsSet
public import Idealize.ShloMosaic.Lib.Routing.Words

@[expose] public section

set_option maxRecDepth 16384

noncomputable section

namespace Cert.ExpertsRefIdeal.Hand

open Cert.ExpertsRefIdeal Cert.ExpertsRefIdeal.Gen Cert.ExpertsRefIdeal.Read Cert.ExpertsRefIdeal.Facts
open Idealize.ShloMosaic Idealize.ShloMosaic.StableHlo Idealize.ShloMosaic.Routing
open Cert.ExpItems

abbrev X0 := (⟨S32768x1024, .f32⟩ : BufTy).Contents (Elt Ideal)
abbrev X1 := (⟨S32, .i32⟩ : BufTy).Contents (Elt Ideal)
abbrev X2 := (⟨S32x1024x512, .f32⟩ : BufTy).Contents (Elt Ideal)
abbrev X4 := (⟨S32x512x1024, .f32⟩ : BufTy).Contents (Elt Ideal)

variable (x0 : X0) (x1 : X1) (x2 x3 : X2) (x4 : X4)

theorem gate_at (e : Fin 32) (r : Fin 32768) (f : Fin 512) : val_main_v10 (F := Ideal) x0 x2 (ValueIdx.ix3 e r f) = ∑ k : Fin 1024, x0 (ValueIdx.ix2 r k) * x2 (ValueIdx.ix3 e k f) := by
  rw [val_main_v10_apply, val_main_v9_apply]
  refine Finset.sum_congr rfl fun k _ => (mul_comm _ _).trans (congrArg₂ (· * ·) (congrArg x0 ?_) (congrArg x2 ?_))
  · funext a; match a with
    | ⟨0, _⟩ => rfl
    | ⟨1, _⟩ => rfl
  · funext a; match a with
    | ⟨0, _⟩ => rfl
    | ⟨1, _⟩ => rfl
    | ⟨2, _⟩ => rfl

theorem up_at (e : Fin 32) (r : Fin 32768) (f : Fin 512) : val_main_v13 (F := Ideal) x0 x3 (ValueIdx.ix3 e r f) = ∑ k : Fin 1024, x0 (ValueIdx.ix2 r k) * x3 (ValueIdx.ix3 e k f) := by
  rw [val_main_v13_apply, val_main_v12_apply]
  refine Finset.sum_congr rfl fun k _ => (mul_comm _ _).trans (congrArg₂ (· * ·) (congrArg x0 ?_) (congrArg x3 ?_))
  · funext a; match a with
    | ⟨0, _⟩ => rfl
    | ⟨1, _⟩ => rfl
  · funext a; match a with
    | ⟨0, _⟩ => rfl
    | ⟨1, _⟩ => rfl
    | ⟨2, _⟩ => rfl

theorem hid_at (e : Fin 32) (r : Fin 32768) (f : Fin 512) : val_main_v14 (F := Ideal) x0 x2 x3 (ValueIdx.ix3 e r f)
    = hid (fun k => x0 (ValueIdx.ix2 r k)) (fun k f => x2 (ValueIdx.ix3 e k f)) (fun k f => x3 (ValueIdx.ix3 e k f)) f := by
  rw [val_main_v14_apply, val_main_v11_apply, val_main_call1_v5_apply, val_main_call1_v3_apply, val_main_call1_v4_apply, val_main_call1_v2_apply,
    val_main_call1_v1_apply, val_main_call1_v0_apply, val_main_call1_cst_apply, val_main_call1_cst_0_apply, up_at, gate_at]
  unfold hid sg
  rw [← one_word]
  rfl

theorem prod_at (e : Fin 32) (r : Fin 32768) (j : Fin 1024) : val_main_v15 (F := Ideal) x0 x2 x3 x4 (ValueIdx.ix3 e r j) = ent x0 x2 x3 x4 e r j := by
  rw [val_main_v15_apply]
  unfold ent out
  refine Finset.sum_congr rfl fun f _ => congrArg₂ (· * ·) (Eq.trans (congrArg _ ?_) (hid_at x0 x2 x3 e r f)) (congrArg x4 ?_)
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl

variable {C : ℕ → ℕ} (hx : ∀ e : Fin 32, x1 (ValueIdx.ix1 e) = BitVec.ofNat 32 (C e.val)) (hs : off C 32 = 32768)

theorem sum_list (f : ℕ → ℕ) (n : ℕ) : ((List.range n).map f).sum = ∑ i ∈ Finset.range n, f i := by
  induction n with
  | zero => rfl
  | succ n ih => rw [List.range_succ, List.map_append, List.sum_append, ih, Finset.sum_range_succ]; simp

include hx in
theorem end_at (e : Fin 32) : val_main_v0 (F := Ideal) x1 (ValueIdx.ix1 e) = BitVec.ofNat 32 (off C (e.val + 1)) := by
  unfold val_main_v0
  refine (cumsum1 (Nm1 := 31) rfl x1 C hx _ ?_ _ _ e).trans (by rw [sum_list]; try rfl)
  rw [val_main_call0_call0_v0_apply, val_main_call0_call0_c_apply]

include hx hs in
theorem expert_at (r : Fin 32768) : val_main_v8 (F := Ideal) x1 (ValueIdx.ix1 r) = BitVec.ofNat 32 (exRow C r.val) := by
  unfold val_main_v8 val_main_v7
  refine reduce_count (by decide) _ _ _ _ r (fun q => off C (q + 1) ≤ r.val) fun q => ?_
  have h1 : off C (q.val + 1) ≤ 32768 := hs ▸ off_mono C (by omega)
  have e1 : val_main_v4 (F := Ideal) x1 (ValueIdx.ix2 r q) = BitVec.ofNat 32 (off C (q.val + 1)) := by
    rw [val_main_v4_apply, val_main_v1_apply]
    refine Eq.trans (congrArg _ ?_) (end_at x1 hx q)
    funext a; match a with
    | ⟨0, _⟩ => rfl
  have e2 : val_main_v5 (F := Ideal) (ValueIdx.ix2 r q) = BitVec.ofNat 32 r.val := by
    rw [val_main_v5_apply, val_main_v3_apply, val_main_v2_apply]; try rfl
  rw [val_main_v6_apply, e1, e2, Predicate.sle_iff_toNat (by rw [BitVec.toNat_ofNat]; omega) (by rw [BitVec.toNat_ofNat]; omega), BitVec.toNat_ofNat, BitVec.toNat_ofNat,
      Nat.mod_eq_of_lt (by omega), Nat.mod_eq_of_lt (by omega)]

include hx hs in
/-- The reference's entry of a row is the entry under the row's expert. -/
theorem ref_at (r : Fin 32768) (j : Fin 1024) : val_main_v24 (F := Ideal) x0 x1 x2 x3 x4 (ValueIdx.ix2 r j) = ent x0 x2 x3 x4 (eR C r.val) r j := by
  have hr := exRow_spec C (r := r.val) (by omega)
  have t (e : Fin 32) : val_main_v23 (F := Ideal) x0 x1 x2 x3 x4 (ValueIdx.ix3 e r j) = if e = eR C r.val then ent x0 x2 x3 x4 e r j else 0 := by
    have c : val_main_call2_v1 (F := Ideal) x1 (ValueIdx.ix3 e r j) = IntOp.cmpi .eq (BitVec.ofNat 32 e.val) (BitVec.ofNat 32 (exRow C r.val)) := by
      rw [val_main_call2_v1_apply, val_main_v22_apply, val_main_v21_apply, val_main_v19_apply, val_main_v17_apply, val_main_v16_apply, val_main_v20_apply, val_main_v18_apply]
      refine congrArg₂ _ rfl (Eq.trans (congrArg _ ?_) (expert_at x1 hx hs r))
      funext a; match a with
      | ⟨0, _⟩ => rfl
    rw [val_main_v23_apply, c, prod_at, val_main_call2_v2_apply]
    have z : val_main_call2_v0 (F := Ideal) (idx_main_call2_v2 (ValueIdx.ix3 e r j)) = 0 := by
      rw [val_main_call2_v0_apply, val_main_cst_apply]; exact zero_word
    rw [z]
    have hc : IntOp.cmpi .eq (BitVec.ofNat 32 e.val) (BitVec.ofNat 32 (exRow C r.val)) = 1#1 ↔ e = eR C r.val := by
      rw [Predicate.cmpi_eq_iff]
      constructor
      · intro h
        have h2 := congrArg BitVec.toNat h
        rw [BitVec.toNat_ofNat, BitVec.toNat_ofNat] at h2
        apply Fin.ext; show e.val = min _ 31; omega
      · intro h; rw [h]; show BitVec.ofNat 32 (min (exRow C r.val) 31) = _; rw [Nat.min_eq_left (by omega)]
    unfold Scalar.select
    by_cases h : e = eR C r.val
    · rw [if_pos h]; exact if_pos (hc.mpr h)
    · rw [if_neg h]; exact if_neg (mt hc.mp h)
  rw [val_main_v24_apply, val_main_cst_0_apply]
  refine Eq.trans (congrArg₂ (· + ·) zero_word (Finset.sum_congr rfl fun e _ => Eq.trans (congrArg _ ?_) (t e))) ?_
  · funext a; match a with
    | ⟨0, _⟩ => rfl
    | ⟨1, _⟩ => rfl
    | ⟨2, _⟩ => rfl
  rw [zero_add, Finset.sum_ite_eq' Finset.univ (eR C r.val) fun e => ent x0 x2 x3 x4 e r j, if_pos (Finset.mem_univ _)]

end Cert.ExpertsRefIdeal.Hand

end
-- ==== Proof.Exp.Kit.lean ====
/- The experts' products: the buffers when the region is entered, the prefetched tables, the window blocks and the
   body's memrefs. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_v57
abbrev htbM0_0 : tbM0_0.IsWhole := Memref.isWhole_whole _
abbrev tbM0_1 : Memref sig .tc .smem S160 .i32 := Memref.whole main_v64
abbrev htbM0_1 : tbM0_1.IsWhole := Memref.isWhole_whole _
abbrev tbM0_2 : Memref sig .tc .smem S1 .i32 := Memref.whole main_v42
abbrev htbM0_2 : tbM0_2.IsWhole := Memref.isWhole_whole _
abbrev tbM0_3 : Memref sig .tc .smem S32 .i32 := Memref.whole main_v1
abbrev htbM0_3 : tbM0_3.IsWhole := Memref.isWhole_whole _
abbrev tbM0_4 : Memref sig .tc .smem S32 .i32 := Memref.whole main_arg1
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Each window's current staging memref at point `t`, spelled as the pipeline passes it (`bodyAt0`), and its wholeness. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x1024 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_v57) (Memref.isWhole_whole _) (Memref.whole main_v64) (Memref.isWhole_whole _) (Memref.whole main_v42) (Memref.isWhole_whole _) (Memref.whole main_v1) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

end Cert.ExpertsIdeal.Hand

end
-- ==== Proof.Exp.Body.lean ====
/- The experts' products: what one run of the body does, case by case. -/
module

public import proofs.«01_k».proof.Proof.Exp.Kit

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words the body reads from its tables -/

/-- The row block of this work item. -/
abbrev wRb (c : Dev nD) (i : grid0.Coords) (xt0 : TbBuf0 (F := F) c tbM0_0) : Elt F .i32 :=
  tbM0_0.view.readAt (Elt F) (Rect.unit (s := S160) (k0_off2 i) S1.size (k0_off2_inb i)).toLoadRect xt0 (Shape.Idx.first (numel1_S1.symm ▸ Nat.one_pos))
/-- The row block of the work item before it. -/
abbrev wRbP (c : Dev nD) (i : grid0.Coords) (xt0 : TbBuf0 (F := F) c tbM0_0) : Elt F .i32 :=
  tbM0_0.view.readAt (Elt F) (Rect.unit (s := S160) (k0_off5 i) S1.size (k0_off5_inb i)).toLoadRect xt0 (Shape.Idx.first (numel1_S1.symm ▸ Nat.one_pos))
/-- The expert of this work item. -/
abbrev wEx (c : Dev nD) (i : grid0.Coords) (xt1 : TbBuf0 (F := F) c tbM0_1) : Elt F .i32 :=
  tbM0_1.view.readAt (Elt F) (Rect.unit (s := S160) (k0_off2 i) S1.size (k0_off2_inb i)).toLoadRect xt1 (Shape.Idx.first (numel1_S1.symm ▸ Nat.one_pos))
/-- The expert of the work item before it. -/
abbrev wExP (c : Dev nD) (i : grid0.Coords) (xt1 : TbBuf0 (F := F) c tbM0_1) : Elt F .i32 :=
  tbM0_1.view.readAt (Elt F) (Rect.unit (s := S160) (k0_off3 i) S1.size (k0_off3_inb i)).toLoadRect xt1 (Shape.Idx.first (numel1_S1.symm ▸ Nat.one_pos))
/-- The number of work items. -/
abbrev wN (c : Dev nD) (xt2 : TbBuf0 (F := F) c tbM0_2) : Elt F .i32 :=
  tbM0_2.view.readAt (Elt F) (Rect.unit (s := S1) ![0] S1.size inb_S1_S1_0).toLoadRect xt2 (Shape.Idx.first (numel1_S1.symm ▸ Nat.one_pos))
/-- The first row of the expert `v5`. -/
abbrev wOff (c : Dev nD) (xt3 : TbBuf0 (F := F) c tbM0_3) (v5 : BitVec 32) (h : ∀ a, (k0_off4 v5) a + S1.size a ≤ S32.size a) : Elt F .i32 :=
  tbM0_3.view.readAt (Elt F) (Rect.unit (s := S32) (k0_off4 v5) S1.size h).toLoadRect xt3 (Shape.Idx.first (numel1_S1.symm ▸ Nat.one_pos))
/-- The number of rows of the expert `v5`. -/
abbrev wCnt (c : Dev nD) (xt4 : TbBuf0 (F := F) c tbM0_4) (v5 : BitVec 32) (h : ∀ a, (k0_off4 v5) a + S1.size a ≤ S32.size a) : Elt F .i32 :=
  tbM0_4.view.readAt (Elt F) (Rect.unit (s := S32) (k0_off4 v5) S1.size h).toLoadRect xt4 (Shape.Idx.first (numel1_S1.symm ▸ Nat.one_pos))

/-- The condition under which the weights are cast anew: the first item, or one of another expert than before. -/
abbrev cond2 (i : grid0.Coords) (v5 v12 : BitVec 32) : BitVec 1 :=
  Scalar.cmpi .ne (Scalar.extui (Scalar.ori (Scalar.cmpi .eq (BitVec.ofNat 32 (i 0).val) 0#32) (Scalar.cmpi .ne v12 v5)) : BitVec 32) 0#32

/-- The products of a row block with the three weights held, before the choice of rows. -/
abbrev yOf (x0 : Vec F S256x1024 .f32) (g u : Vec F S1024x512 .bf16) (d : Vec F S512x1024 .bf16) : Vec F S256x1024 .f32 := k0_pay7 x0 g u d

/-- Everything the body is handed, at the contents named. -/
abbrev Held (c : Dev nD) (a6 : Memref sig .tc .vmem S256x1024 .f32) (a7 a8 : Memref sig .tc .vmem S1x1x1024x512 .f32) (a9 : Memref sig .tc .vmem S1x1x512x1024 .f32) (a10 : Memref sig .tc .vmem S256x1024 .f32)
    (x0 : Vec F S256x1024 .f32) (x1 x2 : Vec F S1x1x1024x512 .f32) (x3 : Vec F S1x1x512x1024 .f32) (o : Vec F S256x1024 .f32)
    (g u : Vec F S1024x512 .bf16) (d : Vec F S512x1024 .bf16)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) : sProp 𝕄 :=
  iprop(owns (c : Thread nD τ) a6 fullShare x0 ∗ owns (c : Thread nD τ) a7 fullShare x1 ∗ owns (c : Thread nD τ) a8 fullShare x2 ∗ owns (c : Thread nD τ) a9 fullShare x3 ∗ owns (c : Thread nD τ) a10 fullShare o ∗ owns (c : Thread nD τ) scM0_0 fullShare g ∗ owns (c : Thread nD τ) scM0_1 fullShare u ∗ owns (c : Thread nD τ) scM0_2 fullShare d ∗ tbPt0 c tbM0_0 xt0 ∗ tbPt0 c tbM0_1 xt1 ∗ tbPt0 c tbM0_2 xt2 ∗ tbPt0 c tbM0_3 xt3 ∗ tbPt0 c tbM0_4 xt4)

section Cases

variable (c : Dev nD) (i : grid0.Coords) (a6 : Memref sig .tc .vmem S256x1024 .f32) (h6 : a6.IsWhole) (a7 : Memref sig .tc .vmem S1x1x1024x512 .f32) (h7 : a7.IsWhole) (a8 : Memref sig .tc .vmem S1x1x1024x512 .f32) (h8 : a8.IsWhole) (a9 : Memref sig .tc .vmem S1x1x512x1024 .f32) (h9 : a9.IsWhole) (a10 : Memref sig .tc .vmem S256x1024 .f32) (h10 : a10.IsWhole)
    (x0 : Vec F S256x1024 .f32) (x1 x2 : Vec F S1x1x1024x512 .f32) (x3 : Vec F S1x1x512x1024 .f32) (o : Vec F S256x1024 .f32)
    (g u : Vec F S1024x512 .bf16) (d : Vec F S512x1024 .bf16)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)

/-- The body as the pipeline calls it. -/
abbrev theBody (i : grid0.Coords) (a6 : Memref sig .tc .vmem S256x1024 .f32) (h6 : a6.IsWhole) (a7 : Memref sig .tc .vmem S1x1x1024x512 .f32) (h7 : a7.IsWhole) (a8 : Memref sig .tc .vmem S1x1x1024x512 .f32) (h8 : a8.IsWhole) (a9 : Memref sig .tc .vmem S1x1x512x1024 .f32) (h9 : a9.IsWhole) (a10 : Memref sig .tc .vmem S256x1024 .f32) (h10 : a10.IsWhole) :
    Prog (TpuEff nD τ sig (Elt F) Λ₀ .tc) PUnit :=
  cc0_moe_experts i tbM0_0 htbM0_0 tbM0_1 htbM0_1 tbM0_2 htbM0_2 tbM0_3 htbM0_3 tbM0_4 htbM0_4 a6 h6 a7 h7 a8 h8 a9 h9 a10 h10 scM0_0 (Memref.isWhole_whole _) scM0_1 (Memref.isWhole_whole _) scM0_2 (Memref.isWhole_whole _)

/-- Past the last work item the body does nothing. -/
theorem run_idle (hc1 : ¬ k0_cond1 i (wN c xt2) = 1#1) (E : Set ℕ) (K : PUnit → sProp 𝕄) :
    iprop(Held c a6 a7 a8 a9 a10 x0 x1 x2 x3 o g u d xt0 xt1 xt2 xt3 xt4 ∗ (Held c a6 a7 a8 a9 a10 x0 x1 x2 x3 o g u d xt0 xt1 xt2 xt3 xt4 -∗ K ⟨⟩))
      ⊢ wp frame (wpE (defs₀ (F := F)) Variants.none c none) E (theBody i a6 h6 a7 h7 a8 h8 a9 h9 a10 h10) K := by
  unfold theBody
  simp only [cc0_moe_experts_eq_skeleton]; unfold cc0_moe_experts_skel
  iintro ⟨⟨H0, H1, H2, H3, H4, HS0, HS1, HS2, HT0, HT1, HT2, HT3, HT4⟩, Hk⟩
  sl_exec (disch := first | sl_exact hc1)
  sl_step
  iapply Hk
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HT0]; · iexact HT0
  isplitl [HT1]; · iexact HT1
  isplitl [HT2]; · iexact HT2
  isplitl [HT3]; · iexact HT3
  iexact HT4

/-- The first item of a row block, the weights cast anew. -/
theorem run_TT (hc1 : k0_cond1 i (wN c xt2) = 1#1) (hk : k0_chk1 i (wN c xt2) (wEx c i xt1)) (hc2 : cond2 i (wEx c i xt1) (wExP c i xt1) = 1#1)
    (hc3 : k0_cond3 i (wRb c i xt0) (wRbP c i xt0) = 1#1) (hc4 : ¬ k0_cond4 i (wRb c i xt0) (wRbP c i xt0) = 1#1) (E : Set ℕ) (K : PUnit → sProp 𝕄) :
    iprop(Held c a6 a7 a8 a9 a10 x0 x1 x2 x3 o g u d xt0 xt1 xt2 xt3 xt4 ∗ (Held c a6 a7 a8 a9 a10 x0 x1 x2 x3
        (k0_pay2 (yOf x0 (k0_pay4 x1) (k0_pay5 x2) (k0_pay6 x3)) (k0_pay8 (F := F) (wRb c i xt0)) (k0_pay9 (F := F) (wRb c i xt0) (wOff c xt3 (wEx c i xt1) (k0_off4_inb i (wN c xt2) (wEx c i xt1) hk hc1))) (wOff c xt3 (wEx c i xt1) (k0_off4_inb i (wN c xt2) (wEx c i xt1) hk hc1)) (wCnt c xt4 (wEx c i xt1) (k0_off4_inb i (wN c xt2) (wEx c i xt1) hk hc1)))
        (k0_pay4 x1) (k0_pay5 x2) (k0_pay6 x3) xt0 xt1 xt2 xt3 xt4 -∗ K ⟨⟩))
      ⊢ wp frame (wpE (defs₀ (F := F)) Variants.none c none) E (theBody i a6 h6 a7 h7 a8 h8 a9 h9 a10 h10) K := by
  unfold theBody
  simp only [cc0_moe_experts_eq_skeleton]; unfold cc0_moe_experts_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, HT0, HT1, HT2, HT3, HT4⟩, Hk⟩
  sl_exec (disch := first | sl_exact hc1 | sl_exact hk | sl_exact hc2 | sl_exact hc3 | sl_exact hc4)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro
    rw [View.read_writes_full]
    have e5 : run_TT.sl.r_5 c a6 a7 a8 a9 f0 f1 f2 f3 = yOf x0 (k0_pay4 x1) (k0_pay5 x2) (k0_pay6 x3) := by
      unfold run_TT.sl.r_5
      have e0 : View.readAt (Elt F) a6.view (Rect.unit ![0, 0] S256x1024.size inb_S256x1024_S256x1024_0_0).toLoadRect f0 = x0 := (View.readAt_full _ _ _).trans hf0
      have e1 : run_TT.sl.v19 c a7 f1 = k0_pay4 x1 := by
        unfold run_TT.sl.v19 run_TT.sl.HS0_1
        exact (View.readCov_full _ _ _ _ _).trans (congrArg k0_pay4 ((View.readAt_full _ _ _).trans hf1))
      have e2 : run_TT.sl.v21 c a8 f2 = k0_pay5 x2 := by
        unfold run_TT.sl.v21 run_TT.sl.HS1_1
        exact (View.readCov_full _ _ _ _ _).trans (congrArg k0_pay5 ((View.readAt_full _ _ _).trans hf2))
      have e3 : run_TT.sl.v33 c a9 f3 = k0_pay6 x3 := by
        unfold run_TT.sl.v33 run_TT.sl.HS2_1
        exact (View.readCov_full _ _ _ _ _).trans (congrArg k0_pay6 ((View.readAt_full _ _ _).trans hf3))
      rw [e0, e1, e2, e3]
    rw [e5]; rfl
  isplitl [HS0]
  · iexists _; isplitr; swap; · iexact HS0
    ipureintro
    unfold run_TT.sl.HS0_1
    rw [View.read_writes_full]; exact congrArg k0_pay4 ((View.readAt_full _ _ _).trans hf1)
  isplitl [HS1]
  · iexists _; isplitr; swap; · iexact HS1
    ipureintro
    unfold run_TT.sl.HS1_1
    rw [View.read_writes_full]; exact congrArg k0_pay5 ((View.readAt_full _ _ _).trans hf2)
  isplitl [HS2]
  · iexists _; isplitr; swap; · iexact HS2
    ipureintro
    unfold run_TT.sl.HS2_1
    rw [View.read_writes_full]; exact congrArg k0_pay6 ((View.readAt_full _ _ _).trans hf3)
  isplitl [HT0]; · iexact HT0
  isplitl [HT1]; · iexact HT1
  isplitl [HT2]; · iexact HT2
  isplitl [HT3]; · iexact HT3
  iexact HT4

/-- A later item of a row block, the weights cast anew. -/
theorem run_TF (hc1 : k0_cond1 i (wN c xt2) = 1#1) (hk : k0_chk1 i (wN c xt2) (wEx c i xt1)) (hc2 : cond2 i (wEx c i xt1) (wExP c i xt1) = 1#1)
    (hc3 : ¬ k0_cond3 i (wRb c i xt0) (wRbP c i xt0) = 1#1) (hc4 : k0_cond4 i (wRb c i xt0) (wRbP c i xt0) = 1#1) (E : Set ℕ) (K : PUnit → sProp 𝕄) :
    iprop(Held c a6 a7 a8 a9 a10 x0 x1 x2 x3 o g u d xt0 xt1 xt2 xt3 xt4 ∗ (Held c a6 a7 a8 a9 a10 x0 x1 x2 x3
        (k0_pay3 (yOf x0 (k0_pay4 x1) (k0_pay5 x2) (k0_pay6 x3)) (k0_pay8 (F := F) (wRb c i xt0)) (k0_pay9 (F := F) (wRb c i xt0) (wOff c xt3 (wEx c i xt1) (k0_off4_inb i (wN c xt2) (wEx c i xt1) hk hc1))) (wOff c xt3 (wEx c i xt1) (k0_off4_inb i (wN c xt2) (wEx c i xt1) hk hc1)) (wCnt c xt4 (wEx c i xt1) (k0_off4_inb i (wN c xt2) (wEx c i xt1) hk hc1)) o)
        (k0_pay4 x1) (k0_pay5 x2) (k0_pay6 x3) xt0 xt1 xt2 xt3 xt4 -∗ K ⟨⟩))
      ⊢ wp frame (wpE (defs₀ (F := F)) Variants.none c none) E (theBody i a6 h6 a7 h7 a8 h8 a9 h9 a10 h10) K := by
  unfold theBody
  simp only [cc0_moe_experts_eq_skeleton]; unfold cc0_moe_experts_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, HT0, HT1, HT2, HT3, HT4⟩, Hk⟩
  sl_exec (disch := first | sl_exact hc1 | sl_exact hk | sl_exact hc2 | sl_exact hc3 | sl_exact hc4)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro
    rw [View.read_writes_full]
    have e5 : run_TF.sl.r_5 c a6 a7 a8 a9 f0 f1 f2 f3 = yOf x0 (k0_pay4 x1) (k0_pay5 x2) (k0_pay6 x3) := by
      unfold run_TF.sl.r_5
      have e0 : View.readAt (Elt F) a6.view (Rect.unit ![0, 0] S256x1024.size inb_S256x1024_S256x1024_0_0).toLoadRect f0 = x0 := (View.readAt_full _ _ _).trans hf0
      have e1 : run_TF.sl.v19 c a7 f1 = k0_pay4 x1 := by
        unfold run_TF.sl.v19 run_TF.sl.HS0_1
        exact (View.readCov_full _ _ _ _ _).trans (congrArg k0_pay4 ((View.readAt_full _ _ _).trans hf1))
      have e2 : run_TF.sl.v21 c a8 f2 = k0_pay5 x2 := by
        unfold run_TF.sl.v21 run_TF.sl.HS1_1
        exact (View.readCov_full _ _ _ _ _).trans (congrArg k0_pay5 ((View.readAt_full _ _ _).trans hf2))
      have e3 : run_TF.sl.v33 c a9 f3 = k0_pay6 x3 := by
        unfold run_TF.sl.v33 run_TF.sl.HS2_1
        exact (View.readCov_full _ _ _ _ _).trans (congrArg k0_pay6 ((View.readAt_full _ _ _).trans hf3))
      rw [e0, e1, e2, e3]
    have e4 : View.readAt (Elt F) a10.view (Rect.unit ![0, 0] S256x1024.size inb_S256x1024_S256x1024_0_0).toLoadRect f4 = o := (View.readAt_full _ _ _).trans hf4
    rw [e5, e4]; rfl
  isplitl [HS0]
  · iexists _; isplitr; swap; · iexact HS0
    ipureintro
    unfold run_TF.sl.HS0_1
    rw [View.read_writes_full]; exact congrArg k0_pay4 ((View.readAt_full _ _ _).trans hf1)
  isplitl [HS1]
  · iexists _; isplitr; swap; · iexact HS1
    ipureintro
    unfold run_TF.sl.HS1_1
    rw [View.read_writes_full]; exact congrArg k0_pay5 ((View.readAt_full _ _ _).trans hf2)
  isplitl [HS2]
  · iexists _; isplitr; swap; · iexact HS2
    ipureintro
    unfold run_TF.sl.HS2_1
    rw [View.read_writes_full]; exact congrArg k0_pay6 ((View.readAt_full _ _ _).trans hf3)
  isplitl [HT0]; · iexact HT0
  isplitl [HT1]; · iexact HT1
  isplitl [HT2]; · iexact HT2
  isplitl [HT3]; · iexact HT3
  iexact HT4

/-- The first item of a row block, the weights kept. -/
theorem run_FT (hc1 : k0_cond1 i (wN c xt2) = 1#1) (hk : k0_chk1 i (wN c xt2) (wEx c i xt1)) (hc2 : ¬ cond2 i (wEx c i xt1) (wExP c i xt1) = 1#1)
    (hc3 : k0_cond3 i (wRb c i xt0) (wRbP c i xt0) = 1#1) (hc4 : ¬ k0_cond4 i (wRb c i xt0) (wRbP c i xt0) = 1#1) (E : Set ℕ) (K : PUnit → sProp 𝕄) :
    iprop(Held c a6 a7 a8 a9 a10 x0 x1 x2 x3 o g u d xt0 xt1 xt2 xt3 xt4 ∗ (Held c a6 a7 a8 a9 a10 x0 x1 x2 x3
        (k0_pay2 (yOf x0 g u d) (k0_pay8 (F := F) (wRb c i xt0)) (k0_pay9 (F := F) (wRb c i xt0) (wOff c xt3 (wEx c i xt1) (k0_off4_inb i (wN c xt2) (wEx c i xt1) hk hc1))) (wOff c xt3 (wEx c i xt1) (k0_off4_inb i (wN c xt2) (wEx c i xt1) hk hc1)) (wCnt c xt4 (wEx c i xt1) (k0_off4_inb i (wN c xt2) (wEx c i xt1) hk hc1)))
        g u d xt0 xt1 xt2 xt3 xt4 -∗ K ⟨⟩))
      ⊢ wp frame (wpE (defs₀ (F := F)) Variants.none c none) E (theBody i a6 h6 a7 h7 a8 h8 a9 h9 a10 h10) K := by
  unfold theBody
  simp only [cc0_moe_experts_eq_skeleton]; unfold cc0_moe_experts_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, HT0, HT1, HT2, HT3, HT4⟩, Hk⟩
  sl_exec (disch := first | sl_exact hc1 | sl_exact hk | sl_exact hc2 | sl_exact hc3 | sl_exact hc4)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro
    rw [View.read_writes_full]
    have e5 : run_FT.sl.r_5 c a6 f0 fs0 fs1 fs2 = yOf x0 g u d := by
      unfold run_FT.sl.r_5
      have e0 : View.readAt (Elt F) a6.view (Rect.unit ![0, 0] S256x1024.size inb_S256x1024_S256x1024_0_0).toLoadRect f0 = x0 := (View.readAt_full _ _ _).trans hf0
      have e1 : View.readAt (Elt F) scM0_0.view (Rect.unit ![0, 0] S1024x512.size inb_S1024x512_S1024x512_0_0).toLoadRect fs0 = g := (View.readAt_full _ _ _).trans hs0
      have e2 : View.readAt (Elt F) scM0_1.view (Rect.unit ![0, 0] S1024x512.size inb_S1024x512_S1024x512_0_0).toLoadRect fs1 = u := (View.readAt_full _ _ _).trans hs1
      have e3 : View.readAt (Elt F) scM0_2.view (Rect.unit ![0, 0] S512x1024.size inb_S512x1024_S512x1024_0_0).toLoadRect fs2 = d := (View.readAt_full _ _ _).trans hs2
      rw [e0, e1, e2, e3]
    rw [e5]; rfl
  isplitl [HS0]
  · iexists _; isplitr; swap; · iexact HS0
    ipureintro; exact hs0
  isplitl [HS1]
  · iexists _; isplitr; swap; · iexact HS1
    ipureintro; exact hs1
  isplitl [HS2]
  · iexists _; isplitr; swap; · iexact HS2
    ipureintro; exact hs2
  isplitl [HT0]; · iexact HT0
  isplitl [HT1]; · iexact HT1
  isplitl [HT2]; · iexact HT2
  isplitl [HT3]; · iexact HT3
  iexact HT4

/-- A later item of a row block, the weights kept. -/
theorem run_FF (hc1 : k0_cond1 i (wN c xt2) = 1#1) (hk : k0_chk1 i (wN c xt2) (wEx c i xt1)) (hc2 : ¬ cond2 i (wEx c i xt1) (wExP c i xt1) = 1#1)
    (hc3 : ¬ k0_cond3 i (wRb c i xt0) (wRbP c i xt0) = 1#1) (hc4 : k0_cond4 i (wRb c i xt0) (wRbP c i xt0) = 1#1) (E : Set ℕ) (K : PUnit → sProp 𝕄) :
    iprop(Held c a6 a7 a8 a9 a10 x0 x1 x2 x3 o g u d xt0 xt1 xt2 xt3 xt4 ∗ (Held c a6 a7 a8 a9 a10 x0 x1 x2 x3
        (k0_pay3 (yOf x0 g u d) (k0_pay8 (F := F) (wRb c i xt0)) (k0_pay9 (F := F) (wRb c i xt0) (wOff c xt3 (wEx c i xt1) (k0_off4_inb i (wN c xt2) (wEx c i xt1) hk hc1))) (wOff c xt3 (wEx c i xt1) (k0_off4_inb i (wN c xt2) (wEx c i xt1) hk hc1)) (wCnt c xt4 (wEx c i xt1) (k0_off4_inb i (wN c xt2) (wEx c i xt1) hk hc1)) o)
        g u d xt0 xt1 xt2 xt3 xt4 -∗ K ⟨⟩))
      ⊢ wp frame (wpE (defs₀ (F := F)) Variants.none c none) E (theBody i a6 h6 a7 h7 a8 h8 a9 h9 a10 h10) K := by
  unfold theBody
  simp only [cc0_moe_experts_eq_skeleton]; unfold cc0_moe_experts_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, HT0, HT1, HT2, HT3, HT4⟩, Hk⟩
  sl_exec (disch := first | sl_exact hc1 | sl_exact hk | sl_exact hc2 | sl_exact hc3 | sl_exact hc4)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro
    rw [View.read_writes_full]
    have e5 : run_FF.sl.r_5 c a6 f0 fs0 fs1 fs2 = yOf x0 g u d := by
      unfold run_FF.sl.r_5
      have e0 : View.readAt (Elt F) a6.view (Rect.unit ![0, 0] S256x1024.size inb_S256x1024_S256x1024_0_0).toLoadRect f0 = x0 := (View.readAt_full _ _ _).trans hf0
      have e1 : View.readAt (Elt F) scM0_0.view (Rect.unit ![0, 0] S1024x512.size inb_S1024x512_S1024x512_0_0).toLoadRect fs0 = g := (View.readAt_full _ _ _).trans hs0
      have e2 : View.readAt (Elt F) scM0_1.view (Rect.unit ![0, 0] S1024x512.size inb_S1024x512_S1024x512_0_0).toLoadRect fs1 = u := (View.readAt_full _ _ _).trans hs1
      have e3 : View.readAt (Elt F) scM0_2.view (Rect.unit ![0, 0] S512x1024.size inb_S512x1024_S512x1024_0_0).toLoadRect fs2 = d := (View.readAt_full _ _ _).trans hs2
      rw [e0, e1, e2, e3]
    have e4 : View.readAt (Elt F) a10.view (Rect.unit ![0, 0] S256x1024.size inb_S256x1024_S256x1024_0_0).toLoadRect f4 = o := (View.readAt_full _ _ _).trans hf4
    rw [e5, e4]; rfl
  isplitl [HS0]
  · iexists _; isplitr; swap; · iexact HS0
    ipureintro; exact hs0
  isplitl [HS1]
  · iexists _; isplitr; swap; · iexact HS1
    ipureintro; exact hs1
  isplitl [HS2]
  · iexists _; isplitr; swap; · iexact HS2
    ipureintro; exact hs2
  isplitl [HT0]; · iexact HT0
  isplitl [HT1]; · iexact HT1
  isplitl [HT2]; · iexact HT2
  isplitl [HT3]; · iexact HT3
  iexact HT4

/-- What the body leaves, of what it was handed: past the last item everything as it was; otherwise the weights cast
    anew or kept, and the rows of the item's expert put in place of zeros or of what the block held. -/
def Aft (o' : Vec F S256x1024 .f32) (g' u' : Vec F S1024x512 .bf16) (d' : Vec F S512x1024 .bf16) : Prop :=
  (¬ k0_cond1 i (wN c xt2) = 1#1 ∧ o' = o ∧ g' = g ∧ u' = u ∧ d' = d)
  ∨ (k0_cond1 i (wN c xt2) = 1#1
    ∧ ((cond2 i (wEx c i xt1) (wExP c i xt1) = 1#1 ∧ g' = k0_pay4 x1 ∧ u' = k0_pay5 x2 ∧ d' = k0_pay6 x3)
      ∨ (¬ cond2 i (wEx c i xt1) (wExP c i xt1) = 1#1 ∧ g' = g ∧ u' = u ∧ d' = d))
    ∧ ∃ hb : ∀ a, (k0_off4 (wEx c i xt1)) a + S1.size a ≤ S32.size a,
      (k0_cond3 i (wRb c i xt0) (wRbP c i xt0) = 1#1 ∧ o' = k0_pay2 (yOf x0 g' u' d') (k0_pay8 (F := F) (wRb c i xt0)) (k0_pay9 (F := F) (wRb c i xt0) (wOff c xt3 (wEx c i xt1) hb)) (wOff c xt3 (wEx c i xt1) hb) (wCnt c xt4 (wEx c i xt1) hb))
      ∨ (¬ k0_cond3 i (wRb c i xt0) (wRbP c i xt0) = 1#1 ∧ o' = k0_pay3 (yOf x0 g' u' d') (k0_pay8 (F := F) (wRb c i xt0)) (k0_pay9 (F := F) (wRb c i xt0) (wOff c xt3 (wEx c i xt1) hb)) (wOff c xt3 (wEx c i xt1) hb) (wCnt c xt4 (wEx c i xt1) hb) o))

omit [FloatOps F] in
/-- The second branch on the row block is taken exactly when the first is not. -/
theorem cond4_iff (v7 v53 : BitVec 32) : k0_cond4 i v7 v53 = 1#1 ↔ ¬ k0_cond3 i v7 v53 = 1#1 := by
  unfold k0_cond4 k0_cond3
  dsimp only
  generalize Scalar.ori (Scalar.cmpi .eq (BitVec.ofNat 32 (i 0).val) 0#32) (Scalar.cmpi .ne v53 v7) = b
  revert b; decide

/-- One run of the body, in every case. -/
theorem run_all (hk : k0_chk1 i (wN c xt2) (wEx c i xt1)) (E : Set ℕ) (K : PUnit → sProp 𝕄) :
    iprop(Held c a6 a7 a8 a9 a10 x0 x1 x2 x3 o g u d xt0 xt1 xt2 xt3 xt4
        ∗ ((∃ o' g' u' d', ⌜Aft c i x0 x1 x2 x3 o g u d xt0 xt1 xt2 xt3 xt4 o' g' u' d'⌝ ∗ Held c a6 a7 a8 a9 a10 x0 x1 x2 x3 o' g' u' d' xt0 xt1 xt2 xt3 xt4) -∗ K ⟨⟩))
      ⊢ wp frame (wpE (defs₀ (F := F)) Variants.none c none) E (theBody i a6 h6 a7 h7 a8 h8 a9 h9 a10 h10) K := by
  iintro ⟨HH, Hk⟩
  by_cases hc1 : k0_cond1 i (wN c xt2) = 1#1
  · by_cases hc2 : cond2 i (wEx c i xt1) (wExP c i xt1) = 1#1
    · by_cases hc3 : k0_cond3 i (wRb c i xt0) (wRbP c i xt0) = 1#1
      · iapply (run_TT c i a6 h6 a7 h7 a8 h8 a9 h9 a10 h10 x0 x1 x2 x3 o g u d xt0 xt1 xt2 xt3 xt4 hc1 hk hc2 hc3 (fun h => (cond4_iff i _ _).mp h hc3) E K)
        isplitl [HH]; · iexact HH
        iintro HH
        iapply Hk
        iexists _, _, _, _; isplitr; swap; · iexact HH
        ipureintro
        exact .inr ⟨hc1, .inl ⟨hc2, rfl, rfl, rfl⟩, _, .inl ⟨hc3, rfl⟩⟩
      · iapply (run_TF c i a6 h6 a7 h7 a8 h8 a9 h9 a10 h10 x0 x1 x2 x3 o g u d xt0 xt1 xt2 xt3 xt4 hc1 hk hc2 hc3 ((cond4_iff i _ _).mpr hc3) E K)
        isplitl [HH]; · iexact HH
        iintro HH
        iapply Hk
        iexists _, _, _, _; isplitr; swap; · iexact HH
        ipureintro
        exact .inr ⟨hc1, .inl ⟨hc2, rfl, rfl, rfl⟩, _, .inr ⟨hc3, rfl⟩⟩
    · by_cases hc3 : k0_cond3 i (wRb c i xt0) (wRbP c i xt0) = 1#1
      · iapply (run_FT c i a6 h6 a7 h7 a8 h8 a9 h9 a10 h10 x0 x1 x2 x3 o g u d xt0 xt1 xt2 xt3 xt4 hc1 hk hc2 hc3 (fun h => (cond4_iff i _ _).mp h hc3) E K)
        isplitl [HH]; · iexact HH
        iintro HH
        iapply Hk
        iexists _, _, _, _; isplitr; swap; · iexact HH
        ipureintro
        exact .inr ⟨hc1, .inr ⟨hc2, rfl, rfl, rfl⟩, _, .inl ⟨hc3, rfl⟩⟩
      · iapply (run_FF c i a6 h6 a7 h7 a8 h8 a9 h9 a10 h10 x0 x1 x2 x3 o g u d xt0 xt1 xt2 xt3 xt4 hc1 hk hc2 hc3 ((cond4_iff i _ _).mpr hc3) E K)
        isplitl [HH]; · iexact HH
        iintro HH
        iapply Hk
        iexists _, _, _, _; isplitr; swap; · iexact HH
        ipureintro
        exact .inr ⟨hc1, .inr ⟨hc2, rfl, rfl, rfl⟩, _, .inr ⟨hc3, rfl⟩⟩
  · iapply (run_idle c i a6 h6 a7 h7 a8 h8 a9 h9 a10 h10 x0 x1 x2 x3 o g u d xt0 xt1 xt2 xt3 xt4 hc1 E K)
    isplitl [HH]; · iexact HH
    iintro HH
    iapply Hk
    iexists _, _, _, _; isplitr; swap; · iexact HH
    ipureintro
    exact .inl ⟨hc1, rfl, rfl, rfl, rfl⟩

end Cases

end Cert.ExpertsIdeal.Hand

end
-- ==== Proof.Exp.Words.lean ====
/- The experts' products: the words of the tables at a grid point, the conditions and the block indices in terms of
   them. -/
module

public import proofs.«01_k».proof.Proof.Exp.Body
public import Idealize.ShloMosaic.Lib.ValueIdx

@[expose] public section

set_option maxRecDepth 16384

noncomputable section

namespace Cert.ExpertsIdeal.Hand

open Cert.ExpertsIdeal Cert.ExpertsIdeal.Gen
open Idealize.ShloMosaic
open Idealize.ShloMosaic.TcCoe Idealize.SL.Sem

variable {F : FTy → Type} [FloatOps F]
variable (m : (ℓ : Loc nD τ sig) → Buf (Elt F) ℓ)

/-! The entries of each table's contents. -/

def at0 (xt : tbM0_0.view.ty.Contents (Elt F)) (t : Fin 160) : BitVec 32 := xt (ValueIdx.ix1 t)
def at1 (xt : tbM0_1.view.ty.Contents (Elt F)) (t : Fin 160) : BitVec 32 := xt (ValueIdx.ix1 t)
def at2 (xt : tbM0_2.view.ty.Contents (Elt F)) : BitVec 32 := xt (ValueIdx.ix1 (0 : Fin 1))
def at3 (xt : tbM0_3.view.ty.Contents (Elt F)) (e : Fin 32) : BitVec 32 := xt (ValueIdx.ix1 e)
def at4 (xt : tbM0_4.view.ty.Contents (Elt F)) (e : Fin 32) : BitVec 32 := xt (ValueIdx.ix1 e)

/-- The table of row blocks. -/
def rbT (t : Fin 160) : BitVec 32 := at0 (tbl m 0) t
/-- The table of experts. -/
def exT (t : Fin 160) : BitVec 32 := at1 (tbl m 1) t
/-- The number of items. -/
def nT : BitVec 32 := at2 (tbl m 2)
/-- The table of first rows. -/
def offT (e : Fin 32) : BitVec 32 := at3 (tbl m 3) e
/-- The table of row counts. -/
def cntT (e : Fin 32) : BitVec 32 := at4 (tbl m 4) e

/-- The point before, or the first. -/
def prv (t : Fin 160) : Fin 160 := ⟨t.val - 1, by omega⟩

theorem coords_val (t : Fin 160) : (grid0.coords (t : Fin grid0.N) 0).val = t.val := by
  revert t; decide +kernel

theorem off2_eq (i : grid0.Coords) : k0_off2 i = ![(i 0).val] := by
  have h : (i 0).val < 160 := (i 0).isLt
  unfold k0_off2; dsimp only
  congr 1
  exact (show ((BitVec.ofNat 32 (i 0).val).toNat = (i 0).val) from by rw [BitVec.toNat_ofNat]; omega)

theorem subm_nat : ∀ n : Fin 160, (Scalar.maxsi (Scalar.subi (BitVec.ofNat 32 n.val) 1#32) 0#32).toNat = n.val - 1 := by decide +kernel

theorem off3_eq (i : grid0.Coords) : k0_off3 i = ![(i 0).val - 1] := by
  unfold k0_off3; dsimp only
  congr 1
  exact subm_nat (i 0)

theorem off5_eq (i : grid0.Coords) : k0_off5 i = ![(i 0).val - 1] := by
  unfold k0_off5; dsimp only
  congr 1
  exact subm_nat (i 0)

theorem wRb_gen (xt : tbM0_0.view.ty.Contents (Elt F)) (c : Dev nD) (t : Fin 160) : wRb c (grid0.coords (t : Fin grid0.N)) xt = at0 xt t := by
  have h := off2_eq (grid0.coords (t : Fin grid0.N))
  refine congrArg (xt) (funext fun a => Fin.ext ?_)
  obtain rfl : a = (0 : Fin 1) := Subsingleton.elim (α := Fin 1) _ _
  show k0_off2 (grid0.coords (t : Fin grid0.N)) 0 + 1 * 0 = t.val
  rw [h, ← coords_val t]; rfl

theorem wRb_eq (c : Dev nD) (t : Fin 160) : wRb c (grid0.coords (t : Fin grid0.N)) (tbl m 0) = rbT m t := wRb_gen (tbl m 0) c t

theorem wRbP_gen (xt : tbM0_0.view.ty.Contents (Elt F)) (c : Dev nD) (t : Fin 160) : wRbP c (grid0.coords (t : Fin grid0.N)) xt = at0 xt (prv t) := by
  have h := off5_eq (grid0.coords (t : Fin grid0.N))
  refine congrArg (xt) (funext fun a => Fin.ext ?_)
  obtain rfl : a = (0 : Fin 1) := Subsingleton.elim (α := Fin 1) _ _
  show k0_off5 (grid0.coords (t : Fin grid0.N)) 0 + 1 * 0 = t.val - 1
  rw [h, ← coords_val t]; rfl

theorem wRbP_eq (c : Dev nD) (t : Fin 160) : wRbP c (grid0.coords (t : Fin grid0.N)) (tbl m 0) = rbT m (prv t) := wRbP_gen (tbl m 0) c t

theorem wEx_gen (xt : tbM0_1.view.ty.Contents (Elt F)) (c : Dev nD) (t : Fin 160) : wEx c (grid0.coords (t : Fin grid0.N)) xt = at1 xt t := by
  have h := off2_eq (grid0.coords (t : Fin grid0.N))
  refine congrArg (xt) (funext fun a => Fin.ext ?_)
  obtain rfl : a = (0 : Fin 1) := Subsingleton.elim (α := Fin 1) _ _
  show k0_off2 (grid0.coords (t : Fin grid0.N)) 0 + 1 * 0 = t.val
  rw [h, ← coords_val t]; rfl

theorem wEx_eq (c : Dev nD) (t : Fin 160) : wEx c (grid0.coords (t : Fin grid0.N)) (tbl m 1) = exT m t := wEx_gen (tbl m 1) c t

theorem wExP_gen (xt : tbM0_1.view.ty.Contents (Elt F)) (c : Dev nD) (t : Fin 160) : wExP c (grid0.coords (t : Fin grid0.N)) xt = at1 xt (prv t) := by
  have h := off3_eq (grid0.coords (t : Fin grid0.N))
  refine congrArg (xt) (funext fun a => Fin.ext ?_)
  obtain rfl : a = (0 : Fin 1) := Subsingleton.elim (α := Fin 1) _ _
  show k0_off3 (grid0.coords (t : Fin grid0.N)) 0 + 1 * 0 = t.val - 1
  rw [h, ← coords_val t]; rfl

theorem wExP_eq (c : Dev nD) (t : Fin 160) : wExP c (grid0.coords (t : Fin grid0.N)) (tbl m 1) = exT m (prv t) := wExP_gen (tbl m 1) c t

theorem wN_gen (xt : tbM0_2.view.ty.Contents (Elt F)) (c : Dev nD) : wN c xt = at2 xt := by
  refine congrArg (xt) (funext fun a => Fin.ext ?_)
  obtain rfl : a = (0 : Fin 1) := Subsingleton.elim (α := Fin 1) _ _
  rfl

theorem wN_eq (c : Dev nD) : wN c (tbl m 2) = nT m := wN_gen (tbl m 2) c

theorem wOff_gen (xt : tbM0_3.view.ty.Contents (Elt F)) (c : Dev nD) (v5 : BitVec 32) (e : Fin 32) (he : v5.toNat = e.val) (h) : wOff c xt v5 h = at3 xt e := by
  refine congrArg (xt) (funext fun a => Fin.ext ?_)
  obtain rfl : a = (0 : Fin 1) := Subsingleton.elim (α := Fin 1) _ _
  show v5.toNat + 1 * 0 = e.val
  omega

theorem wOff_eq (c : Dev nD) (v5 : BitVec 32) (e : Fin 32) (he : v5.toNat = e.val) (h) : wOff c (tbl m 3) v5 h = offT m e := wOff_gen (tbl m 3) c v5 e he h

theorem wCnt_gen (xt : tbM0_4.view.ty.Contents (Elt F)) (c : Dev nD) (v5 : BitVec 32) (e : Fin 32) (he : v5.toNat = e.val) (h) : wCnt c xt v5 h = at4 xt e := by
  refine congrArg (xt) (funext fun a => Fin.ext ?_)
  obtain rfl : a = (0 : Fin 1) := Subsingleton.elim (α := Fin 1) _ _
  show v5.toNat + 1 * 0 = e.val
  omega

theorem wCnt_eq (c : Dev nD) (v5 : BitVec 32) (e : Fin 32) (he : v5.toNat = e.val) (h) : wCnt c (tbl m 4) v5 h = cntT m e := wCnt_gen (tbl m 4) c v5 e he h

/-! ## The conditions -/

theorem cond1_iff (t : Fin 160) (n : BitVec 32) : k0_cond1 (grid0.coords (t : Fin grid0.N)) n = 1#1 ↔ (t.val : Int) < n.toInt := by
  have h : (BitVec.ofNat 32 t.val).toInt = t.val := by
    have := t.isLt
    rw [BitVec.toInt_eq_toNat_of_lt (by rw [BitVec.toNat_ofNat]; omega), BitVec.toNat_ofNat, Nat.mod_eq_of_lt (by omega)]
  unfold k0_cond1; dsimp only
  rw [coords_val t, ← h]
  generalize BitVec.ofNat 32 t.val = a
  show Scalar.cmpi .ne (Scalar.extui (Scalar.cmpi .slt a n) : BitVec 32) 0#32 = 1#1 ↔ _
  have e : (Scalar.cmpi .slt a n) = BitVec.ofBool (a.slt n) := rfl
  rw [e, ← BitVec.slt_iff_toInt_lt]
  cases a.slt n <;> decide

theorem bits_or (t : Fin 160) (a b : BitVec 32) :
    Scalar.cmpi .ne (Scalar.extui (Scalar.ori (Scalar.cmpi .eq (BitVec.ofNat 32 (grid0.coords (t : Fin grid0.N) 0).val) 0#32) (Scalar.cmpi .ne a b)) : BitVec 32) 0#32 = 1#1
      ↔ t.val = 0 ∨ a ≠ b := by
  rw [coords_val t]
  have e1 : Scalar.cmpi .ne a b = BitVec.ofBool (a != b) := rfl
  have e2 : ∀ t : Fin 160, Scalar.cmpi .eq (BitVec.ofNat 32 t.val) 0#32 = BitVec.ofBool (decide (t.val = 0)) := by decide +kernel
  rw [e1, e2]
  by_cases h : a = b <;> by_cases h' : t.val = 0 <;> simp only [h, h', bne_self_eq_false, ne_eq, not_true_eq_false, not_false_eq_true, or_true, or_false, true_or, iff_true, iff_false, decide_true, decide_false]
  · decide
  · decide
  · rw [show (a != b) = true from by simpa using h]; decide
  · rw [show (a != b) = true from by simpa using h]; decide

theorem cond2_iff (t : Fin 160) (v5 v12 : BitVec 32) : cond2 (grid0.coords (t : Fin grid0.N)) v5 v12 = 1#1 ↔ t.val = 0 ∨ v12 ≠ v5 :=
  bits_or t v12 v5

theorem cond3_iff (t : Fin 160) (v7 v53 : BitVec 32) : k0_cond3 (grid0.coords (t : Fin grid0.N)) v7 v53 = 1#1 ↔ t.val = 0 ∨ v53 ≠ v7 :=
  bits_or t v53 v7

/-! ## The block indices -/

theorem tr0_eq (t : Fin 160) : cc0_transform_0 k0_off1_inb numel1_S1 (tbl m) (grid0.coords (t : Fin grid0.N)) = ![(rbT m t).toNat, 0] := by
  unfold cc0_transform_0; dsimp only
  rw [← wRb_eq m 0 t]; rfl
theorem tr1_eq (t : Fin 160) : cc0_transform_1 k0_off1_inb numel1_S1 (tbl m) (grid0.coords (t : Fin grid0.N)) = ![0, (exT m t).toNat, 0, 0] := by
  unfold cc0_transform_1; dsimp only
  rw [← wEx_eq m 0 t]; rfl
theorem tr2_eq (t : Fin 160) : cc0_transform_2 k0_off1_inb numel1_S1 (tbl m) (grid0.coords (t : Fin grid0.N)) = ![0, (exT m t).toNat, 0, 0] := by
  unfold cc0_transform_2; dsimp only
  rw [← wEx_eq m 0 t]; rfl
theorem tr3_eq (t : Fin 160) : cc0_transform_3 k0_off1_inb numel1_S1 (tbl m) (grid0.coords (t : Fin grid0.N)) = ![0, (exT m t).toNat, 0, 0] := by
  unfold cc0_transform_3; dsimp only
  rw [← wEx_eq m 0 t]; rfl
theorem tr4_eq (t : Fin 160) : cc0_transform_4 k0_off1_inb numel1_S1 (tbl m) (grid0.coords (t : Fin grid0.N)) = ![(rbT m t).toNat, 0] := by
  unfold cc0_transform_4; dsimp only
  rw [← wRb_eq m 0 t]; rfl

/-- The blocks lie inside their arrays when every row block is one of 128 and every expert one of 32. -/
theorem ok_of (h0 : ∀ t, (rbT m t).toNat < 128) (h1 : ∀ t, (exT m t).toNat < 32) : Ok m := by
  have hi : ∀ i : grid0.Coords, ∃ t : Fin 160, i = grid0.coords (t : Fin grid0.N) := fun i =>
    ⟨i 0, funext fun a => by obtain rfl : a = 0 := Subsingleton.elim _ _; exact Fin.ext (coords_val (i 0)).symm⟩
  refine ⟨fun i => ?_, fun i => ?_, fun i => ?_, fun i => ?_, fun i => ?_⟩ <;> obtain ⟨t, rfl⟩ := hi i <;> have h0 := h0 t <;> have h1 := h1 t
  · refine ⟨fun a => ?_, .inl rfl⟩
    rw [tr0_eq]; fin_cases a
    · show ((rbT m t).toNat + 1) * 256 ≤ 32768; omega
    · show (0 + 1) * 1024 ≤ 1024; omega
  · refine ⟨fun a => ?_, .inl rfl⟩
    rw [tr1_eq]; fin_cases a
    · show (0 + 1) * 1 ≤ 1; omega
    · show ((exT m t).toNat + 1) * 1 ≤ 32; omega
    · show (0 + 1) * 1024 ≤ 1024; omega
    · show (0 + 1) * 512 ≤ 512; omega
  · refine ⟨fun a => ?_, .inl rfl⟩
    rw [tr2_eq]; fin_cases a
    · show (0 + 1) * 1 ≤ 1; omega
    · show ((exT m t).toNat + 1) * 1 ≤ 32; omega
    · show (0 + 1) * 1024 ≤ 1024; omega
    · show (0 + 1) * 512 ≤ 512; omega
  · refine ⟨fun a => ?_, .inl rfl⟩
    rw [tr3_eq]; fin_cases a
    · show (0 + 1) * 1 ≤ 1; omega
    · show ((exT m t).toNat + 1) * 1 ≤ 32; omega
    · show (0 + 1) * 512 ≤ 512; omega
    · show (0 + 1) * 1024 ≤ 1024; omega
  · refine ⟨fun a => ?_, .inl rfl⟩
    rw [tr4_eq]; fin_cases a
    · show ((rbT m t).toNat + 1) * 256 ≤ 32768; omega
    · show (0 + 1) * 1024 ≤ 1024; omega

theorem chk_gen (i : grid0.Coords) (n v5 : BitVec 32) (h1 : v5.toNat < 32) : k0_chk1 i n v5 := by
  intro _ a
  obtain rfl : a = 0 := Subsingleton.elim _ _
  show v5.toNat + 1 ≤ 32
  omega

/-- The side condition the body assumes of the expert's word. -/
theorem chk_of (h1 : ∀ t, (exT m t).toNat < 32) (c : Dev nD) (t : Fin 160) :
    k0_chk1 (grid0.coords (t : Fin grid0.N)) (wN c (tbl m 2)) (wEx c (grid0.coords (t : Fin grid0.N)) (tbl m 1)) :=
  chk_gen _ _ _ (by rw [wEx_eq]; exact h1 t)

end Cert.ExpertsIdeal.Hand

end
-- ==== Proof.Exp.Run.lean ====
/- The experts' products: the pipeline's proof data with the weights carried between the points, the body at every
   point, and the run of the program. -/
module

public import proofs.«01_k».proof.Proof.Exp.Words

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

attribute [local irreducible] tbl exT rbT nT offT cntT

variable (m : (ℓ : Loc nD τ sig) → Buf (Elt F) ℓ) (ρ : Dev nD → PrngReg)

/-- A number below 160 as a point of the grid. -/
def pt (hO : Ok m) (t : Fin 160) : Fin (cfgM m hO).N := ⟨t.val, by show t.val < grid0.N; exact (t : Fin grid0.N).isLt⟩

/-- A point of the grid as a number below 160. -/
def tn (hO : Ok m) (t : Fin (cfgM m hO).N) : Fin 160 := ⟨t.val, by exact (show Fin grid0.N from t).isLt⟩

/-- The blocks of the rows and of the three weights at a point, as arrays. -/
def xBlk (hO : Ok m) (c : Dev nD) (t : Fin 160) : Vec F S256x1024 .f32 := iblk m hO c 0 (pt m hO t)
def gBlk (hO : Ok m) (c : Dev nD) (t : Fin 160) : Vec F S1x1x1024x512 .f32 := iblk m hO c 1 (pt m hO t)
def uBlk (hO : Ok m) (c : Dev nD) (t : Fin 160) : Vec F S1x1x1024x512 .f32 := iblk m hO c 2 (pt m hO t)
def dBlk (hO : Ok m) (c : Dev nD) (t : Fin 160) : Vec F S1x1x512x1024 .f32 := iblk m hO c 3 (pt m hO t)

/-- The item at this point is the first of its row block. -/
def firstAt (t : Fin 160) : Prop := t.val = 0 ∨ rbT m (prv t) ≠ rbT m t

/-- What the scratch buffers hold before point `t`: the weights of the item before it, cast — if that was an item. -/
def scInv (hO : Ok m) (c : Dev nD) (t : Nat) (g u : Vec F S1024x512 .bf16) (d : Vec F S512x1024 .bf16) : Prop :=
  ∀ s : Fin 160, s.val + 1 = t → (s.val : Int) < (nT m).toInt →
    g = k0_pay4 (gBlk m hO c s) ∧ u = k0_pay5 (uBlk m hO c s) ∧ d = k0_pay6 (dBlk m hO c s)

/-- What the body leaves in the output's buffer at point `t`, of what it found there. -/
def outRel (hO : Ok m) (c : Dev nD) (t : Fin 160) (Y X : Vec F S256x1024 .f32) : Prop :=
  (¬ (t.val : Int) < (nT m).toInt ∧ X = Y)
  ∨ ((t.val : Int) < (nT m).toInt ∧ ∃ e : Fin 32, (exT m t).toNat = e.val
    ∧ ((firstAt m t ∧ X = k0_pay2 (yOf (xBlk m hO c t) (k0_pay4 (gBlk m hO c t)) (k0_pay5 (uBlk m hO c t)) (k0_pay6 (dBlk m hO c t)))
          (k0_pay8 (F := F) (rbT m t)) (k0_pay9 (F := F) (rbT m t) (offT m e)) (offT m e) (cntT m e))
      ∨ (¬ firstAt m t ∧ X = k0_pay3 (yOf (xBlk m hO c t) (k0_pay4 (gBlk m hO c t)) (k0_pay5 (uBlk m hO c t)) (k0_pay6 (dBlk m hO c t)))
          (k0_pay8 (F := F) (rbT m t)) (k0_pay9 (F := F) (rbT m t) (offT m e)) (offT m e) (cntT m e) Y)))

/-- The proof data: the arrays as the region finds them, the inputs left as found, the output in the relation
    `outRel`; carried from point to point the scratch buffers under `scInv`, the generator register and the tables. -/
def rdat (hO : Ok m) (c : Dev nD) : RDat τ (Elt F) Unit ℕ (UR sig nD τ) ℕ (cfgM m hO) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => outRel m hO c (tn m hO t) Y X
  Φ t := iprop((∃ g u d, ⌜scInv m hO c t.val g u d⌝ ∗ owns (c : Thread nD τ) scM0_0 fullShare g ∗ owns (c : Thread nD τ) scM0_1 fullShare u ∗ owns (c : Thread nD τ) scM0_2 fullShare d)
    ∗ (∃ r, prngReg c r) ∗ Pipeline.ΦT pre0 (tbl m) c)
  q _ := fullShare
  owed _ := 0

theorem rA_eq (hO : Ok m) (c : Dev nD) (w : Fin (cfgM m hO).W) : (rdat m hO c).A w = V m c (Pipeline.arrRef spec0 w) := by
  dsimp only [rdat]

theorem after0_iff (hO : Ok m) (c : Dev nD) (t : Fin (cfgM m hO).N) (Y X) : (rdat m hO c).after 0 t Y X ↔ X = Y := by dsimp only [rdat]; rfl
theorem after1_iff (hO : Ok m) (c : Dev nD) (t : Fin (cfgM m hO).N) (Y X) : (rdat m hO c).after 1 t Y X ↔ X = Y := by dsimp only [rdat]; rfl
theorem after2_iff (hO : Ok m) (c : Dev nD) (t : Fin (cfgM m hO).N) (Y X) : (rdat m hO c).after 2 t Y X ↔ X = Y := by dsimp only [rdat]; rfl
theorem after3_iff (hO : Ok m) (c : Dev nD) (t : Fin (cfgM m hO).N) (Y X) : (rdat m hO c).after 3 t Y X ↔ X = Y := by dsimp only [rdat]; rfl
theorem after4_iff (hO : Ok m) (c : Dev nD) (t : Fin (cfgM m hO).N) (Y X) : (rdat m hO c).after 4 t Y X ↔ outRel m hO c (tn m hO t) Y X := by dsimp only [rdat]; rfl

/-- What a fetch brings is the block. -/
theorem fetched_eq0 (hO : Ok m) (c : Dev nD) (t : Fin (cfgM m hO).N) (d) : (rdat m hO c).fetched 0 t d = iblk m hO c 0 t := by
  unfold RDat.fetched RDat.blockOf iblk; rw [rA_eq]; rfl
theorem fetched_eq1 (hO : Ok m) (c : Dev nD) (t : Fin (cfgM m hO).N) (d) : (rdat m hO c).fetched 1 t d = iblk m hO c 1 t := by
  unfold RDat.fetched RDat.blockOf iblk; rw [rA_eq]; rfl
theorem fetched_eq2 (hO : Ok m) (c : Dev nD) (t : Fin (cfgM m hO).N) (d) : (rdat m hO c).fetched 2 t d = iblk m hO c 2 t := by
  unfold RDat.fetched RDat.blockOf iblk; rw [rA_eq]; rfl
theorem fetched_eq3 (hO : Ok m) (c : Dev nD) (t : Fin (cfgM m hO).N) (d) : (rdat m hO c).fetched 3 t d = iblk m hO c 3 t := by
  unfold RDat.fetched RDat.blockOf iblk; rw [rA_eq]; rfl

theorem finds0 (hO : Ok m) (c : Dev nD) (t : Fin (cfgM m hO).N) (Y) (h : (rdat m hO c).Finds 0 t Y) : Y = iblk m hO c 0 t := by
  obtain ⟨d, rfl⟩ := Pipeline.RDat.finds_in_eq_fetched (rdat m hO c) 0 rfl (fun _ _ _ => rfl) (fun t Y X h => (after0_iff m hO c t Y X).mp h) t Y h
  exact fetched_eq0 m hO c t d
theorem finds1 (hO : Ok m) (c : Dev nD) (t : Fin (cfgM m hO).N) (Y) (h : (rdat m hO c).Finds 1 t Y) : Y = iblk m hO c 1 t := by
  obtain ⟨d, rfl⟩ := Pipeline.RDat.finds_in_eq_fetched (rdat m hO c) 1 rfl (fun _ _ _ => rfl) (fun t Y X h => (after1_iff m hO c t Y X).mp h) t Y h
  exact fetched_eq1 m hO c t d
theorem finds2 (hO : Ok m) (c : Dev nD) (t : Fin (cfgM m hO).N) (Y) (h : (rdat m hO c).Finds 2 t Y) : Y = iblk m hO c 2 t := by
  obtain ⟨d, rfl⟩ := Pipeline.RDat.finds_in_eq_fetched (rdat m hO c) 2 rfl (fun _ _ _ => rfl) (fun t Y X h => (after2_iff m hO c t Y X).mp h) t Y h
  exact fetched_eq2 m hO c t d
theorem finds3 (hO : Ok m) (c : Dev nD) (t : Fin (cfgM m hO).N) (Y) (h : (rdat m hO c).Finds 3 t Y) : Y = iblk m hO c 3 t := by
  obtain ⟨d, rfl⟩ := Pipeline.RDat.finds_in_eq_fetched (rdat m hO c) 3 rfl (fun _ _ _ => rfl) (fun t Y X h => (after3_iff m hO c t Y X).mp h) t Y h
  exact fetched_eq3 m hO c t d

theorem index0_at (a : (pcfg0 (F := F)).Adm) (t : Fin (cfg0 a).N) : ((cfg0 a).win 0).index t = cc0_transform_0 k0_off1_inb numel1_S1 a.1 ((cfg0 a).grid.coords t) := rfl
theorem index1_at (a : (pcfg0 (F := F)).Adm) (t : Fin (cfg0 a).N) : ((cfg0 a).win 1).index t = cc0_transform_1 k0_off1_inb numel1_S1 a.1 ((cfg0 a).grid.coords t) := rfl
theorem index2_at (a : (pcfg0 (F := F)).Adm) (t : Fin (cfg0 a).N) : ((cfg0 a).win 2).index t = cc0_transform_2 k0_off1_inb numel1_S1 a.1 ((cfg0 a).grid.coords t) := rfl
theorem index3_at (a : (pcfg0 (F := F)).Adm) (t : Fin (cfg0 a).N) : ((cfg0 a).win 3).index t = cc0_transform_3 k0_off1_inb numel1_S1 a.1 ((cfg0 a).grid.coords t) := rfl
theorem index4_at (a : (pcfg0 (F := F)).Adm) (t : Fin (cfg0 a).N) : ((cfg0 a).win 4).index t = cc0_transform_4 k0_off1_inb numel1_S1 a.1 ((cfg0 a).grid.coords t) := rfl

/-- The block each window takes at a point, by the tables' words. -/
theorem idx0_eq (hO : Ok m) (t : Fin 160) : ((cfgM m hO).win 0).index (pt m hO t) = ![(rbT m t).toNat, 0] := (index0_at (adm m hO) _).trans (tr0_eq m t)
theorem idx1_eq (hO : Ok m) (t : Fin 160) : ((cfgM m hO).win 1).index (pt m hO t) = ![0, (exT m t).toNat, 0, 0] := (index1_at (adm m hO) _).trans (tr1_eq m t)
theorem idx2_eq (hO : Ok m) (t : Fin 160) : ((cfgM m hO).win 2).index (pt m hO t) = ![0, (exT m t).toNat, 0, 0] := (index2_at (adm m hO) _).trans (tr2_eq m t)
theorem idx3_eq (hO : Ok m) (t : Fin 160) : ((cfgM m hO).win 3).index (pt m hO t) = ![0, (exT m t).toNat, 0, 0] := (index3_at (adm m hO) _).trans (tr3_eq m t)
theorem idx4_eq (hO : Ok m) (t : Fin 160) : ((cfgM m hO).win 4).index (pt m hO t) = ![(rbT m t).toNat, 0] := (index4_at (adm m hO) _).trans (tr4_eq m t)

/-- The weights' blocks of two items of one expert are the same. -/
theorem gBlk_congr (hO : Ok m) (c : Dev nD) (t t' : Fin 160) (h : exT m t = exT m t') : gBlk m hO c t = gBlk m hO c t' := by
  have e := (rdat m hO c).fetched_congr 1 (t := pt m hO t) (t' := pt m hO t')
    ((idx1_eq m hO t).trans ((congrArg (fun e : BitVec 32 => ![0, e.toNat, 0, 0]) h).trans (idx1_eq m hO t').symm)) rfl (fun _ => Classical.arbitrary _)
  rw [fetched_eq1, fetched_eq1] at e; exact e
theorem uBlk_congr (hO : Ok m) (c : Dev nD) (t t' : Fin 160) (h : exT m t = exT m t') : uBlk m hO c t = uBlk m hO c t' := by
  have e := (rdat m hO c).fetched_congr 2 (t := pt m hO t) (t' := pt m hO t')
    ((idx2_eq m hO t).trans ((congrArg (fun e : BitVec 32 => ![0, e.toNat, 0, 0]) h).trans (idx2_eq m hO t').symm)) rfl (fun _ => Classical.arbitrary _)
  rw [fetched_eq2, fetched_eq2] at e; exact e
theorem dBlk_congr (hO : Ok m) (c : Dev nD) (t t' : Fin 160) (h : exT m t = exT m t') : dBlk m hO c t = dBlk m hO c t' := by
  have e := (rdat m hO c).fetched_congr 3 (t := pt m hO t) (t' := pt m hO t')
    ((idx3_eq m hO t).trans ((congrArg (fun e : BitVec 32 => ![0, e.toNat, 0, 0]) h).trans (idx3_eq m hO t').symm)) rfl (fun _ => Classical.arbitrary _)
  rw [fetched_eq3, fetched_eq3] at e; exact e

/-- One point of the invariant and of the output's relation. -/
theorem step (hO : Ok m) (h1 : ∀ t, (exT m t).toNat < 32) (c : Dev nD) (t : Fin 160)
    (o o' : Vec F S256x1024 .f32) (g u g' u' : Vec F S1024x512 .bf16) (d d' : Vec F S512x1024 .bf16)
    (hs : scInv m hO c t.val g u d)
    (ha : Aft c (grid0.coords (t : Fin grid0.N)) (xBlk m hO c t) (gBlk m hO c t) (uBlk m hO c t) (dBlk m hO c t) o g u d (tbl m 0) (tbl m 1) (tbl m 2) (tbl m 3) (tbl m 4) o' g' u' d') :
    scInv m hO c (t.val + 1) g' u' d' ∧ outRel m hO c t o o' := by
  unfold Aft at ha
  rw [wN_eq, cond1_iff, cond2_iff, cond3_iff, wEx_eq, wExP_eq, wRb_eq, wRbP_eq] at ha
  rcases ha with ⟨hn, rfl, rfl, rfl, rfl⟩ | ⟨hn, hg, hb, ho⟩
  · refine ⟨fun s hst hsn => ?_, .inl ⟨hn, rfl⟩⟩
    obtain rfl : s = t := Fin.ext (by omega)
    exact absurd hsn hn
  · have hw : g' = k0_pay4 (gBlk m hO c t) ∧ u' = k0_pay5 (uBlk m hO c t) ∧ d' = k0_pay6 (dBlk m hO c t) := by
      rcases hg with ⟨-, h⟩ | ⟨hne, rfl, rfl, rfl⟩
      · exact h
      · rw [not_or, not_not] at hne
        have := hs (prv t) (by have := hne.1; show t.val - 1 + 1 = t.val; omega) (by show ((t.val - 1 : Nat) : Int) < _; omega)
        rw [gBlk_congr m hO c _ _ hne.2, uBlk_congr m hO c _ _ hne.2, dBlk_congr m hO c _ _ hne.2] at this
        exact this
    refine ⟨fun s hst hsn => ?_, .inr ⟨hn, ⟨(exT m t).toNat, h1 t⟩, rfl, ?_⟩⟩
    · obtain rfl : s = t := Fin.ext (by omega)
      exact hw
    · obtain ⟨rfl, rfl, rfl⟩ := hw
      rw [wOff_eq m c (exT m t) ⟨(exT m t).toNat, h1 t⟩ rfl hb, wCnt_eq m c (exT m t) ⟨(exT m t).toNat, h1 t⟩ rfl hb] at ho
      exact ho

theorem rΦ_eq (hO : Ok m) (c : Dev nD) (t : Fin ((cfgM m hO).N + 1)) : (rdat m hO c).Φ t
    = iprop((∃ g u d, ⌜scInv m hO c t.val g u d⌝ ∗ owns (c : Thread nD τ) scM0_0 fullShare g ∗ owns (c : Thread nD τ) scM0_1 fullShare u ∗ owns (c : Thread nD τ) scM0_2 fullShare d)
    ∗ (∃ r, prngReg c r) ∗ Pipeline.ΦT pre0 (tbl m) c) := by dsimp only [rdat]

/-- What the body is called with at point `t`, the windows holding `Y`. -/
def bodyPre (hO : Ok m) (c : Dev nD) (t : Fin (cfgM m hO).N) (Y : (w : Fin (cfgM m hO).W) → ((cfgM m hO).win w).block.Idx → Elt F ((cfgM m hO).win w).elt) : sProp 𝕄 :=
  iprop((rdat m hO c).Φ t.castSucc ∗ (rdat m hO c).owesAt () t.castSucc
    ∗ owns (c : Thread nD τ) (ms0_0 m hO t) fullShare (Y 0)
    ∗ owns (c : Thread nD τ) (ms0_1 m hO t) fullShare (Y 1)
    ∗ owns (c : Thread nD τ) (ms0_2 m hO t) fullShare (Y 2)
    ∗ owns (c : Thread nD τ) (ms0_3 m hO t) fullShare (Y 3)
    ∗ owns (c : Thread nD τ) (ms0_4 m hO t) fullShare (Y 4))

/-- and what it returns. -/
def bodyPost (hO : Ok m) (c : Dev nD) (t : Fin (cfgM m hO).N) (Y : (w : Fin (cfgM m hO).W) → ((cfgM m hO).win w).block.Idx → Elt F ((cfgM m hO).win w).elt) : sProp 𝕄 :=
  iprop((rdat m hO c).Φ t.succ ∗ (rdat m hO c).owesAt () t.succ
    ∗ (∃ X, ⌜(rdat m hO c).after 0 t (Y 0) X⌝ ∗ owns (c : Thread nD τ) (ms0_0 m hO t) fullShare X)
    ∗ (∃ X, ⌜(rdat m hO c).after 1 t (Y 1) X⌝ ∗ owns (c : Thread nD τ) (ms0_1 m hO t) fullShare X)
    ∗ (∃ X, ⌜(rdat m hO c).after 2 t (Y 2) X⌝ ∗ owns (c : Thread nD τ) (ms0_2 m hO t) fullShare X)
    ∗ (∃ X, ⌜(rdat m hO c).after 3 t (Y 3) X⌝ ∗ owns (c : Thread nD τ) (ms0_3 m hO t) fullShare X)
    ∗ (∃ X, ⌜(rdat m hO c).after 4 t (Y 4) X⌝ ∗ owns (c : Thread nD τ) (ms0_4 m hO t) fullShare X))

/-- The body at every point. -/
theorem sound_body (hO : Ok m) (h1 : ∀ t, (exT m t).toNat < 32) (c : Dev nD) (t : Fin (cfgM m hO).N)
    (Y : (w : Fin (cfgM m hO).W) → ((cfgM m hO).win w).block.Idx → Elt F ((cfgM m hO).win w).elt) (hY : ∀ w, (rdat m hO c).Finds w t (Y w)) :
    bodyPre m hO c t Y ⊢ wp frame (wpE (defs₀ (F := F)) Variants.none c none) Set.univ (bodyAt0 (adm m hO) t) (fun _ => bodyPost m hO c t Y) := by
  have e0 := finds0 m hO c t _ (hY 0)
  have e1 := finds1 m hO c t _ (hY 1)
  have e2 := finds2 m hO c t _ (hY 2)
  have e3 := finds3 m hO c t _ (hY 3)
  unfold bodyPre bodyPost
  simp only [after0_iff, after1_iff, after2_iff, after3_iff, after4_iff]
  rw [show (rdat m hO c).owesAt () t.succ = (rdat m hO c).owesAt () t.castSucc from rfl, rΦ_eq, rΦ_eq, PhiT0_eq]
  iintro ⟨⟨⟨%g, %u, %d, %hs, HS0, HS1, HS2⟩, Hg, ⟨HT0, HT1, HT2, HT3, HT4⟩⟩, Ho, H0, H1, H2, H3, H4⟩
  iapply (run_all c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
    (Y 0) (Y 1) (Y 2) (Y 3) (Y 4) g u d (tbl m 0) (tbl m 1) (tbl m 2) (tbl m 3) (tbl m 4) (chk_of m h1 c (tn m hO t)) Set.univ _)
  isplitl [H0 H1 H2 H3 H4 HS0 HS1 HS2 HT0 HT1 HT2 HT3 HT4]
  · isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HT0]; · iexact HT0
    isplitl [HT1]; · iexact HT1
    isplitl [HT2]; · iexact HT2
    isplitl [HT3]; · iexact HT3
    iexact HT4
  iintro ⟨%o', %g', %u', %d', %ha, H0, H1, H2, H3, H4, HS0, HS1, HS2, HT0, HT1, HT2, HT3, HT4⟩
  have hst : scInv m hO c (t.val + 1) g' u' d' ∧ outRel m hO c (tn m hO t) (Y 4) o' := by
    rw [e0, e1, e2, e3] at ha
    exact step m hO h1 c (tn m hO t) (Y 4) o' g u g' u' d d' hs ha
  isplitl [HS0 HS1 HS2 Hg HT0 HT1 HT2 HT3 HT4]
  · isplitl [HS0 HS1 HS2]
    · iexists g', u', d'
      isplitr; · ipureintro; exact hst.1
      isplitl [HS0]; · iexact HS0
      isplitl [HS1]; · iexact HS1
      iexact HS2
    isplitl [Hg]; · iexact Hg
    isplitl [HT0]; · iexact HT0
    isplitl [HT1]; · iexact HT1
    isplitl [HT2]; · iexact HT2
    isplitl [HT3]; · iexact HT3
    iexact HT4
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  isplitl [H3]
  · iexists (Y 3); isplitr; · ipureintro; rfl
    iexact H3
  iexists o'; isplitr; · ipureintro; exact hst.2
  iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (h1 : ∀ t, (exT m t).toNat < 32) (c : Dev nD) : (rdat m hO c).BodyObligation (defs₀ (F := F)) Variants.none () Set.univ := fun t Y hY => by
  rw [bigSep_W0, bigSep_W0, defs₀_row m hO]
  exact triple_restated (sound_body m hO h1 c t Y hY) rfl .rfl fun _ => .rfl

set_option backward.isDefEq.respectTransparency.types false in
/-- The launch: every array of the pipeline as the proof data leave it, every other unscoped buffer as found, every
    semaphore counter at zero. -/
theorem run_main (hO : Ok m) (h1 : ∀ t, (exT m t).toNat < 32) : θ_run defs (onTc (τ := τ) (main (F := F))) (s₀ m ρ)
    (fun r => Pipeline.RDat.FramePost (cfgM m hO) (rdat m hO) (V m) r ∧ r.2.sem = fun _ => 0) :=
  Pipeline.RDat.θ_run_frameP_track pcfgs (fun _ => adm m hO) (0 : Fin 1) launch0 defs₀ Variants.none (rdat m hO) m ρ main
    (hbody := body_obligation m hO h1) (hshare := fun c => (rdat m hO c).share_full fun _ => rfl)
    (howed := fun _ _ => rfl) (V := V m) (hmain := hmain m Variants.none) (hA := rA_eq m hO) (hpf := V_pre m)
    (hin := fun c => by
      rw [rΦ_eq, PhiA0_eq]
      iintro ⟨⟨⟨⟨%g, H0⟩, ⟨%u, H1⟩, ⟨%d, H2⟩⟩, Hg⟩, HT⟩
      isplitl [H0 H1 H2]
      · iexists g, u, d
        isplitr; · ipureintro; exact fun s hs => absurd hs (Nat.succ_ne_zero _)
        isplitl [H0]; · iexact H0
        isplitl [H1]; · iexact H1
        iexact H2
      isplitl [Hg]; · iexact Hg
      iexact HT)
    (hout := fun c => by
      rw [rΦ_eq, PhiA0_eq]
      iintro ⟨⟨%g, %u, %d, -, H0, H1, H2⟩, Hg, HT⟩
      isplitl [H0 H1 H2]
      · isplitl [H0]; · iexists g; iexact H0
        isplitl [H1]; · iexists u; iexact H1
        iexists d; iexact H2
      iexact Hg)
    (Q' := _)

/-- The argument arrays end unchanged and every counter is zero, for every contents of the arguments. -/
theorem frame_gen (hO : Ok m) (h1 : ∀ t, (exT m t).toNat < 32) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have hh := h.1 c
    have i0 : r.2.mem ((c.tc : Thread nD τ).loc main_arg0) = V m c main_arg0 := by
      have i0 := hh.1 0
      rw [(rdat m hO c).ArrAt_in 0 rfl, rA_eq] at i0
      exact i0
    exact ⟨i0.trans (V_main_arg0 m c), (hh.2 main_arg1 (by decide : main_arg1 ∈ Pipeline.restRefs sig spec0)).trans (V_main_arg1 m c),
      (hh.2 main_arg2 (by decide : main_arg2 ∈ Pipeline.restRefs sig spec0)).trans (V_main_arg2 m c),
      (hh.2 main_arg3 (by decide : main_arg3 ∈ Pipeline.restRefs sig spec0)).trans (V_main_arg3 m c),
      (hh.2 main_arg4 (by decide : main_arg4 ∈ Pipeline.restRefs sig spec0)).trans (V_main_arg4 m c)⟩, h.2⟩) (run_main m ρ hO h1)

end Cert.ExpertsIdeal.Hand

end
-- ==== Proof.Exp.Tables.lean ====
/- The experts' products: the tables the host operations make, as functions of the rows' numbers. -/
module

public import proofs.«01_k».proof.Proof.Exp.Words
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Cert.ExpertsIdeal.Hand

open Cert.ExpertsIdeal Cert.ExpertsIdeal.Gen Cert.ExpertsIdeal.Facts
open Idealize.ShloMosaic Idealize.ShloMosaic.StableHlo
open Idealize.ShloMosaic.TcCoe Idealize.SL.Sem

/-- The running sum. -/
def hCum (x : IVec S32 32) : IVec S32 32 :=
  Host.reduceWindow IntOp.addi ![32] ![1] ![31] ![0] x (broadcastInDim S_ ![] bcast_S_S_ (constantI S_ 32 0#32)) reduceWindows_S32_S32_w32s1p31_0 h_S_
/-- Each expert's first row. -/
def hOff (x : IVec S32 32) : IVec S32 32 := subi (hCum x) x
/-- A vector of words divided by 256, rounded down. -/
def hDiv (v : IVec S32 32) : IVec S32 32 :=
  select (andi (cmpi .ne (signi v) (broadcastInDim S32 ![] bcast_S_S32 (signi (constantI S_ 32 256#32))))
      (cmpi .ne (Host.remsi v (broadcastInDim S32 ![] bcast_S_S32 (constantI S_ 32 256#32))) (broadcastInDim S32 ![] bcast_S_S32 (constantI S_ 32 0#32))))
    (subi (Host.divsi v (broadcastInDim S32 ![] bcast_S_S32 (constantI S_ 32 256#32))) (broadcastInDim S32 ![] bcast_S_S32 (constantI S_ 32 1#32)))
    (Host.divsi v (broadcastInDim S32 ![] bcast_S_S32 (constantI S_ 32 256#32)))
/-- Each expert's first row block, -/
def hFirst (x : IVec S32 32) : IVec S32 32 := hDiv (hOff x)
/-- and last. -/
def hLast (x : IVec S32 32) : IVec S32 32 := hDiv (subi (addi (hOff x) x) (broadcastInDim S32 ![] bcast_S_S32 (constantI S_ 32 1#32)))
/-- How many items each expert has. -/
def hPer (x : IVec S32 32) : IVec S32 32 :=
  select (cmpi .sgt x (broadcastInDim S32 ![] bcast_S_S32 (constantI S_ 32 0#32)))
    (addi (subi (hLast x) (hFirst x)) (broadcastInDim S32 ![] bcast_S_S32 (constantI S_ 32 1#32)))
    (broadcastInDim S32 ![] bcast_S_S32 (constantI S_ 32 0#32))
/-- The items' running sum. -/
def hEnd (x : IVec S32 32) : IVec S32 32 := hCum (hPer x)
/-- The expert of each item, of the running sum `e`. -/
def hEx0 (e : IVec S32 32) : IVec S160 32 :=
  minsi (Host.reduce IntOp.addi (extui 32 (cmpi .sle
      (broadcastInDim S160x32 ![0, 1] bcast_S1x32_S160x32_0_1 (broadcastInDim S1x32 ![1] bcast_S32_S1x32_1 e))
      (broadcastInDim S160x32 ![0, 1] bcast_S160x1_S160x32_0_1 (broadcastInDim S160x1 ![0] bcast_S160_S160x1_0 (iotaInDim S160 32 0)))) natLt_1_32)
      (constantI S_ 32 0#32) reducesTo_S160x32_S160_d1 h_S_)
    (broadcastInDim S160 ![] bcast_S_S160 (constantI S_ 32 31#32))
/-- An index vector, a negative entry counted from the end of an axis of extent 32 (160). -/
def hWrap (k : BitVec 32) (x : IVec S160 32) : IVec S160x1 32 :=
  broadcastInDim S160x1 ![0] bcast_S160_S160x1_0
    (select (cmpi .slt x (broadcastInDim S160 ![] bcast_S_S160 (constantI S_ 32 0#32))) (addi x (broadcastInDim S160 ![] bcast_S_S160 (constantI S_ 32 k))) x)
/-- A vector of 32 read at the experts of the items. -/
def hTake (v : IVec S32 32) (x : IVec S160 32) : IVec S160 32 := Host.gather gather_S32_S160x1_S160_n_0_n_n_0_1_1 v (hWrap 32#32 x)
/-- A vector of 160 read at items. -/
def hTakeItem (v : IVec S160 32) (x : IVec S160 32) : IVec S160 32 := Host.gather gather_S160_S160x1_S160_n_0_n_n_0_1_1 v (hWrap 160#32 x)
/-- The row block of each item. -/
def hRb0 (first per e : IVec S32 32) : IVec S160 32 :=
  minsi (broadcastInDim S160 ![] bcast_S_S160 (constantI S_ 32 127#32))
    (maxsi (broadcastInDim S160 ![] bcast_S_S160 (constantI S_ 32 0#32))
      (addi (hTake first (hEx0 e)) (subi (iotaInDim S160 32 0) (hTake (subi e per) (hEx0 e)))))
/-- The number of items. -/
def hN (e : IVec S32 32) : IVec S1 32 := extractStridedSlice S1 ![31] e slices_S32_S1_31
/-- The item a grid point works on. -/
def hItem (e : IVec S32 32) : IVec S160 32 :=
  minsi (iotaInDim S160 32 0) (broadcastInDim S160 ![] bcast_S_S160 (subi (shapeCast S_ (hN e) shapeCasts_S1_S_) (constantI S_ 32 1#32)))

section Reads
variable {F : FTy → Type} [FloatOps F]
variable (s : Valuation τ sig (Elt F))

abbrev segA : List (HloOp τ sig (Elt F)) := List.flatten [hostOps0, hostOps0_1, hostOps0_2, hostOps0_3, hostOps0_4, hostOps0_5, hostOps0_6, hostOps0_7]
abbrev segB : List (HloOp τ sig (Elt F)) := List.flatten [hostOps0_8, hostOps0_9]

theorem A_v1 : after segA s (Proc.devRef .tc main_v1) = hOff (s (Proc.devRef .tc main_arg1)) := by
  unfold segA hostOps0 hostOps0_1 hostOps0_2 hostOps0_3 hostOps0_4 hostOps0_5 hostOps0_6 hostOps0_7
  after_reads_simp
  simp -implicitDefEqProofs only [TRef.toBuf, TRef.ofBuf, cast_cast, cast_eq, id_eq]
  unfold hOff hCum; with_reducible rfl
theorem A_v2 : after segA s (Proc.devRef .tc main_v2) = hFirst (s (Proc.devRef .tc main_arg1)) := by
  unfold segA hostOps0 hostOps0_1 hostOps0_2 hostOps0_3 hostOps0_4 hostOps0_5 hostOps0_6 hostOps0_7
  after_reads_simp
  simp -implicitDefEqProofs only [TRef.toBuf, TRef.ofBuf, cast_cast, cast_eq, id_eq]
  unfold hFirst hDiv hOff hCum; with_reducible rfl
theorem A_v12 : after segA s (Proc.devRef .tc main_v12) = hPer (s (Proc.devRef .tc main_arg1)) := by
  unfold segA hostOps0 hostOps0_1 hostOps0_2 hostOps0_3 hostOps0_4 hostOps0_5 hostOps0_6 hostOps0_7
  after_reads_simp
  simp -implicitDefEqProofs only [TRef.toBuf, TRef.ofBuf, cast_cast, cast_eq, id_eq]
  unfold hPer hLast hFirst hDiv hOff hCum; with_reducible rfl
theorem A_v13 : after segA s (Proc.devRef .tc main_v13) = hEnd (s (Proc.devRef .tc main_arg1)) := by
  unfold segA hostOps0 hostOps0_1 hostOps0_2 hostOps0_3 hostOps0_4 hostOps0_5 hostOps0_6 hostOps0_7
  after_reads_simp
  simp -implicitDefEqProofs only [TRef.toBuf, TRef.ofBuf, cast_cast, cast_eq, id_eq]
  unfold hEnd hPer hLast hFirst hDiv hOff hCum; with_reducible rfl
theorem A_arg1 : after segA s (Proc.devRef .tc main_arg1) = s (Proc.devRef .tc main_arg1) := by
  unfold segA hostOps0 hostOps0_1 hostOps0_2 hostOps0_3 hostOps0_4 hostOps0_5 hostOps0_6 hostOps0_7
  after_reads_simp; try rfl
theorem B_v24 : after segB s (Proc.devRef .tc main_v24) = hEx0 (s (Proc.devRef .tc main_v13)) := by
  unfold segB hostOps0_8 hostOps0_9
  after_reads_simp; try rfl
theorem B_v41 : after segB s (Proc.devRef .tc main_v41) = hRb0 (s (Proc.devRef .tc main_v2)) (s (Proc.devRef .tc main_v12)) (s (Proc.devRef .tc main_v13)) := by
  unfold segB hostOps0_8 hostOps0_9
  after_reads_simp; try rfl
theorem B_v13 : after segB s (Proc.devRef .tc main_v13) = s (Proc.devRef .tc main_v13) := by
  unfold segB hostOps0_8 hostOps0_9
  after_reads_simp; try rfl
theorem B_v1 : after segB s (Proc.devRef .tc main_v1) = s (Proc.devRef .tc main_v1) := by
  unfold segB hostOps0_8 hostOps0_9
  after_reads_simp; try rfl
theorem C_v57 : after hostOps0_10 s (Proc.devRef .tc main_v57) = hTakeItem (s (Proc.devRef .tc main_v41)) (hItem (s (Proc.devRef .tc main_v13))) := by
  unfold hostOps0_10
  after_reads_simp; try rfl
theorem C_v64 : after hostOps0_10 s (Proc.devRef .tc main_v64) = hTakeItem (s (Proc.devRef .tc main_v24)) (hItem (s (Proc.devRef .tc main_v13))) := by
  unfold hostOps0_10
  after_reads_simp; try rfl
theorem C_v42 : after hostOps0_10 s (Proc.devRef .tc main_v42) = hN (s (Proc.devRef .tc main_v13)) := by
  unfold hostOps0_10
  after_reads_simp; try rfl
theorem C_v1 : after hostOps0_10 s (Proc.devRef .tc main_v1) = s (Proc.devRef .tc main_v1) := by
  unfold hostOps0_10
  after_reads_simp; try rfl

theorem after_app (l l' : List (HloOp τ sig (Elt F))) : after (l ++ l') s = after l' (after l s) := by
  induction l generalizing s with
  | nil => rfl
  | cons op l ih => exact ih _

variable (m : (ℓ : Loc nD τ sig) → Buf (Elt F) ℓ)

theorem V_split (c : Dev nD) (b : Ref sig .tc) : V m c b = after hostOps0_10 (after segB (after segA (fun b => m (c, b)))) (Proc.devRef .tc b) := by
  rw [← after_app, ← after_app]; unfold V segA segB
  simp only [List.flatten_cons, List.flatten_nil, List.append_assoc, List.append_nil]

/-- The rows' numbers, as an integer vector. -/
def cntV : IVec S32 32 := m ((0 : Dev nD), Proc.devRef .tc main_arg1)

theorem rbT_eq (t : Fin 160) : rbT m t = hTakeItem (hRb0 (hFirst (cntV m)) (hPer (cntV m)) (hEnd (cntV m))) (hItem (hEnd (cntV m))) (ValueIdx.ix1 t) := by
  show V m 0 main_v57 (ValueIdx.ix1 t) = _
  rw [V_split, C_v57, B_v41, B_v13, A_v2, A_v12, A_v13]; rfl
theorem exT_eq (t : Fin 160) : exT m t = hTakeItem (hEx0 (hEnd (cntV m))) (hItem (hEnd (cntV m))) (ValueIdx.ix1 t) := by
  show V m 0 main_v64 (ValueIdx.ix1 t) = _
  rw [V_split, C_v64, B_v24, B_v13, A_v13]; rfl
theorem nT_eq : nT m = hN (hEnd (cntV m)) (ValueIdx.ix1 (0 : Fin 1)) := by
  show V m 0 main_v42 (ValueIdx.ix1 (0 : Fin 1)) = _
  rw [V_split, C_v42, B_v13, A_v13]; rfl
theorem offT_eq (e : Fin 32) : offT m e = hOff (cntV m) (ValueIdx.ix1 e) := by
  show V m 0 main_v1 (ValueIdx.ix1 e) = _
  rw [V_split, C_v1, B_v1, A_v1]; rfl
theorem cntT_eq (e : Fin 32) : cntT m e = cntV m (ValueIdx.ix1 e) := by
  show V m 0 main_arg1 (ValueIdx.ix1 e) = _
  rw [V_main_arg1]; rfl

end Reads

end Cert.ExpertsIdeal.Hand

end
-- ==== Proof.Exp.Bounds.lean ====
/- The experts' products: the bounds of the tables' words, for any numbers of rows. -/
module

public import proofs.«01_k».proof.Proof.Exp.Tables
public import Idealize.ShloMosaic.Lib.Routing.OpsSet
public import Idealize.ShloMosaic.Lib.Routing.Words

@[expose] public section

set_option maxRecDepth 16384

noncomputable section

namespace Cert.ExpertsIdeal.Hand

open Cert.ExpertsIdeal Cert.ExpertsIdeal.Gen Cert.ExpertsIdeal.Facts
open Idealize.ShloMosaic Idealize.ShloMosaic.StableHlo Idealize.ShloMosaic.Routing

/-! ## Bounds -/

/-- A clamp of a word between two numbers. -/
theorem clamp_lt (a : BitVec 32) (h : Nat) (hh : h < 2 ^ 31) : (IntOp.minsi (BitVec.ofNat 32 h) (IntOp.maxsi 0#32 a)).toNat ≤ h := by
  unfold IntOp.minsi IntOp.maxsi
  have e := Predicate.toInt_ofNat_small h hh
  have n : (BitVec.ofNat 32 h).toNat = h := by rw [BitVec.toNat_ofNat]; omega
  have z : (0#32 : BitVec 32).toInt = 0 := by decide
  simp only [BitVec.slt, e, decide_eq_true_eq, z]
  have := @BitVec.toInt_eq_toNat_cond 32 a
  have z' : (0#32 : BitVec 32).toNat = 0 := by decide
  split <;> split <;> simp_all <;> split at this <;> omega

theorem min_lt (a : BitVec 32) (ha : a.toNat < 2 ^ 31) : (IntOp.minsi a 31#32).toNat < 32 := by
  unfold IntOp.minsi
  have e : (31#32 : BitVec 32).toInt = 31 := by decide
  have := Predicate.toInt_eq_toNat_of_lt ha
  simp only [BitVec.slt, e, decide_eq_true_eq]
  split
  · omega
  · decide

/-- The count of the starts up to an item, as a word. -/
theorem count_word (e : IVec S32 32) (Q : Nat → Nat → Prop) [∀ w, DecidablePred (Q w)] (w : Fin 160)
    (hQ : ∀ q : Fin 32, IntOp.cmpi .sle (e (ValueIdx.ix1 q)) (BitVec.ofNat 32 w.val) = 1#1 ↔ Q w.val q.val) :
    hEx0 e (ValueIdx.ix1 w) = IntOp.minsi (BitVec.ofNat 32 (Nat.count (Q w.val) 32)) 31#32 := by
  unfold hEx0
  show IntOp.minsi _ _ = _
  congr 1
  refine reduce_count (by decide) _ _ _ _ w (Q w.val) fun q => ?_
  rw [← hQ q]
  show IntOp.cmpi .sle _ _ = 1#1 ↔ _
  rw [bcCols, bcRows]; rfl

theorem hEx0_lt (e : IVec S32 32) (w : Fin 160) : (hEx0 e (ValueIdx.ix1 w)).toNat < 32 := by
  classical
  rw [count_word e (fun _ q => ∀ h : q < 32, IntOp.cmpi .sle (e (ValueIdx.ix1 ⟨q, h⟩)) (BitVec.ofNat 32 w.val) = 1#1) w
    (fun q => ⟨fun h _ => h, fun h => h q.isLt⟩)]
  refine min_lt _ ?_
  have := Nat.count_le (p := fun q => ∀ h : q < 32, IntOp.cmpi .sle (e (ValueIdx.ix1 ⟨q, h⟩)) (BitVec.ofNat 32 w.val) = 1#1) (n := 32)
  rw [BitVec.toNat_ofNat]; omega

theorem hRb0_lt (a b e : IVec S32 32) (w : Fin 160) : (hRb0 a b e (ValueIdx.ix1 w)).toNat < 128 := by
  unfold hRb0
  show (IntOp.minsi (BitVec.ofNat 32 127) (IntOp.maxsi 0#32 _)).toNat < 128
  exact Nat.lt_succ_of_le (clamp_lt _ 127 (by decide))

/-- What is taken is some entry. -/
theorem hTakeItem_some (v x : IVec S160 32) (t : Fin 160) : ∃ w : Fin 160, hTakeItem v x (ValueIdx.ix1 t) = v (ValueIdx.ix1 w) := by
  unfold hTakeItem
  rw [← ofFin_eq_ix1, Predicate.gather_take _ rfl rfl rfl rfl v _ t (by decide), ofFin_eq_ix1]
  exact ⟨_, rfl⟩

section Bounds
variable {F : FTy → Type} [FloatOps F]
variable (m : (ℓ : Loc nD τ sig) → Buf (Elt F) ℓ)

theorem rbT_lt (t : Fin 160) : (rbT m t).toNat < 128 := by
  rw [rbT_eq]
  obtain ⟨w, hw⟩ := hTakeItem_some (hRb0 (hFirst (cntV m)) (hPer (cntV m)) (hEnd (cntV m))) (hItem (hEnd (cntV m))) t
  rw [hw]; exact hRb0_lt _ _ _ w
theorem exT_lt (t : Fin 160) : (exT m t).toNat < 32 := by
  rw [exT_eq]
  obtain ⟨w, hw⟩ := hTakeItem_some (hEx0 (hEnd (cntV m))) (hItem (hEnd (cntV m))) t
  rw [hw]; exact hEx0_lt _ w

theorem ok_all : Ok m := ok_of m (rbT_lt m) (exT_lt m)
end Bounds

end Cert.ExpertsIdeal.Hand

end
-- ==== Proof.Exp.TabWords.lean ====
/- The experts' products: the tables' words for numbers of rows that fill the rows: the items of Items.lean. -/
module

public import proofs.«01_k».proof.Proof.Exp.Bounds
public import proofs.«01_k».proof.Proof.Exp.Items

@[expose] public section

set_option maxRecDepth 16384

noncomputable section

namespace Cert.ExpertsIdeal.Hand

open Cert.ExpertsIdeal Cert.ExpertsIdeal.Gen Cert.ExpertsIdeal.Facts
open Idealize.ShloMosaic Idealize.ShloMosaic.StableHlo Idealize.ShloMosaic.Routing
open Cert.ExpItems

/-! ## Values -/

theorem list_sum_range (f : ℕ → ℕ) (n : ℕ) : ((List.range n).map f).sum = ∑ i ∈ Finset.range n, f i := by
  induction n with
  | zero => rfl
  | succ n ih => rw [List.range_succ, List.map_append, List.sum_append, ih, Finset.sum_range_succ]; simp

/-- A vector of words holds the numbers of a function. -/
def Holds (x : IVec S32 32) (f : ℕ → ℕ) : Prop := ∀ e : Fin 32, x (ValueIdx.ix1 e) = BitVec.ofNat 32 (f e.val)

theorem hCum_holds {x : IVec S32 32} {f : ℕ → ℕ} (h : Holds x f) : Holds (hCum x) fun e => ∑ i ∈ Finset.range (e + 1), f i := fun e => by
  unfold hCum
  exact (cumsum1 (Nm1 := 31) rfl x f h _ rfl _ _ e).trans (by rw [list_sum_range])

theorem hDiv_at (v : IVec S32 32) (i : S32.Idx) (a : ℕ) (h : v i = BitVec.ofNat 32 a) (ha : a < 2 ^ 31) : hDiv v i = BitVec.ofNat 32 (a / 256) := by
  unfold hDiv
  exact pyDiv_ap bcast_S_S32 v (constantI S_ 32 256#32) i h rfl ha (by decide) (by decide)

variable {x : IVec S32 32} {C : ℕ → ℕ} (hx : Holds x C) (hs : off C 32 = 32768)
include hx

theorem hOff_holds : Holds (hOff x) (off C) := fun e => by
  unfold hOff
  show hCum x _ - x _ = _
  rw [hCum_holds hx e, hx e]
  dsimp only
  rw [Finset.sum_range_succ, ofNat32_sub (Nat.le_add_left _ _), Nat.add_sub_cancel]; rfl

include hs

theorem off_le {e : ℕ} (he : e ≤ 32) : off C e ≤ 32768 := hs ▸ off_mono C he

theorem C_le (e : ℕ) (he : e < 32) : off C e + C e ≤ 32768 := by
  rw [← off_succ]; exact off_le hx hs (by omega)

theorem hFirst_holds : Holds (hFirst x) fun e => off C e / 256 := fun e => by
  unfold hFirst
  exact hDiv_at _ _ _ (hOff_holds hx e) (by have := off_le hx hs (e := e.val) (by omega); omega)

theorem hPer_holds : Holds (hPer x) (per C) := fun e => by
  have hb := C_le hx hs e.val e.isLt
  unfold hPer
  show Scalar.select (IntOp.cmpi .sgt (x (ValueIdx.ix1 e)) 0#32) (hLast x (ValueIdx.ix1 e) - hFirst x (ValueIdx.ix1 e) + 1#32) 0#32 = _
  rw [hFirst_holds hx hs e]
  by_cases hc : 0 < C e.val
  · have hl : hLast x (ValueIdx.ix1 e) = BitVec.ofNat 32 ((off C (e.val + 1) - 1) / 256) := by
      unfold hLast
      refine hDiv_at _ _ _ ?_ (by rw [off_succ]; omega)
      show hOff x _ + x _ - 1#32 = _
      rw [hOff_holds hx e, hx e, BitVec.ofNat_add_ofNat, Predicate.sub_one_ofNat _ (by omega) (by omega), off_succ]
    have h1 : IntOp.cmpi .sgt (x (ValueIdx.ix1 e)) 0#32 = 1#1 := by
      rw [hx e, Predicate.sgt_iff_toNat (by rw [BitVec.toNat_ofNat]; omega) (by decide)]
      have hn : (BitVec.ofNat 32 (C e.val)).toNat = C e.val := by rw [BitVec.toNat_ofNat]; omega
      rw [hn]; exact hc
    rw [h1, hl, ofNat32_sub (Nat.div_le_div_right (by rw [off_succ]; omega)), show (1#32 : BitVec 32) = BitVec.ofNat 32 1 from rfl, BitVec.ofNat_add_ofNat]
    unfold per; rw [if_pos hc]; rfl
  · have h1 : IntOp.cmpi .sgt (x (ValueIdx.ix1 e)) 0#32 = 0#1 := by
      rw [hx e, Nat.eq_zero_of_not_pos hc]; decide
    rw [h1]
    unfold per; rw [if_neg hc]; rfl

theorem hEnd_holds : Holds (hEnd x) fun e => st C (e + 1) := hCum_holds (hPer_holds hx hs)

theorem st32_le : st C 32 ≤ 160 := by have := st_le C 32; omega
theorem st_le' {e : ℕ} (he : e ≤ 32) : st C e ≤ 160 := (st_mono C he).trans (st32_le hx hs)

theorem hEx0_val (w : Fin 160) (hw : w.val < st C 32) : hEx0 (hEnd x) (ValueIdx.ix1 w) = BitVec.ofNat 32 (ex C w.val) := by
  rw [count_word (hEnd x) (fun w q => st C (q + 1) ≤ w) w fun q => by
    have := st_le' hx hs (e := q.val + 1) (by omega)
    rw [hEnd_holds hx hs q]
    dsimp only
    rw [Predicate.sle_iff_toNat (by rw [BitVec.toNat_ofNat]; omega) (by rw [BitVec.toNat_ofNat]; omega), BitVec.toNat_ofNat, BitVec.toNat_ofNat,
      Nat.mod_eq_of_lt (by omega), Nat.mod_eq_of_lt (by omega)]]
  have h := (ex_spec C hw).1
  show IntOp.minsi (BitVec.ofNat 32 (ex C w.val)) (BitVec.ofNat 32 31) = _
  unfold IntOp.minsi
  rw [slt_ofNat32 (by omega) (by decide)]
  by_cases h1 : ex C w.val < 31
  · simp [h1]
  · have : ex C w.val = 31 := by omega
    simp [this]

omit hx hs in
/-- An index vector at an entry that is not negative. -/
theorem hWrap_at (k : BitVec 32) (v : IVec S160 32) (t : Fin 160) (a : ℕ) (ha : a < 2 ^ 31) (h : v (ValueIdx.ix1 t) = BitVec.ofNat 32 a) :
    hWrap k v (ValueIdx.ix2 t (0 : Fin 1)) = BitVec.ofNat 32 a := by
  unfold hWrap
  rw [bcCol]
  show Scalar.select (IntOp.cmpi .slt (v (ValueIdx.ix1 t)) 0#32) _ (v (ValueIdx.ix1 t)) = _
  have h1 : IntOp.cmpi .slt (v (ValueIdx.ix1 t)) 0#32 = 0#1 := by
    rw [h]; unfold IntOp.cmpi
    show BitVec.ofBool ((BitVec.ofNat 32 a).slt (BitVec.ofNat 32 0)) = _
    rw [slt_ofNat32 ha (by decide)]; simp
  rw [h1, h]; rfl

omit hx hs in
theorem hTake_at (f : IVec S32 32) (v : IVec S160 32) (t : Fin 160) (e : Fin 32) (h : v (ValueIdx.ix1 t) = BitVec.ofNat 32 e.val) :
    hTake f v (ValueIdx.ix1 t) = f (ValueIdx.ix1 e) :=
  gather_take1 _ rfl rfl rfl rfl f _ t e (hWrap_at _ v t e.val (by omega) h) (by decide)

omit hx hs in
theorem hTakeItem_at (f : IVec S160 32) (v : IVec S160 32) (t : Fin 160) (e : Fin 160) (h : v (ValueIdx.ix1 t) = BitVec.ofNat 32 e.val) :
    hTakeItem f v (ValueIdx.ix1 t) = f (ValueIdx.ix1 e) :=
  gather_take1 _ rfl rfl rfl rfl f _ t e (hWrap_at _ v t e.val (by omega) h) (by decide)

theorem rb_lt' {w : ℕ} (hw : w < st C 32) : rb C w ≤ 127 := by
  have h := rb_le C hw
  have := off_le hx hs (e := ex C w + 1) (by have := (ex_spec C hw).1; omega)
  omega

theorem hRb0_val (w : Fin 160) (hw : w.val < st C 32) : hRb0 (hFirst x) (hPer x) (hEnd x) (ValueIdx.ix1 w) = BitVec.ofNat 32 (rb C w.val) := by
  obtain ⟨hk, h1, h2⟩ := ex_spec C hw
  have hle := rb_lt' hx hs hw
  unfold hRb0
  show IntOp.minsi (BitVec.ofNat 32 127) (IntOp.maxsi 0#32 (hTake (hFirst x) (hEx0 (hEnd x)) (ValueIdx.ix1 w) + (BitVec.ofNat 32 w.val - hTake (subi (hEnd x) (hPer x)) (hEx0 (hEnd x)) (ValueIdx.ix1 w)))) = _
  rw [hTake_at _ _ w ⟨ex C w.val, hk⟩ (hEx0_val hx hs w hw), hTake_at _ _ w ⟨ex C w.val, hk⟩ (hEx0_val hx hs w hw), hFirst_holds hx hs]
  have hsub : subi (hEnd x) (hPer x) (ValueIdx.ix1 ⟨ex C w.val, hk⟩) = BitVec.ofNat 32 (st C (ex C w.val)) := by
    show hEnd x _ - hPer x _ = _
    rw [hEnd_holds hx hs, hPer_holds hx hs]
    dsimp only
    rw [st_succ, ofNat32_sub (Nat.le_add_left _ _), Nat.add_sub_cancel]
  rw [hsub, ofNat32_sub h1, BitVec.ofNat_add_ofNat]
  show IntOp.minsi (BitVec.ofNat 32 127) (IntOp.maxsi 0#32 (BitVec.ofNat 32 (rb C w.val))) = _
  rw [maxsi_zero_left (by omega)]
  unfold IntOp.minsi
  rw [slt_ofNat32 (by decide) (by omega)]
  simp; omega

theorem hN_val : hN (hEnd x) (ValueIdx.ix1 (0 : Fin 1)) = BitVec.ofNat 32 (st C 32) := by
  unfold hN
  refine (slice1 31 (hEnd x) _ (0 : Fin 1) (by decide)).trans ?_
  exact hEnd_holds hx hs ⟨31, by decide⟩

/-- The item of a grid point: the last one once they are used up. -/
theorem hItem_val (t : Fin 160) : hItem (hEnd x) (ValueIdx.ix1 t) = BitVec.ofNat 32 (min t.val (st C 32 - 1)) := by
  have hp := st_pos C (by omega)
  have hle := st32_le hx hs
  unfold hItem
  show IntOp.minsi (BitVec.ofNat 32 t.val) (shapeCast S_ (hN (hEnd x)) shapeCasts_S1_S_ _ - 1#32) = _
  have e : ∀ i, shapeCast S_ (hN (hEnd x)) shapeCasts_S1_S_ i = BitVec.ofNat 32 (st C 32) := fun i => by
    have h1 : ∀ j : S1.Idx, hN (hEnd x) j = BitVec.ofNat 32 (st C 32) := fun j => by
      rw [← hN_val hx hs]
      refine congrArg _ (funext fun a => Fin.ext ?_)
      have ha : a = (0 : Fin 1) := Subsingleton.elim (α := Fin 1) _ _
      subst ha
      exact (Nat.lt_one_iff.mp (j (0 : Fin 1)).isLt).trans (Nat.lt_one_iff.mp (ValueIdx.ix1 (0 : Fin 1) (0 : Fin 1)).isLt).symm
    exact h1 _
  rw [e, Predicate.sub_one_ofNat _ (by omega) (by omega)]
  unfold IntOp.minsi
  rw [slt_ofNat32 (by omega) (by omega)]
  by_cases h1 : t.val < st C 32 - 1
  · rw [if_pos (decide_eq_true h1), Nat.min_eq_left h1.le]
  · rw [if_neg (by simpa using h1), Nat.min_eq_right (not_lt.mp h1)]

end Cert.ExpertsIdeal.Hand

end
-- ==== Proof.Exp.BodyVal.lean ====
/- The experts' products: what the body stores, entry by entry, over the extended reals. -/
module

public import proofs.«01_k».proof.Proof.Exp.Body
public import proofs.«01_k».proof.Proof.Exp.Spec
public import Idealize.ShloMosaic.Lib.StableHlo.Predicate

@[expose] public section

set_option maxRecDepth 16384

noncomputable section

namespace Cert.ExpertsIdeal.Hand

open Cert.ExpertsIdeal Cert.ExpertsIdeal.Gen
open Idealize.ShloMosaic Idealize.ShloMosaic.StableHlo
open Cert.ExpItems

/-- An index of four coordinates, the first two on axes of one place. -/
def ixW {n k : Nat} (i : Fin n) (j : Fin k) : (⟨4, ![1, 1, n, k]⟩ : Shape).Idx := fun a => match a with
  | ⟨0, _⟩ => ⟨0, Nat.one_pos⟩
  | ⟨1, _⟩ => ⟨0, Nat.one_pos⟩
  | ⟨2, _⟩ => i
  | ⟨3, _⟩ => j

theorem drop2 {α : Type} {n k : Nat} (v : (⟨4, ![1, 1, n, k]⟩ : Shape).Idx → α) (h : (⟨4, ![1, 1, n, k]⟩ : Shape).ShapeCasts ⟨2, ![n, k]⟩) (i : Fin n) (j : Fin k) :
    shapeCast ⟨2, ![n, k]⟩ v h (ValueIdx.ix2 i j) = v (ixW i j) :=
  shapeCast_apply v h _ _ (by
    rw [Shape.rowMajor_val_four, Shape.rowMajor_val_two]
    show ((0 * 1 + 0) * n + i.val) * k + j.val = i.val * k + j.val
    simp)

theorem pay4_at (v : Vec Ideal S1x1x1024x512 .f32) (k : Fin 1024) (f : Fin 512) : k0_pay4 v (ValueIdx.ix2 k f) = v (ixW k f) := by
  unfold k0_pay4
  simp only [shapeCast_self, ValueIdx.truncf_apply]
  exact drop2 v _ k f
theorem pay5_at (v : Vec Ideal S1x1x1024x512 .f32) (k : Fin 1024) (f : Fin 512) : k0_pay5 v (ValueIdx.ix2 k f) = v (ixW k f) := by
  unfold k0_pay5
  simp only [shapeCast_self, ValueIdx.truncf_apply]
  exact drop2 v _ k f
theorem pay6_at (v : Vec Ideal S1x1x512x1024 .f32) (f : Fin 512) (j : Fin 1024) : k0_pay6 v (ValueIdx.ix2 f j) = v (ixW f j) := by
  unfold k0_pay6
  simp only [shapeCast_self, ValueIdx.truncf_apply]
  exact drop2 v _ f j

/-- The product of a row block with the weights held. -/
theorem yOf_at (x : Vec Ideal S256x1024 .f32) (g u : Vec Ideal S1024x512 .bf16) (d : Vec Ideal S512x1024 .bf16) (r : Fin 256) (j : Fin 1024) :
    yOf x g u d (ValueIdx.ix2 r j) = out (fun k => x (ValueIdx.ix2 r k)) (fun k f => g (ValueIdx.ix2 k f)) (fun k f => u (ValueIdx.ix2 k f)) (fun f j => d (ValueIdx.ix2 f j)) j := by
  unfold yOf k0_pay7
  rw [MemAttnProof.mm dot_S256x512_S512x1024_S256x1024_1_0_0_1_n_n rfl]
  unfold out
  refine Finset.sum_congr rfl fun f _ => congrArg (· * _) ?_
  rw [ValueIdx.truncf_apply]
  have hg (w : FVec Ideal S1024x512 .bf16) : matmul dot_S256x1024_S1024x512_S256x512_1_0_0_1_n_n none (truncf .bf16 x bitsLt_bf16_f32 : FVec Ideal S256x1024 .bf16) w (constant S256x512 .f32 0x00000000#32) (ValueIdx.ix2 r f)
      = ∑ k : Fin 1024, x (ValueIdx.ix2 r k) * w (ValueIdx.ix2 k f) := by
    rw [MemAttnProof.mm dot_S256x1024_S1024x512_S256x512_1_0_0_1_n_n rfl]
    simp only [ValueIdx.truncf_apply]
  unfold hid
  rw [← hg g, ← hg u]
  unfold sg
  rw [← one_word, ← zero_sub, ← zero_word]
  rfl

theorem and_one (a b : BitVec 1) : a &&& b = 1#1 ↔ a = 1#1 ∧ b = 1#1 := by revert a b; decide

theorem row_at (b y : ℕ) (hb : b < 128) (hy : y < 256) : BitVec.ofNat 32 b * 256#32 + BitVec.ofNat 32 y = BitVec.ofNat 32 (256 * b + y) := by
  apply BitVec.eq_of_toNat_eq
  simp only [BitVec.toNat_add, BitVec.toNat_mul, BitVec.toNat_ofNat]
  omega

/-- The rows of the block that are the expert's. -/
theorem mine_at (b o n : ℕ) (hb : b < 128) (hon : o + n ≤ 32768) (y : Fin 256) :
    k0_pay1 (F := Ideal) (k0_pay8 (F := Ideal) (BitVec.ofNat 32 b)) (k0_pay9 (F := Ideal) (BitVec.ofNat 32 b) (BitVec.ofNat 32 o)) (BitVec.ofNat 32 o) (BitVec.ofNat 32 n) (ValueIdx.ix2 y (0 : Fin 1)) = 1#1
      ↔ o ≤ 256 * b + y.val ∧ 256 * b + y.val < o + n := by
  have e8 : k0_pay8 (F := Ideal) (BitVec.ofNat 32 b) (ValueIdx.ix2 y (0 : Fin 1)) = BitVec.ofNat 32 (256 * b + y.val) := by
    unfold k0_pay8
    show BitVec.ofNat 32 b * 256#32 + iota .tc S256x1 32 [0] iota_S256x1_d0_w32 (ValueIdx.ix2 y (0 : Fin 1)) = _
    rw [iota_single_apply]
    exact row_at b y.val hb y.isLt
  have tn (a : ℕ) (ha : a < 2 ^ 31) : (BitVec.ofNat 32 a).toNat = a := by rw [BitVec.toNat_ofNat]; omega
  unfold k0_pay1 k0_pay9
  show IntOp.cmpi .sge (k0_pay8 (F := Ideal) (BitVec.ofNat 32 b) (ValueIdx.ix2 y (0 : Fin 1))) (BitVec.ofNat 32 o)
    &&& IntOp.cmpi .slt (k0_pay8 (F := Ideal) (BitVec.ofNat 32 b) (ValueIdx.ix2 y (0 : Fin 1))) (BitVec.ofNat 32 o + BitVec.ofNat 32 n) = 1#1 ↔ _
  rw [e8, BitVec.ofNat_add_ofNat, and_one, Predicate.sge_iff_toNat (by rw [tn _ (by omega)]; omega) (by rw [tn _ (by omega)]; omega),
    Predicate.slt_iff_toNat (by rw [tn _ (by omega)]; omega) (by rw [tn _ (by omega)]; omega), tn _ (by omega), tn _ (by omega), tn _ (by omega)]

theorem pay2_at (v : FVec Ideal S256x1024 .f32) (b o n : ℕ) (hb : b < 128) (hon : o + n ≤ 32768) (y : Fin 256) (j : Fin 1024) :
    k0_pay2 v (k0_pay8 (F := Ideal) (BitVec.ofNat 32 b)) (k0_pay9 (F := Ideal) (BitVec.ofNat 32 b) (BitVec.ofNat 32 o)) (BitVec.ofNat 32 o) (BitVec.ofNat 32 n) (ValueIdx.ix2 y j)
      = if o ≤ 256 * b + y.val ∧ 256 * b + y.val < o + n then v (ValueIdx.ix2 y j) else 0 := by
  rw [← zero_word]
  have h := mine_at b o n hb hon y
  unfold k0_pay2
  simp only [shapeCast_self]
  show Scalar.select (broadcastTo S256x1024 _ _ (ValueIdx.ix2 y j)) _ _ = _
  rw [MemAttnProof.bcol]
  unfold Scalar.select
  by_cases hc : o ≤ 256 * b + y.val ∧ 256 * b + y.val < o + n
  · rw [if_pos hc]; exact if_pos (h.mpr hc)
  · rw [if_neg hc]; exact if_neg (mt h.mp hc)

theorem pay3_at (v : FVec Ideal S256x1024 .f32) (Y : Vec Ideal S256x1024 .f32) (b o n : ℕ) (hb : b < 128) (hon : o + n ≤ 32768) (y : Fin 256) (j : Fin 1024) :
    k0_pay3 v (k0_pay8 (F := Ideal) (BitVec.ofNat 32 b)) (k0_pay9 (F := Ideal) (BitVec.ofNat 32 b) (BitVec.ofNat 32 o)) (BitVec.ofNat 32 o) (BitVec.ofNat 32 n) Y (ValueIdx.ix2 y j)
      = if o ≤ 256 * b + y.val ∧ 256 * b + y.val < o + n then v (ValueIdx.ix2 y j) else Y (ValueIdx.ix2 y j) := by
  have h := mine_at b o n hb hon y
  unfold k0_pay3
  simp only [shapeCast_self]
  show Scalar.select (broadcastTo S256x1024 _ _ (ValueIdx.ix2 y j)) _ _ = _
  rw [MemAttnProof.bcol]
  unfold Scalar.select
  by_cases hc : o ≤ 256 * b + y.val ∧ 256 * b + y.val < o + n
  · rw [if_pos hc]; exact if_pos (h.mpr hc)
  · rw [if_neg hc]; exact if_neg (mt h.mp hc)

end Cert.ExpertsIdeal.Hand

end
-- ==== Proof.Exp.BlkVal.lean ====
/- The experts' products: the arrays the region finds and the blocks it takes of them, entry by entry. -/
module

public import proofs.«01_k».proof.Proof.Exp.Run
public import proofs.«01_k».proof.Proof.Exp.TabWords
public import proofs.«01_k».proof.Proof.Exp.BodyVal

@[expose] public section

set_option maxRecDepth 16384

noncomputable section

namespace Cert.ExpertsIdeal.Hand

open Cert.ExpertsIdeal Cert.ExpertsIdeal.Gen Cert.ExpertsIdeal.Facts
open Idealize.ShloMosaic Idealize.ShloMosaic.StableHlo Idealize.ShloMosaic.TcCoe
open Cert.ExpItems

section Reads
variable (s : Valuation τ sig (Elt Ideal))

theorem C_v43 : after hostOps0_10 s (Proc.devRef .tc main_v43) = (broadcastInDim S1x32x1024x512 ![1, 2, 3] bcast_S32x1024x512_S1x32x1024x512_1_2_3 (s (Proc.devRef .tc main_arg2)) : FVec Ideal S1x32x1024x512 .f32) := by
  unfold hostOps0_10
  after_reads_simp; try rfl
theorem C_v44 : after hostOps0_10 s (Proc.devRef .tc main_v44) = (broadcastInDim S1x32x1024x512 ![1, 2, 3] bcast_S32x1024x512_S1x32x1024x512_1_2_3 (s (Proc.devRef .tc main_arg3)) : FVec Ideal S1x32x1024x512 .f32) := by
  unfold hostOps0_10
  after_reads_simp; try rfl
theorem C_v45 : after hostOps0_10 s (Proc.devRef .tc main_v45) = (broadcastInDim S1x32x512x1024 ![1, 2, 3] bcast_S32x512x1024_S1x32x512x1024_1_2_3 (s (Proc.devRef .tc main_arg4)) : FVec Ideal S1x32x512x1024 .f32) := by
  unfold hostOps0_10
  after_reads_simp; try rfl
theorem C_arg2 : after hostOps0_10 s (Proc.devRef .tc main_arg2) = s (Proc.devRef .tc main_arg2) := by
  unfold hostOps0_10
  after_reads_simp; try rfl
theorem C_arg3 : after hostOps0_10 s (Proc.devRef .tc main_arg3) = s (Proc.devRef .tc main_arg3) := by
  unfold hostOps0_10
  after_reads_simp; try rfl
theorem C_arg4 : after hostOps0_10 s (Proc.devRef .tc main_arg4) = s (Proc.devRef .tc main_arg4) := by
  unfold hostOps0_10
  after_reads_simp; try rfl
end Reads

variable (m : (ℓ : Loc nD τ sig) → Buf (Elt Ideal) ℓ) (c : Dev nD)

abbrev aX : Vec Ideal S32768x1024 .f32 := m ((c : Thread nD τ).loc main_arg0)
abbrev aG : Vec Ideal S32x1024x512 .f32 := m ((c : Thread nD τ).loc main_arg2)
abbrev aU : Vec Ideal S32x1024x512 .f32 := m ((c : Thread nD τ).loc main_arg3)
abbrev aD : Vec Ideal S32x512x1024 .f32 := m ((c : Thread nD τ).loc main_arg4)

theorem V_v43 : V m c main_v43 = (broadcastInDim S1x32x1024x512 ![1, 2, 3] bcast_S32x1024x512_S1x32x1024x512_1_2_3 (aG m c) : FVec Ideal S1x32x1024x512 .f32) := by
  have h := V_main_arg2 m c
  rw [V_split, C_arg2] at h
  rw [V_split, C_v43, h]
theorem V_v44 : V m c main_v44 = (broadcastInDim S1x32x1024x512 ![1, 2, 3] bcast_S32x1024x512_S1x32x1024x512_1_2_3 (aU m c) : FVec Ideal S1x32x1024x512 .f32) := by
  have h := V_main_arg3 m c
  rw [V_split, C_arg3] at h
  rw [V_split, C_v44, h]
theorem V_v45 : V m c main_v45 = (broadcastInDim S1x32x512x1024 ![1, 2, 3] bcast_S32x512x1024_S1x32x512x1024_1_2_3 (aD m c) : FVec Ideal S1x32x512x1024 .f32) := by
  have h := V_main_arg4 m c
  rw [V_split, C_arg4] at h
  rw [V_split, C_v45, h]

/-- An index of the weights with their leading axis. -/
def ixL {n k : Nat} (e : Fin 32) (i : Fin n) (j : Fin k) : (⟨4, ![1, 32, n, k]⟩ : Shape).Idx := fun a => match a with
  | ⟨0, _⟩ => ⟨0, Nat.one_pos⟩
  | ⟨1, _⟩ => e
  | ⟨2, _⟩ => i
  | ⟨3, _⟩ => j

theorem lead1 (v : S32x1024x512.Idx → EReal) (e : Fin 32) (i : Fin 1024) (j : Fin 512) :
    broadcastInDim S1x32x1024x512 ![1, 2, 3] bcast_S32x1024x512_S1x32x1024x512_1_2_3 v (ixL e i j) = v (ValueIdx.ix3 e i j) :=
  broadcastInDim_apply _ bcast_S32x1024x512_S1x32x1024x512_1_2_3 v _ _ fun a => match a with
    | ⟨0, _⟩ => by show e.val = if (32 : Nat) = 1 then 0 else e.val; rw [if_neg (by decide)]
    | ⟨1, _⟩ => by show i.val = if (1024 : Nat) = 1 then 0 else i.val; rw [if_neg (by decide)]
    | ⟨2, _⟩ => by show j.val = if (512 : Nat) = 1 then 0 else j.val; rw [if_neg (by decide)]
theorem lead2 (v : S32x512x1024.Idx → EReal) (e : Fin 32) (i : Fin 512) (j : Fin 1024) :
    broadcastInDim S1x32x512x1024 ![1, 2, 3] bcast_S32x512x1024_S1x32x512x1024_1_2_3 v (ixL e i j) = v (ValueIdx.ix3 e i j) :=
  broadcastInDim_apply _ bcast_S32x512x1024_S1x32x512x1024_1_2_3 v _ _ fun a => match a with
    | ⟨0, _⟩ => by show e.val = if (32 : Nat) = 1 then 0 else e.val; rw [if_neg (by decide)]
    | ⟨1, _⟩ => by show i.val = if (512 : Nat) = 1 then 0 else i.val; rw [if_neg (by decide)]
    | ⟨2, _⟩ => by show j.val = if (1024 : Nat) = 1 then 0 else j.val; rw [if_neg (by decide)]

attribute [local irreducible] tbl exT rbT nT offT cntT

variable (hO : Ok m) (t : Fin 160)

/-- A row of a row block. -/
def rowOf (b : ℕ) (hb : b < 128) (y : Fin 256) : Fin 32768 := ⟨256 * b + y.val, by omega⟩

theorem xBlk_at (b : ℕ) (hb : b < 128) (hr : (rbT m t).toNat = b) (y : Fin 256) (k : Fin 1024) : xBlk m hO c t (ValueIdx.ix2 y k) = aX m c (ValueIdx.ix2 (rowOf b hb y) k) := by
  have he : (((cfgM m hO).win 0).blk (pt m hO t)).view.emb (ValueIdx.ix2 y k) = ValueIdx.ix2 (rowOf b hb y) k := by
    have e := idx0_eq m hO t
    rw [hr] at e
    funext a; apply Fin.ext
    match a with
    | ⟨0, _⟩ => show ((cfgM m hO).win 0).index (pt m hO t) (0 : Fin 2) * 256 + 1 * y.val = 256 * b + y.val; rw [e]; show b * 256 + 1 * y.val = _; omega
    | ⟨1, _⟩ => show ((cfgM m hO).win 0).index (pt m hO t) (1 : Fin 2) * 1024 + 1 * k.val = k.val; rw [e]; show 0 * 1024 + 1 * k.val = _; omega
  show V m c main_arg0 ((((cfgM m hO).win 0).blk (pt m hO t)).view.emb (ValueIdx.ix2 y k)) = _
  rw [he, V_main_arg0]

theorem gBlk_at (e : Fin 32) (hr : (exT m t).toNat = e.val) (k : Fin 1024) (f : Fin 512) : gBlk m hO c t (ixW k f) = aG m c (ValueIdx.ix3 e k f) := by
  have he : (((cfgM m hO).win 1).blk (pt m hO t)).view.emb (ixW k f) = ixL e k f := by
    have e' := idx1_eq m hO t
    rw [hr] at e'
    funext a; apply Fin.ext
    match a with
    | ⟨0, _⟩ => show ((cfgM m hO).win 1).index (pt m hO t) (0 : Fin 4) * 1 + 1 * 0 = 0; rw [e']; rfl
    | ⟨1, _⟩ => show ((cfgM m hO).win 1).index (pt m hO t) (1 : Fin 4) * 1 + 1 * 0 = e.val; rw [e']; show e.val * 1 + 1 * 0 = _; omega
    | ⟨2, _⟩ => show ((cfgM m hO).win 1).index (pt m hO t) (2 : Fin 4) * 1024 + 1 * k.val = k.val; rw [e']; show 0 * 1024 + 1 * k.val = _; omega
    | ⟨3, _⟩ => show ((cfgM m hO).win 1).index (pt m hO t) (3 : Fin 4) * 512 + 1 * f.val = f.val; rw [e']; show 0 * 512 + 1 * f.val = _; omega
  show V m c main_v43 ((((cfgM m hO).win 1).blk (pt m hO t)).view.emb (ixW k f)) = _
  rw [he, V_v43]; exact lead1 _ e k f

theorem uBlk_at (e : Fin 32) (hr : (exT m t).toNat = e.val) (k : Fin 1024) (f : Fin 512) : uBlk m hO c t (ixW k f) = aU m c (ValueIdx.ix3 e k f) := by
  have he : (((cfgM m hO).win 2).blk (pt m hO t)).view.emb (ixW k f) = ixL e k f := by
    have e' := idx2_eq m hO t
    rw [hr] at e'
    funext a; apply Fin.ext
    match a with
    | ⟨0, _⟩ => show ((cfgM m hO).win 2).index (pt m hO t) (0 : Fin 4) * 1 + 1 * 0 = 0; rw [e']; rfl
    | ⟨1, _⟩ => show ((cfgM m hO).win 2).index (pt m hO t) (1 : Fin 4) * 1 + 1 * 0 = e.val; rw [e']; show e.val * 1 + 1 * 0 = _; omega
    | ⟨2, _⟩ => show ((cfgM m hO).win 2).index (pt m hO t) (2 : Fin 4) * 1024 + 1 * k.val = k.val; rw [e']; show 0 * 1024 + 1 * k.val = _; omega
    | ⟨3, _⟩ => show ((cfgM m hO).win 2).index (pt m hO t) (3 : Fin 4) * 512 + 1 * f.val = f.val; rw [e']; show 0 * 512 + 1 * f.val = _; omega
  show V m c main_v44 ((((cfgM m hO).win 2).blk (pt m hO t)).view.emb (ixW k f)) = _
  rw [he, V_v44]; exact lead1 _ e k f

theorem dBlk_at (e : Fin 32) (hr : (exT m t).toNat = e.val) (f : Fin 512) (j : Fin 1024) : dBlk m hO c t (ixW f j) = aD m c (ValueIdx.ix3 e f j) := by
  have he : (((cfgM m hO).win 3).blk (pt m hO t)).view.emb (ixW f j) = ixL e f j := by
    have e' := idx3_eq m hO t
    rw [hr] at e'
    funext a; apply Fin.ext
    match a with
    | ⟨0, _⟩ => show ((cfgM m hO).win 3).index (pt m hO t) (0 : Fin 4) * 1 + 1 * 0 = 0; rw [e']; rfl
    | ⟨1, _⟩ => show ((cfgM m hO).win 3).index (pt m hO t) (1 : Fin 4) * 1 + 1 * 0 = e.val; rw [e']; show e.val * 1 + 1 * 0 = _; omega
    | ⟨2, _⟩ => show ((cfgM m hO).win 3).index (pt m hO t) (2 : Fin 4) * 512 + 1 * f.val = f.val; rw [e']; show 0 * 512 + 1 * f.val = _; omega
    | ⟨3, _⟩ => show ((cfgM m hO).win 3).index (pt m hO t) (3 : Fin 4) * 1024 + 1 * j.val = j.val; rw [e']; show 0 * 1024 + 1 * j.val = _; omega
  show V m c main_v45 ((((cfgM m hO).win 3).blk (pt m hO t)).view.emb (ixW f j)) = _
  rw [he, V_v45]; exact lead2 _ e f j

/-- The block's product under the item's expert. -/
theorem y_at (b : ℕ) (hb : b < 128) (hr : (rbT m t).toNat = b) (e : Fin 32) (he : (exT m t).toNat = e.val) (y : Fin 256) (j : Fin 1024) :
    yOf (xBlk m hO c t) (k0_pay4 (gBlk m hO c t)) (k0_pay5 (uBlk m hO c t)) (k0_pay6 (dBlk m hO c t)) (ValueIdx.ix2 y j)
      = ent (aX m c) (aG m c) (aU m c) (aD m c) e (rowOf b hb y) j := by
  rw [yOf_at]
  simp only [pay4_at, pay5_at, pay6_at, xBlk_at m c hO t b hb hr, gBlk_at m c hO t e he, uBlk_at m c hO t e he, dBlk_at m c hO t e he]
  rfl

/-- The place of an entry of the output's block in its array. -/
theorem out_emb (b : ℕ) (hb : b < 128) (hr : (rbT m t).toNat = b) (y : Fin 256) (j : Fin 1024) :
    (((cfgM m hO).win 4).blk (pt m hO t)).view.emb (ValueIdx.ix2 y j) = ValueIdx.ix2 (rowOf b hb y) j := by
  have e := idx4_eq m hO t
  rw [hr] at e
  funext a; apply Fin.ext
  match a with
  | ⟨0, _⟩ => show ((cfgM m hO).win 4).index (pt m hO t) (0 : Fin 2) * 256 + 1 * y.val = 256 * b + y.val; rw [e]; show b * 256 + 1 * y.val = _; omega
  | ⟨1, _⟩ => show ((cfgM m hO).win 4).index (pt m hO t) (1 : Fin 2) * 1024 + 1 * j.val = j.val; rw [e]; show 0 * 1024 + 1 * j.val = _; omega

end Cert.ExpertsIdeal.Hand

end
-- ==== Proof.Exp.Final.lean ====
/- The experts' products: the array the kernel leaves, for numbers of rows that fill the rows. By induction over the grid
   points the output's buffer holds the entries of every row of its block below the end of the item's expert. -/
module

public import proofs.«01_k».proof.Proof.Exp.BlkVal
public import Idealize.ShloMosaic.Lib.Pipeline.ValueKit
public import Idealize.ShloMosaic.Lib.Pipeline.ArrRel

@[expose] public section

set_option maxRecDepth 16384

noncomputable section

namespace Cert.ExpertsIdeal.Hand

open Cert.ExpertsIdeal Cert.ExpertsIdeal.Gen
open Idealize.ShloMosaic Idealize.ShloMosaic.StableHlo Idealize.ShloMosaic.TcCoe Idealize.SL.Sem
open Idealize.ShloMosaic.Pipeline (Dat RDat Cfg Window)
open Cert.ExpItems

attribute [local irreducible] tbl exT rbT nT offT cntT

theorem pair_of (n k : ℕ) (i : (⟨2, ![n, k]⟩ : Shape).Idx) : ∃ (r : Fin n) (j : Fin k), i = ValueIdx.ix2 r j := ⟨i 0, i 1, funext fun a => by
  match a with
  | ⟨0, _⟩ => rfl
  | ⟨1, _⟩ => rfl⟩

/-- The item of a grid point, as a number. -/
def wv (C : ℕ → ℕ) (t : ℕ) : ℕ := min t (st C 32 - 1)

variable (m : (ℓ : Loc nD τ sig) → Buf (Elt Ideal) ℓ) (c : Dev nD) (hO : Ok m)
variable {C : ℕ → ℕ} (hx : Holds (cntV m) C) (hs : off C 32 = 32768)

section Words
include hx hs

theorem N_pos : 0 < st C 32 := st_pos C (by omega)
theorem N_le : st C 32 ≤ 160 := st32_le hx hs
theorem wv_lt (t : ℕ) : wv C t < st C 32 := by have := N_pos m hx hs; unfold wv; omega

theorem rb_word (t : Fin 160) : rbT m t = BitVec.ofNat 32 (rb C (wv C t.val)) := by
  have h := N_le m hx hs
  rw [rbT_eq, hTakeItem_at _ _ t ⟨wv C t.val, by have := wv_lt m hx hs t.val; omega⟩ (hItem_val hx hs t)]
  exact hRb0_val hx hs _ (wv_lt m hx hs t.val)
theorem ex_word (t : Fin 160) : exT m t = BitVec.ofNat 32 (ex C (wv C t.val)) := by
  have h := N_le m hx hs
  rw [exT_eq, hTakeItem_at _ _ t ⟨wv C t.val, by have := wv_lt m hx hs t.val; omega⟩ (hItem_val hx hs t)]
  exact hEx0_val hx hs _ (wv_lt m hx hs t.val)
theorem n_word : (nT m).toInt = (st C 32 : Int) := by
  have h := N_le m hx hs
  rw [nT_eq, hN_val hx hs, Predicate.toInt_ofNat_small _ (by omega)]
theorem off_word (e : Fin 32) : offT m e = BitVec.ofNat 32 (off C e.val) := by rw [offT_eq]; exact hOff_holds hx e
theorem cnt_word (e : Fin 32) : cntT m e = BitVec.ofNat 32 (C e.val) := by rw [cntT_eq]; exact hx e

theorem rb_small (t : ℕ) : rb C (wv C t) < 128 := by have := rb_lt' hx hs (wv_lt m hx hs t); omega
theorem ex_small (t : ℕ) : ex C (wv C t) < 32 := (ex_spec C (wv_lt m hx hs t)).1

theorem rb_nat (t : Fin 160) : (rbT m t).toNat = rb C (wv C t.val) := by
  have := rb_small m hx hs t.val
  rw [rb_word m hx hs, BitVec.toNat_ofNat]; omega
theorem ex_nat (t : Fin 160) : (exT m t).toNat = ex C (wv C t.val) := by
  have := ex_small m hx hs t.val
  rw [ex_word m hx hs, BitVec.toNat_ofNat]; omega
theorem rb_eq_iff (t s : Fin 160) : rbT m t = rbT m s ↔ rb C (wv C t.val) = rb C (wv C s.val) := by
  rw [← rb_nat m hx hs, ← rb_nat m hx hs]
  exact ⟨fun h => by rw [h], fun h => BitVec.eq_of_toNat_eq h⟩
end Words

/-- The entry the kernel leaves for a row. -/
abbrev entry (C : ℕ → ℕ) (R : Fin 32768) (j : Fin 1024) : EReal := ent (aX m c) (aG m c) (aU m c) (aD m c) (eR C R.val) R j

/-- What the output's buffer holds after point `t`: the entries of the rows below the end of the item's expert. -/
def Inv (C : ℕ → ℕ) (t : ℕ) (X : Vec Ideal S256x1024 .f32) : Prop :=
  ∀ (y : Fin 256) (j : Fin 1024) (R : Fin 32768), R.val = 256 * rb C (wv C t) + y.val → R.val < off C (ex C (wv C t) + 1) → X (ValueIdx.ix2 y j) = entry m c C R j

include hx hs

theorem inv_step (t : Fin 160) (X Y : Vec Ideal S256x1024 .f32) (h : outRel m hO c t Y X)
    (hY : t.val ≠ 0 → rbT m (prv t) = rbT m t → Inv m c C (t.val - 1) Y) : Inv m c C t.val X := by
  have hN := N_pos m hx hs
  rcases h with ⟨hn, rfl⟩ | ⟨hn, e, he, h⟩
  · rw [n_word m hx hs] at hn
    have h1 : wv C (t.val - 1) = wv C t.val := by unfold wv; omega
    have h2 := hY (by omega) ((rb_eq_iff m hx hs _ _).mpr (congrArg (rb C) h1))
    unfold Inv at h2 ⊢
    rw [h1] at h2; exact h2
  · rw [n_word m hx hs] at hn
    have hw : wv C t.val = t.val := by unfold wv; omega
    have hlt : t.val < st C 32 := by omega
    obtain ⟨hk, hs1, hs2⟩ := ex_spec C hlt
    have he' : e.val = ex C t.val := by rw [← he, ex_nat m hx hs, hw]
    have hb : rb C t.val < 128 := by have := rb_small m hx hs t.val; rwa [hw] at this
    have hbn : (rbT m t).toNat = rb C t.val := by rw [rb_nat m hx hs, hw]
    have hbw : rbT m t = BitVec.ofNat 32 (rb C t.val) := by rw [rb_word m hx hs, hw]
    have hon := C_le hx hs (ex C t.val) hk
    rw [off_word m hx hs, cnt_word m hx hs, hbw, he'] at h
    intro y j R hR hRlt
    rw [hw] at hR hRlt
    have hRb : rowOf (rb C t.val) hb y = R := Fin.ext hR.symm
    have hin : off C (ex C t.val) ≤ R.val → ent (aX m c) (aG m c) (aU m c) (aD m c) e (rowOf (rb C t.val) hb y) j = entry m c C R j := fun h1 => by
      have h2 := exRow_of C hk h1 hRlt
      have h3 : e = eR C R.val := Fin.ext (by
        show e.val = min (exRow C R.val) 31
        rw [h2, he']; omega)
      rw [hRb, h3]
    rcases h with ⟨hf, rfl⟩ | ⟨hf, rfl⟩
    · rw [pay2_at _ _ _ _ hb hon]
      have hge : off C (ex C t.val) ≤ R.val := by
        rcases Nat.eq_zero_or_pos t.val with h0 | h0
        · rw [h0, (item_zero C hN).1]; exact Nat.zero_le _
        · have hne : rbT m (prv t) ≠ rbT m t := hf.resolve_left (by omega)
          rw [Ne, rb_eq_iff m hx hs, hw, show wv C (prv t).val = t.val - 1 by unfold wv; show min (t.val - 1) _ = _; omega] at hne
          obtain ⟨w, hw'⟩ : ∃ w, t.val = w + 1 := ⟨t.val - 1, by omega⟩
          rw [hw'] at hne hlt hR ⊢
          rw [Nat.add_sub_cancel] at hne
          have hle := le_rb C (w := w) (by omega)
          rcases item_succ C hlt with ⟨a1, a2⟩ | ⟨a1, a2, a3⟩
          · rw [a1]; omega
          · rw [a1]; omega
      rw [if_pos ⟨by omega, by rw [← off_succ]; omega⟩, y_at m c hO t _ hb hbn e he]
      exact hin hge
    · rw [pay3_at _ _ _ _ _ hb hon]
      by_cases hge : off C (ex C t.val) ≤ R.val
      · rw [if_pos ⟨by omega, by rw [← off_succ]; omega⟩, y_at m c hO t _ hb hbn e he]
        exact hin hge
      · rw [if_neg (by omega)]
        have h0 : t.val ≠ 0 := fun h => hf (.inl h)
        have heq : rbT m (prv t) = rbT m t := by by_contra h; exact hf (.inr h)
        have hI := hY h0 heq
        have hp : wv C (t.val - 1) = t.val - 1 := by unfold wv; omega
        rw [rb_eq_iff m hx hs, hw] at heq
        have hp' : wv C (prv t).val = t.val - 1 := hp
        rw [hp'] at heq
        unfold Inv at hI
        rw [hp] at hI
        refine hI y j R (by rw [heq]; exact hR) ?_
        obtain ⟨w, hw'⟩ : ∃ w, t.val = w + 1 := ⟨t.val - 1, by omega⟩
        rw [hw', Nat.add_sub_cancel] at heq ⊢
        rw [hw'] at hlt hge
        rcases item_succ C hlt with ⟨a1, a2⟩ | ⟨a1, a2, a3⟩
        · omega
        · rw [← a1]; omega

omit hx hs in
/-- When the block is written back: the next point has another, or there is none. -/
theorem flush_iff (t : Fin 160) : ((cfgM m hO).win 4).flush (pt m hO t) = true ↔ ∀ t' : Fin 160, t'.val = t.val + 1 → (rbT m t').toNat ≠ (rbT m t).toNat := by
  have hG : (cfgM m hO).grid.N = 160 := by show grid0.N = 160; decide
  have hi (u v : Fin 160) : ((cfgM m hO).win 4).index (pt m hO u) ≠ ((cfgM m hO).win 4).index (pt m hO v) ↔ (rbT m u).toNat ≠ (rbT m v).toNat := by
    rw [idx4_eq, idx4_eq]
    refine not_congr ⟨fun h => congrFun h 0, fun h => by rw [h]⟩
  have ho : ((cfgM m hO).win 4).isOut = true := rfl
  unfold Pipeline.Window.flush
  rw [ho, Bool.true_and, Bool.or_eq_true, decide_eq_true_eq, decide_eq_true_eq]
  constructor
  · rintro (h | ⟨h, h'⟩) t' ht'
    · exfalso
      have h2 : t.val + 1 = 160 := h.trans hG
      omega
    · refine (hi t' t).mp ?_
      have e : (⟨(pt m hO t).val + 1, h⟩ : Fin (cfgM m hO).grid.N) = pt m hO t' := Fin.ext (by show t.val + 1 = t'.val; omega)
      rw [e] at h'; exact h'
  · intro h
    by_cases h1 : t.val + 1 = 160
    · exact .inl (Eq.trans (show (pt m hO t).val + 1 = 160 from h1) hG.symm)
    · refine .inr ⟨lt_of_lt_of_eq (show (pt m hO t).val + 1 < 160 from by show t.val + 1 < 160; omega) hG.symm, ?_⟩
      exact (hi ⟨t.val + 1, by omega⟩ t).mpr (h _ rfl)

theorem inv_leaves (n : ℕ) : ∀ (t : Fin 160) (X : Vec Ideal S256x1024 .f32), t.val = n → (rdat m hO c).Leaves 4 (pt m hO t) X → Inv m c C t.val X := by
  induction n with
  | zero =>
    rintro t X ht ⟨Y, hF, ha⟩
    exact inv_step m c hO hx hs t X Y ((after4_iff m hO c _ _ _).mp ha) fun h => absurd ht h
  | succ n ih =>
    rintro t X ht ⟨Y, hF, ha⟩
    refine inv_step m c hO hx hs t X Y ((after4_iff m hO c _ _ _).mp ha) fun h0 heq => ?_
    have hp : (prv t).val = n := by show t.val - 1 = n; omega
    rcases ((rdat m hO c).finds_of_pos (((cfgM m hO).win 4).fetch_out rfl _) h0 Y).mp hF with hfl | hL
    · exact absurd (congrArg BitVec.toNat heq.symm) ((flush_iff m hO (prv t)).mp hfl t (by show t.val = t.val - 1 + 1; omega))
    · exact ih (prv t) Y hp hL

/-- At a point that writes its block back every row of the block lies below the end of the item's expert. -/
theorem flush_full (t : Fin 160) (hf : ((cfgM m hO).win 4).flush (pt m hO t) = true) (y : Fin 256) :
    256 * rb C (wv C t.val) + y.val < off C (ex C (wv C t.val) + 1) := by
  have hN := N_pos m hx hs
  have hle := N_le m hx hs
  by_cases h : t.val + 1 < st C 32
  · have hw : wv C t.val = t.val := by unfold wv; omega
    have hne := (flush_iff m hO t).mp hf ⟨t.val + 1, by omega⟩ rfl
    rw [rb_nat m hx hs, rb_nat m hx hs, hw] at hne
    have hw1 : wv C (t.val + 1) = t.val + 1 := by unfold wv; omega
    dsimp only at hne
    rw [hw1] at hne
    rw [hw]
    rcases item_succ C h with ⟨a1, a2⟩ | ⟨a1, a2, a3⟩
    · have := rb_le C h
      rw [a1] at this
      have := (item_spec C (w := t.val) (by omega)).1
      have := off_succ C (ex C t.val)
      omega
    · omega
  · have hw : wv C t.val = st C 32 - 1 := by unfold wv; omega
    obtain ⟨h1, h2⟩ := item_last C hN
    rw [hw, h1, h2, hs]; omega

/-- Every row block is written back at some point. -/
theorem flush_cover (k : ℕ) (hk : k < 128) : ∃ t : Fin 160, rb C (wv C t.val) = k ∧ ((cfgM m hO).win 4).flush (pt m hO t) = true := by
  have hN := N_pos m hx hs
  have hle := N_le m hx hs
  obtain ⟨h1, h2⟩ := item_last C hN
  obtain ⟨v, hv, e⟩ := hit C (w := st C 32 - 1) (by omega) k (by rw [h2, hs]; omega)
  have hp : rb C (wv C v) = k := by rw [show wv C v = v by unfold wv; omega]; exact e
  have hg := Nat.findGreatest_spec (P := fun t => rb C (wv C t) = k) (n := 159) (show v ≤ 159 by omega) hp
  have hgl := Nat.findGreatest_le (P := fun t => rb C (wv C t) = k) 159
  refine ⟨⟨Nat.findGreatest (fun t => rb C (wv C t) = k) 159, by omega⟩, hg, (flush_iff m hO _).mpr fun t' ht' => ?_⟩
  rw [rb_nat m hx hs, rb_nat m hx hs, hg]
  exact Nat.findGreatest_is_greatest (P := fun t => rb C (wv C t) = k) (n := 159) (k := t'.val) (by rw [ht']; exact Nat.lt_succ_self _) (by omega)

/-- The array the kernel leaves. -/
def Gout (C : ℕ → ℕ) : Vec Ideal S32768x1024 .f32 := fun i => entry m c C (i 0) (i 1)

theorem arr_final (A : Buf (Elt Ideal) (((cfgM m hO).win 4).arr.view.loc (c.tc : Thread nD τ))) (hA : (rdat m hO c).ArrAt 4 (cfgM m hO).N A) : A = Gout m c C := by
  obtain ⟨X, hX, hE⟩ := hA.exists_exact
  rw [hE (Function.update (fun _ _ _ => Classical.arbitrary _) 4 X) fun u _ _ => by rw [Function.update_self]]
  refine Dat.arrAt_eq_of_emb _ 4 _ (fun t hf y => ?_) fun i => ?_
  · obtain ⟨t, rfl⟩ : ∃ s : Fin 160, t = pt m hO s := ⟨tn m hO t, rfl⟩
    obtain ⟨y, j, rfl⟩ := pair_of 256 1024 y
    have hb := rb_small m hx hs t.val
    rw [out_emb m hO t _ hb (rb_nat m hx hs t), RDat.withAfter_after, Function.update_self]
    exact inv_leaves m c hO hx hs t.val t (X (pt m hO t)) rfl (hX _ (pt m hO t).isLt hf) y j (rowOf _ hb y) rfl (flush_full m hO hx hs t hf y)
  · obtain ⟨R, j, rfl⟩ := pair_of 32768 1024 i
    obtain ⟨t, ht, hf⟩ := flush_cover m hO hx hs (R.val / 256) (by omega)
    have hb := rb_small m hx hs t.val
    refine ⟨pt m hO t, hf, ?_⟩
    have e := out_emb m hO t _ hb (rb_nat m hx hs t) ⟨R.val % 256, by omega⟩ j
    have hR : rowOf (rb C (wv C t.val)) hb ⟨R.val % 256, by omega⟩ = R := Fin.ext (by show 256 * rb C (wv C t.val) + R.val % 256 = R.val; omega)
    rw [hR] at e
    rw [← e]
    exact View.emb_mem_set _ _

end Cert.ExpertsIdeal.Hand

end
-- ==== Proof.Exp.Decode.lean ====
/- The experts' products: what the precondition says of the numbers of rows, and the kernel's array against the
   reference's. -/
module

public import proofs.«01_k».proof.Defs
public import proofs.«01_k».proof.Proof.Gen.Pre_counts_fill_rows
public import proofs.«01_k».proof.Proof.Gen.ExpertsRefIdeal.Run
public import proofs.«01_k».proof.Proof.Exp.RefVal
public import proofs.«01_k».proof.Proof.Exp.Final

@[expose] public section

noncomputable section

namespace Cert.ExpertsIdeal.Hand

open Idealize.ShloMosaic Idealize.ShloMosaic.StableHlo Idealize.ShloMosaic.TcCoe Idealize.SL.Sem Idealize.ShloMosaic.Routing
open Cert.ExpItems

attribute [local irreducible] tbl exT rbT nT offT cntT

/-- A word that is, as a signed number, at least zero and at most the number of rows, is that number. -/
theorem word_small (w : BitVec 32) (h0 : IntOp.cmpi .sge w 0#32 = 1#1) (h1 : IntOp.cmpi .sle w 32768#32 = 1#1) : w.toNat ≤ 32768 := by
  have a : (0#32).sle w = true := by
    by_contra h
    rw [Bool.not_eq_true] at h
    simp [IntOp.cmpi, h] at h0
  have b : w.sle 32768#32 = true := by
    by_contra h
    rw [Bool.not_eq_true] at h
    simp [IntOp.cmpi, h] at h1
  rw [BitVec.sle_iff_toInt_le] at a b
  rw [BitVec.toInt_eq_toNat_cond] at a b
  have e : (32768#32 : BitVec 32).toInt = 32768 := by decide
  have e0 : (0#32 : BitVec 32).toNat = 0 := rfl
  rw [BitVec.toInt_eq_toNat_cond] at b
  have e1 : (32768#32 : BitVec 32).toNat = 32768 := rfl
  have e2 := w.isLt
  rw [e0, BitVec.toInt_eq_toNat_cond] at a
  split at a <;> split at a <;> split at b <;> split at b <;> omega

/-- The numbers of rows an array of counts holds. -/
def cnts (x : IVec S32 32) (e : ℕ) : ℕ := if h : e < 32 then (x (ValueIdx.ix1 ⟨e, h⟩)).toNat else 0

theorem cnts_holds (x : IVec S32 32) (e : Fin 32) : x (ValueIdx.ix1 e) = BitVec.ofNat 32 (cnts x e.val) := by
  unfold cnts
  rw [dif_pos e.isLt, BitVec.ofNat_toNat, BitVec.setWidth_eq]

theorem cnts_fill (a0 : Vec Ideal S32768x1024 .f32) (x : IVec S32 32) (a2 a3 : Vec Ideal S32x1024x512 .f32) (a4 : Vec Ideal S32x512x1024 .f32)
    (h : (Cert.Pre_counts_fill_rows.fn (F := Ideal) a0 x a2 a3 a4).1 = (fun _ => 1#1)
      ∧ (Cert.Pre_counts_fill_rows.fn (F := Ideal) a0 x a2 a3 a4).2.1 = (fun _ => 1#1)
      ∧ (Cert.Pre_counts_fill_rows.fn (F := Ideal) a0 x a2 a3 a4).2.2 = (fun _ => 1#1)) : off (cnts x) 32 = 32768 := by
  obtain ⟨h0, h1, h2⟩ := h
  have hs : ∀ e ∈ Finset.range 32, cnts x e ≤ 32768 := fun e he => by
    have he' := Finset.mem_range.mp he
    unfold cnts
    rw [dif_pos he']
    exact word_small _ (congrFun h0 (ValueIdx.ix1 ⟨e, he'⟩)) (congrFun h1 (ValueIdx.ix1 ⟨e, he'⟩))
  have hle : off (cnts x) 32 ≤ 32 * 32768 := by
    have t := Finset.sum_le_card_nsmul (Finset.range 32) (cnts x) 32768 hs
    rw [Finset.card_range, smul_eq_mul] at t
    exact t
  have hsum := reduce_sum (N := 32) x (cnts x) (cnts_holds x) Cert.Pre_counts_fill_rows.Facts.reducesTo_S32_S_d0 Cert.Pre_counts_fill_rows.Facts.h_S_
  have hw : BitVec.ofNat 32 (off (cnts x) 32) = 32768#32 := by
    have k := (Predicate.cmpi_eq_iff).mp (congrFun h2 ValueIdx.ix0)
    unfold off
    rw [← list_sum_range]
    exact hsum.symm.trans k
  have hn := congrArg BitVec.toNat hw
  rw [BitVec.toNat_ofNat, Nat.mod_eq_of_lt (by omega)] at hn
  exact hn

end Cert.ExpertsIdeal.Hand

namespace Cert.Proof

open Idealize.ShloMosaic Idealize.ShloMosaic.StableHlo Idealize.ShloMosaic.TcCoe Idealize.SL.Sem
open Cert.ExpertsIdeal.Hand

attribute [local irreducible] tbl exT rbT nT offT cntT

theorem frame_exp_ideal : Cert.quiescent_ExpertsIdeal := fun m ρ _ => frame_gen m ρ (ok_all m) (exT_lt m)

theorem frame_exp_ref : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The kernel leaves the entries of every row under its expert. -/
theorem run_exp (m : (ℓ : Loc Cert.ExpertsIdeal.nD Cert.ExpertsIdeal.τ Cert.ExpertsIdeal.sig) → Buf (Elt Ideal) ℓ) (ρ : Dev Cert.ExpertsIdeal.nD → PrngReg)
    {C : ℕ → ℕ} (hx : Holds (cntV m) C) (hs : Cert.ExpItems.off C 32 = 32768) :
    θ_run (Cert.ExpertsIdeal.defs (F := Ideal)) (onTc (τ := Cert.ExpertsIdeal.τ) (Cert.ExpertsIdeal.main (F := Ideal))) ⟨m, fun _ => 0, ρ⟩
      (fun r => ∀ c : Dev Cert.ExpertsIdeal.nD, r.2.mem ((c.tc : Thread Cert.ExpertsIdeal.nD Cert.ExpertsIdeal.τ).loc Cert.ExpertsIdeal.main_v65) = Gout m c C) :=
  (θ_run Cert.ExpertsIdeal.defs _ _).mono (fun r h c => arr_final m c (ok_all m) hx hs _ ((h.1 c).1 4)) (run_main m ρ (ok_all m) (exT_lt m))

theorem algebraic_exp : Cert.algebraic_ExpertsIdeal_ExpertsRefIdeal_pre_counts_fill_rows := by
  intro m ρ m' ρ' hpre hagree
  have hs : Cert.ExpItems.off (cnts (cntV m)) 32 = 32768 := cnts_fill _ _ _ _ _ (hpre 0)
  have hx : Holds (cntV m) (cnts (cntV m)) := cnts_holds _
  refine ⟨fun c => Gout m c (cnts (cntV m)), ?_, ?_⟩
  · exact (θ_run Cert.ExpertsIdeal.defs _ _).mono (fun r h c => ⟨h.1 c, h.2.1 c⟩)
      (θ_run_and (run_exp m ρ hx hs) (frame_gen m ρ (ok_all m) (exT_lt m)))
  · refine (θ_run Cert.ExpertsRefIdeal.defs _ _).mono (fun _ h c => ⟨(h c).1.trans ?_, (h c).2⟩)
      (Cert.ExpertsRefIdeal.Value.run (F := Ideal) m' ρ')
    obtain rfl : c = 0 := Subsingleton.elim _ _
    obtain ⟨e0, e1, e2, e3, e4⟩ := hagree 0
    refine (Cert.ExpertsRefIdeal.Read.val_main_v24_eq _ _ _ _ _).trans (Eq.trans (congr (congr (congr (congr (congrArg _ e0) e1) e2) e3) e4) ?_)
    funext i
    obtain ⟨r, j, rfl⟩ := pair_of 32768 1024 i
    exact Cert.ExpertsRefIdeal.Hand.ref_at _ _ _ _ _ hx hs r j

end Cert.Proof

end
-- ==== Proof.Exp.Part0.lean ====
/- The experts' two programs have the same text: the first part of the host function. -/
module

public import proofs.«01_k».proof.Defs
public import proofs.«01_k».proof.Proof.Gen.Experts.Launch
public import proofs.«01_k».proof.Proof.Gen.ExpertsIdeal.Launch

@[expose] public section

set_option maxHeartbeats 40000000

noncomputable section

namespace Cert.Proof

variable {F : Idealize.ShloMosaic.FTy → Type} [Idealize.ShloMosaic.FloatOps F]

/-- The first part of the host function is the same in both programs. -/
theorem part0_same : Cert.Experts.main_part0 (F := F) = Cert.ExpertsIdeal.main_part0 (F := F) := rfl

end Cert.Proof

end
-- ==== Proof.Exp.Part1.lean ====
/- The experts' two programs have the same text: the second part of the host function. -/
module

public import proofs.«01_k».proof.Defs
public import proofs.«01_k».proof.Proof.Gen.Experts.Launch
public import proofs.«01_k».proof.Proof.Gen.ExpertsIdeal.Launch

@[expose] public section

set_option maxHeartbeats 40000000

noncomputable section

namespace Cert.Proof

variable {F : Idealize.ShloMosaic.FTy → Type} [Idealize.ShloMosaic.FloatOps F]

/-- The second part of the host function is the same in both programs. -/
theorem part1_same : Cert.Experts.main_part1 (F := F) = Cert.ExpertsIdeal.main_part1 (F := F) := rfl

end Cert.Proof

end
-- ==== Proof.Exp.Same.lean ====
/- The experts' two programs have the same text, so the frame of the kernel as it is follows from the one run, taken at
   the floats of the machine. -/
module

public import proofs.«01_k».proof.Proof.Exp.Part0
public import proofs.«01_k».proof.Proof.Exp.Part1
public import proofs.«01_k».proof.Proof.Exp.Run
public import proofs.«01_k».proof.Proof.Exp.Bounds

@[expose] public section

set_option maxHeartbeats 40000000

noncomputable section

namespace Cert.Proof

open Idealize.ShloMosaic Idealize.ShloMosaic.TcCoe Idealize.SL.Sem

variable {F : FTy → Type} [FloatOps F]

/-- The kernels' bodies are the same in both programs. -/
theorem bodies_same : Cert.Experts.defs₀ (F := F) = Cert.ExpertsIdeal.defs₀ (F := F) := by
  unfold Cert.Experts.defs₀ Cert.ExpertsIdeal.defs₀
  refine congrArg _ ?_
  funext x
  obtain ⟨i, hi⟩ := x
  cases i with
  | zero => rfl
  | succ n => exact absurd hi (by omega)

theorem defs_same : Cert.Experts.defs (F := F) = Cert.ExpertsIdeal.defs (F := F) := congrArg (Pipeline.defs Cert.Experts.pcfgs) bodies_same

theorem bind_same {M : Type → Type 1} [Monad M] {a b : M PUnit} {f g : PUnit → M PUnit} (h : a = b) (k : ∀ x, f x = g x) : a >>= f = b >>= g := by
  rw [h, funext k]

/-- The host function is the same in both programs. -/
theorem main_same : Cert.Experts.main (F := F) = Cert.ExpertsIdeal.main (F := F) := by
  unfold Cert.Experts.main Cert.ExpertsIdeal.main
  funext d
  exact bind_same (congrFun part0_same d) fun _ => congrFun part1_same d

open Cert.ExpertsIdeal.Hand in
theorem frame_exp : Cert.quiescent_Experts := fun m ρ _ =>
  Eq.subst (motive := fun d => θ_run d (onTc (Cert.Experts.main (F := Bits))) ⟨m, fun _ => 0, ρ⟩ _) defs_same.symm
    (Eq.subst (motive := fun p => θ_run (Cert.ExpertsIdeal.defs (F := Bits)) (onTc p) ⟨m, fun _ => 0, ρ⟩ _) main_same.symm
      (frame_gen (F := Bits) m ρ (ok_all m) (exT_lt m)))

end Cert.Proof

end
-- ==== Proof.lean ====
module

public import proofs.«01_k».proof.Defs
public import proofs.«01_k».proof.Proof.Gen.MemAttn.Frame
public import proofs.«01_k».proof.Proof.Gen.Pre_finite_scores_bias_above_mask
public import proofs.«01_k».proof.Proof.Match
public import proofs.«01_k».proof.Proof.In
public import proofs.«01_k».proof.Proof.Out
public import proofs.«01_k».proof.Proof.Kv
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.KvProj.Frame
public import proofs.«01_k».proof.Proof.Gen.KvProjIdeal.Frame
public import proofs.«01_k».proof.Proof.Gen.KvProjIdeal.Value
public import proofs.«01_k».proof.Proof.Gen.KvProjRefIdeal.Run
public import proofs.«01_k».proof.Proof.Gen.KvProjRefIdeal.Read
public import proofs.«01_k».proof.Proof.Gen.Experts.Launch
public import proofs.«01_k».proof.Proof.Gen.Experts.Skeleton
public import proofs.«01_k».proof.Proof.Gen.ExpertsIdeal.Launch
public import proofs.«01_k».proof.Proof.Gen.ExpertsIdeal.Skeleton
public import proofs.«01_k».proof.Proof.Gen.ExpertsRefIdeal.Run
public import proofs.«01_k».proof.Proof.Gen.ExpertsRefIdeal.Read
public import proofs.«01_k».proof.Proof.Gen.Pre_counts_fill_rows
public import proofs.«01_k».proof.Proof.Exp.Decode
public import proofs.«01_k».proof.Proof.Exp.Same
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_mem_ref : Cert.quiescent_MemAttnRefIdeal := fun m ρ _ =>
  (θ_run Cert.MemAttnRefIdeal.defs _ _).mono (fun r h => ⟨fun c => (h c).2.2, sem_eq_zero_of_no_sems (by decide) r.2⟩)
    (Cert.MemAttnRefIdeal.Value.run (F := Ideal) m ρ)

theorem algebraic_mem : Cert.algebraic_MemAttnIdeal_MemAttnRefIdeal_pre_finite_scores_bias_above_mask := by
  intro m ρ m' ρ' hpre hagree
  have hg := fun c => MemAttnProof.good_of_pre _ _ _ _ _ _ _ _ (hpre c)
  refine ⟨fun c => MemAttnProof.G7 m c, fun c => MemAttnProof.G8 m c, ?_, ?_⟩
  · exact (θ_run Cert.MemAttnIdeal.defs _ _).mono
      (fun _ h c => ⟨(h c).1.trans (MemAttnProof.final7 m c), (h c).2.1.trans (MemAttnProof.final8 m c), (h c).2.2⟩)
      (Cert.MemAttnIdeal.Value.run_blocks (F := Ideal) m ρ)
  · refine (θ_run Cert.MemAttnRefIdeal.defs _ _).mono (fun _ h c => ⟨(h c).1.trans ?_, (h c).2.1.trans ?_, (h c).2.2⟩)
      (Cert.MemAttnRefIdeal.Value.run (F := Ideal) m' ρ')
    · refine (Cert.MemAttnRefIdeal.Read.val_main_v52_eq _).trans (Eq.trans ?_ (MemAttnProof.first_eq m c (hg c)))
      obtain ⟨e0, e1, e2, e3, e4, e5, -, -⟩ := hagree c
      exact congr (congr (congr (congr (congr (congrArg _ e0) e1) e2) e3) e4) e5
    · refine (Cert.MemAttnRefIdeal.Read.val_main_v84_eq _).trans (Eq.trans ?_ (MemAttnProof.second_eq m c (hg c)))
      obtain ⟨e0, e1, e2, e3, e4, e5, e6, e7⟩ := hagree c
      exact congr (congr (congr (congr (congr (congr (congr (congrArg _ e0) e1) e2) e3) e4) e5) e6) e7

theorem frame_in_ref : Cert.quiescent_InProjRefIdeal := fun m ρ _ =>
  (θ_run Cert.InProjRefIdeal.defs _ _).mono (fun r h => ⟨fun c => (h c).2.2.2, sem_eq_zero_of_no_sems (by decide) r.2⟩)
    (Cert.InProjRefIdeal.Value.run (F := Ideal) m ρ)

theorem frame_out_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem frame_kv_ref : Cert.quiescent_KvProjRefIdeal := fun m ρ _ =>
  (θ_run Cert.KvProjRefIdeal.defs _ _).mono (fun r h => ⟨fun c => (h c).2, sem_eq_zero_of_no_sems (by decide) r.2⟩)
    (Cert.KvProjRefIdeal.Value.run (F := Ideal) m ρ)

theorem algebraic_in : Cert.algebraic_InProjIdeal_InProjRefIdeal := by
  intro m ρ m' ρ' _ hagree
  refine ⟨fun c => InProof.G2 m c, fun c => InProof.G3 m c, fun c => InProof.G4 m c, ?_, ?_⟩
  · exact (θ_run Cert.InProjIdeal.defs _ _).mono
      (fun _ h c => ⟨(h c).1.trans (InProof.final2 m c), (h c).2.1.trans (InProof.final3 m c), (h c).2.2.1.trans (InProof.final4 m c), (h c).2.2.2⟩)
      (Cert.InProjIdeal.Value.run_blocks (F := Ideal) m ρ)
  · refine (θ_run Cert.InProjRefIdeal.defs _ _).mono
      (fun _ h c => ⟨(h c).1.trans ?_, (h c).2.1.trans ?_, (h c).2.2.1.trans ?_, (h c).2.2.2⟩)
      (Cert.InProjRefIdeal.Value.run (F := Ideal) m' ρ')
    · refine (Cert.InProjRefIdeal.Read.val_main_v7_eq _ _ _).trans (Eq.trans ?_ (InProof.att_eq _ _ _))
      obtain ⟨e0, e1, e2⟩ := hagree c
      exact congr (congr (congrArg _ e0) e1) e2
    · refine (Cert.InProjRefIdeal.Read.val_main_v8_eq _ _ _).trans (Eq.trans ?_ (InProof.rkv_eq _ _ _))
      obtain ⟨e0, e1, e2⟩ := hagree c
      exact congr (congr (congrArg _ e0) e1) e2
    · refine (Cert.InProjRefIdeal.Read.val_main_v9_eq _ _ _).trans (Eq.trans ?_ (InProof.lora_eq _ _ _))
      obtain ⟨e0, e1, e2⟩ := hagree c
      exact congr (congr (congrArg _ e0) e1) e2

theorem algebraic_out : Cert.algebraic_OutProjIdeal_OutProjRefIdeal := by
  intro m ρ m' ρ' _ hagree
  refine ⟨fun c => OutProof.G m c, ?_, ?_⟩
  · exact (θ_run Cert.OutProjIdeal.defs _ _).mono (fun _ h c => ⟨(h c).1.trans (OutProof.final m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    refine (Cert.OutProjRefIdeal.Read.val_main_v29_eq _ c).trans (Eq.trans ?_ (OutProof.ref_eq _ _ _ _ _ _))
    obtain ⟨e0, e1, e2, e3, e4, e5⟩ := hagree c
    exact congr (congr (congr (congr (congr (congrArg _ e0) e1) e2) e3) e4) e5

theorem algebraic_kv : Cert.algebraic_KvProjIdeal_KvProjRefIdeal := by
  intro m ρ m' ρ' _ hagree
  refine ⟨fun c => KvProof.G m c, ?_, ?_⟩
  · exact (θ_run Cert.KvProjIdeal.defs _ _).mono (fun _ h c => ⟨(h c).1.trans (KvProof.final m c), (h c).2⟩)
      (Cert.KvProjIdeal.Value.run_blocks (F := Ideal) m ρ)
  · refine (θ_run Cert.KvProjRefIdeal.defs _ _).mono (fun _ h c => ⟨(h c).1.trans ?_, (h c).2⟩)
      (Cert.KvProjRefIdeal.Value.run (F := Ideal) m' ρ')
    refine (Cert.KvProjRefIdeal.Read.val_main_v2_eq _ _).trans (Eq.trans ?_ (KvProof.ref_eq _ _))
    obtain ⟨e0, e1⟩ := hagree c
    exact congr (congrArg _ e0) e1

theorem claim : Cert.Claim := ⟨Cert.MemAttn.Gen.facts, Cert.MemAttnIdeal.Gen.facts, Cert.MemAttnRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.KvProj.Gen.facts, Cert.KvProjIdeal.Gen.facts, Cert.KvProjRefIdeal.Gen.facts,
  Cert.Experts.Gen.facts, Cert.ExpertsIdeal.Gen.facts, Cert.ExpertsRefIdeal.Gen.facts,
  Cert.Pre_finite_scores_bias_above_mask.Gen.facts, Cert.Pre_counts_fill_rows.Gen.facts,
  fun m ρ _ => Cert.MemAttn.Gen.frame m ρ, fun m ρ _ => Cert.MemAttnIdeal.Gen.frame m ρ, fun m ρ _ => Cert.MemAttnIdeal.Gen.frame m ρ,
  frame_mem_ref, fun m ρ _ => frame_mem_ref m ρ trivial,
  fun m ρ _ => Cert.InProj.Gen.frame m ρ, fun m ρ _ => Cert.InProjIdeal.Gen.frame m ρ, frame_in_ref,
  fun m ρ _ => Cert.OutProj.Gen.frame m ρ, fun m ρ _ => Cert.OutProjIdeal.Gen.frame m ρ, frame_out_ref,
  fun m ρ _ => Cert.KvProj.Gen.frame m ρ, fun m ρ _ => Cert.KvProjIdeal.Gen.frame m ρ, frame_kv_ref,
  frame_exp, frame_exp_ideal, fun m ρ _ => frame_exp_ideal m ρ trivial, frame_exp_ref, fun m ρ _ => frame_exp_ref m ρ trivial,
  trivial, algebraic_mem, trivial, algebraic_in, trivial, algebraic_out, trivial, algebraic_kv, trivial, algebraic_exp⟩

end Cert.Proof

end
